-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_v21) = v1 c
          ∧ r.2.mem ((c.tc : Thread Cert.Reference3Ideal.nD Cert.Reference3Ideal.τ).loc Cert.Reference3Ideal.main_v22) = v2 c
          ∧ r.2.mem ((c.tc : Thread Cert.Reference3Ideal.nD Cert.Reference3Ideal.τ).loc Cert.Reference3Ideal.main_v23) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v24) = v0 c
          ∧ r.2.mem ((c.tc : Thread Cert.Reference4Ideal.nD Cert.Reference4Ideal.τ).loc Cert.Reference4Ideal.main_v25) = v1 c
          ∧ r.2.mem ((c.tc : Thread Cert.Reference4Ideal.nD Cert.Reference4Ideal.τ).loc Cert.Reference4Ideal.main_v26) = v2 c
          ∧ r.2.mem ((c.tc : Thread Cert.Reference4Ideal.nD Cert.Reference4Ideal.τ).loc Cert.Reference4Ideal.main_v27) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v35) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v23_0)) (v1 : (c : Dev Cert.Kernel6Ideal.nD) → Buf (Elt Ideal) ((c.tc : Thread Cert.Kernel6Ideal.nD Cert.Kernel6Ideal.τ).loc Cert.Kernel6Ideal.main_v23_1)) (v2 : (c : Dev Cert.Kernel6Ideal.nD) → Buf (Elt Ideal) ((c.tc : Thread Cert.Kernel6Ideal.nD Cert.Kernel6Ideal.τ).loc Cert.Kernel6Ideal.main_v23_2)) (v3 : (c : Dev Cert.Kernel6Ideal.nD) → Buf (Elt Ideal) ((c.tc : Thread Cert.Kernel6Ideal.nD Cert.Kernel6Ideal.τ).loc Cert.Kernel6Ideal.main_v23_3)) (v4 : (c : Dev Cert.Kernel6Ideal.nD) → Buf (Elt Ideal) ((c.tc : Thread Cert.Kernel6Ideal.nD Cert.Kernel6Ideal.τ).loc Cert.Kernel6Ideal.main_v23_4)) (v5 : (c : Dev Cert.Kernel6Ideal.nD) → Buf (Elt Ideal) ((c.tc : Thread Cert.Kernel6Ideal.nD Cert.Kernel6Ideal.τ).loc Cert.Kernel6Ideal.main_v23_5)) (v6 : (c : Dev Cert.Kernel6Ideal.nD) → Buf (Elt Ideal) ((c.tc : Thread Cert.Kernel6Ideal.nD Cert.Kernel6Ideal.τ).loc Cert.Kernel6Ideal.main_v23_6)) (v7 : (c : Dev Cert.Kernel6Ideal.nD) → Buf (Elt Ideal) ((c.tc : Thread Cert.Kernel6Ideal.nD Cert.Kernel6Ideal.τ).loc Cert.Kernel6Ideal.main_v23_7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v23_0) = v0 c
          ∧ r.2.mem ((c.tc : Thread Cert.Kernel6Ideal.nD Cert.Kernel6Ideal.τ).loc Cert.Kernel6Ideal.main_v23_1) = v1 c
          ∧ r.2.mem ((c.tc : Thread Cert.Kernel6Ideal.nD Cert.Kernel6Ideal.τ).loc Cert.Kernel6Ideal.main_v23_2) = v2 c
          ∧ r.2.mem ((c.tc : Thread Cert.Kernel6Ideal.nD Cert.Kernel6Ideal.τ).loc Cert.Kernel6Ideal.main_v23_3) = v3 c
          ∧ r.2.mem ((c.tc : Thread Cert.Kernel6Ideal.nD Cert.Kernel6Ideal.τ).loc Cert.Kernel6Ideal.main_v23_4) = v4 c
          ∧ r.2.mem ((c.tc : Thread Cert.Kernel6Ideal.nD Cert.Kernel6Ideal.τ).loc Cert.Kernel6Ideal.main_v23_5) = v5 c
          ∧ r.2.mem ((c.tc : Thread Cert.Kernel6Ideal.nD Cert.Kernel6Ideal.τ).loc Cert.Kernel6Ideal.main_v23_6) = v6 c
          ∧ r.2.mem ((c.tc : Thread Cert.Kernel6Ideal.nD Cert.Kernel6Ideal.τ).loc Cert.Kernel6Ideal.main_v23_7) = v7 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v48) = v0 c
          ∧ r.2.mem ((c.tc : Thread Cert.Reference6Ideal.nD Cert.Reference6Ideal.τ).loc Cert.Reference6Ideal.main_v64) = v1 c
          ∧ r.2.mem ((c.tc : Thread Cert.Reference6Ideal.nD Cert.Reference6Ideal.τ).loc Cert.Reference6Ideal.main_v65) = v2 c
          ∧ r.2.mem ((c.tc : Thread Cert.Reference6Ideal.nD Cert.Reference6Ideal.τ).loc Cert.Reference6Ideal.main_v100) = v3 c
          ∧ r.2.mem ((c.tc : Thread Cert.Reference6Ideal.nD Cert.Reference6Ideal.τ).loc Cert.Reference6Ideal.main_v133) = v4 c
          ∧ r.2.mem ((c.tc : Thread Cert.Reference6Ideal.nD Cert.Reference6Ideal.τ).loc Cert.Reference6Ideal.main_v134) = v5 c
          ∧ r.2.mem ((c.tc : Thread Cert.Reference6Ideal.nD Cert.Reference6Ideal.τ).loc Cert.Reference6Ideal.main_v30) = v6 c
          ∧ r.2.mem ((c.tc : Thread Cert.Reference6Ideal.nD Cert.Reference6Ideal.τ).loc Cert.Reference6Ideal.main_v135) = v7 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S16384x1024 : Shape := ⟨2, ![16384, 1024]⟩
abbrev S16384x128 : Shape := ⟨2, ![16384, 128]⟩
abbrev S16384x16 : Shape := ⟨2, ![16384, 16]⟩
abbrev S_ : Shape := ⟨0, ![]⟩
abbrev S16384x2064 : Shape := ⟨2, ![16384, 2064]⟩

class Facts : Prop where
  bitsLt_bf16_f32 : FTy.bits .bf16 < FTy.bits .f32
  slices_S16384x128_S16384x16_0_0 : S16384x128.Slices ![0, 0] S16384x16
  bcast_S_S16384x1024 : S_.BroadcastsInDim S16384x1024 (![] : Fin 0 → Fin S16384x1024.rank)
  bcast_S_S16384x16 : S_.BroadcastsInDim S16384x16 (![] : Fin 0 → Fin S16384x16.rank)
  concatenates_S16384x1024_S16384x1024_S16384x16_S16384x2064_d1 : Shape.Concatenates [S16384x1024, S16384x1024, S16384x16] S16384x2064 1

variable [Facts]

def fn {F : FTy → Type} [FloatOps F] (main_arg0 : FVec F S16384x1024 .bf16) (main_arg1 : FVec F S16384x1024 .bf16) (main_arg2 : FVec F S16384x1024 .bf16) (main_arg3 : FVec F S16384x128 .f32) : IVec S16384x2064 1 :=
  let main_v0 : FVec F S16384x1024 .f32 := (extf .f32 · bitsLt_bf16_f32) main_arg0
  let main_v1 : FVec F S16384x1024 .f32 := (extf .f32 · bitsLt_bf16_f32) main_arg1
  let main_v2 : FVec F S16384x16 .f32 := (extractStridedSlice S16384x16 ![0, 0] · slices_S16384x128_S16384x16_0_0) main_arg3
  let main_v3 : FVec F S16384x1024 .f32 := Host.absf main_v0
  let main_cst : FVec F S_ .f32 := constant S_ .f32 0x7F800000#32
  let main_v4 : FVec F S16384x1024 .f32 := broadcastInDim S16384x1024 ![] bcast_S_S16384x1024 main_cst
  let main_v5 : IVec S16384x1024 1 := cmpf .olt main_v3 main_v4
  let main_v6 : FVec F S16384x1024 .f32 := Host.absf main_v1
  let main_cst_0 : FVec F S_ .f32 := constant S_ .f32 0x7F800000#32
  let main_v7 : FVec F S16384x1024 .f32 := broadcastInDim S16384x1024 ![] bcast_S_S16384x1024 main_cst_0
  let main_v8 : IVec S16384x1024 1 := cmpf .olt main_v6 main_v7
  let main_v9 : FVec F S16384x16 .f32 := Host.absf main_v2
  let main_cst_1 : FVec F S_ .f32 := constant S_ .f32 0x7F800000#32
  let main_v10 : FVec F S16384x16 .f32 := broadcastInDim S16384x16 ![] bcast_S_S16384x16 main_cst_1
  let main_v11 : IVec S16384x16 1 := cmpf .olt main_v9 main_v10
  let main_v12 : IVec S16384x2064 1 := concatenate S16384x2064 1 [⟨S16384x1024, main_v5⟩, ⟨S16384x1024, main_v8⟩, ⟨S16384x16, main_v11⟩] concatenates_S16384x1024_S16384x1024_S16384x16_S16384x2064_d1
  main_v12
-- ==== Kernel.lean ====
abbrev S16384x1024 : Shape := ⟨2, ![16384, 1024]⟩
abbrev S16384x128 : Shape := ⟨2, ![16384, 128]⟩
abbrev S128x2048 : Shape := ⟨2, ![128, 2048]⟩
abbrev S1x2048 : Shape := ⟨2, ![1, 2048]⟩
abbrev S_ : Shape := ⟨0, ![]⟩
abbrev S2048x128 : Shape := ⟨2, ![2048, 128]⟩
abbrev S2048x1024 : Shape := ⟨2, ![2048, 1024]⟩
abbrev S256x256 : Shape := ⟨2, ![256, 256]⟩
abbrev S1x128 : Shape := ⟨2, ![1, 128]⟩
abbrev S256x128 : Shape := ⟨2, ![256, 128]⟩
abbrev S256x2048 : Shape := ⟨2, ![256, 2048]⟩
abbrev S256x1024 : Shape := ⟨2, ![256, 1024]⟩
abbrev S2048x256 : Shape := ⟨2, ![2048, 256]⟩
abbrev S4x2048x128 : Shape := ⟨3, ![4, 2048, 128]⟩
abbrev S1x2048x128 : Shape := ⟨3, ![1, 2048, 128]⟩
abbrev S1x256x128 : Shape := ⟨3, ![1, 256, 128]⟩
abbrev S256x1792 : Shape := ⟨2, ![256, 1792]⟩
abbrev S256 : Shape := ⟨1, ![256]⟩
abbrev S256x1 : Shape := ⟨2, ![256, 1]⟩
abbrev S1x1792x128 : Shape := ⟨3, ![1, 1792, 128]⟩
abbrev S1792x128 : Shape := ⟨2, ![1792, 128]⟩
abbrev S256x1536 : Shape := ⟨2, ![256, 1536]⟩
abbrev S1x1536x128 : Shape := ⟨3, ![1, 1536, 128]⟩
abbrev S1536x128 : Shape := ⟨2, ![1536, 128]⟩
abbrev S256x1280 : Shape := ⟨2, ![256, 1280]⟩
abbrev S1x1280x128 : Shape := ⟨3, ![1, 1280, 128]⟩
abbrev S1280x128 : Shape := ⟨2, ![1280, 128]⟩
abbrev S1x1024x128 : Shape := ⟨3, ![1, 1024, 128]⟩
abbrev S1024x128 : Shape := ⟨2, ![1024, 128]⟩
abbrev S256x768 : Shape := ⟨2, ![256, 768]⟩
abbrev S1x768x128 : Shape := ⟨3, ![1, 768, 128]⟩
abbrev S768x128 : Shape := ⟨2, ![768, 128]⟩
abbrev S256x512 : Shape := ⟨2, ![256, 512]⟩
abbrev S1x512x128 : Shape := ⟨3, ![1, 512, 128]⟩
abbrev S512x128 : Shape := ⟨2, ![512, 128]⟩

abbrev nBuf : Space → Nat
  | .hbm => 57
  | .vmem => 21
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x128, .f32⟩
  | .hbm, ⟨4, _⟩ => ⟨S128x2048, .i32⟩
  | .hbm, ⟨5, _⟩ => ⟨S1x2048, .i32⟩
  | .hbm, ⟨6, _⟩ => ⟨S_, .i32⟩
  | .hbm, ⟨7, _⟩ => ⟨S1x2048, .i32⟩
  | .hbm, ⟨8, _⟩ => ⟨S1x2048, .i32⟩
  | .hbm, ⟨9, _⟩ => ⟨S_, .i32⟩
  | .hbm, ⟨10, _⟩ => ⟨S1x2048, .i32⟩
  | .hbm, ⟨11, _⟩ => ⟨S1x2048, .i32⟩
  | .hbm, ⟨12, _⟩ => ⟨S_, .i32⟩
  | .hbm, ⟨13, _⟩ => ⟨S1x2048, .i32⟩
  | .hbm, ⟨14, _⟩ => ⟨S1x2048, .i32⟩
  | .hbm, ⟨15, _⟩ => ⟨S_, .i32⟩
  | .hbm, ⟨16, _⟩ => ⟨S1x2048, .i32⟩
  | .hbm, ⟨17, _⟩ => ⟨S1x2048, .i32⟩
  | .hbm, ⟨18, _⟩ => ⟨S_, .i32⟩
  | .hbm, ⟨19, _⟩ => ⟨S1x2048, .i32⟩
  | .hbm, ⟨20, _⟩ => ⟨S1x2048, .i1⟩
  | .hbm, ⟨21, _⟩ => ⟨S_, .i32⟩
  | .hbm, ⟨22, _⟩ => ⟨S1x2048, .i32⟩
  | .hbm, ⟨23, _⟩ => ⟨S1x2048, .i1⟩
  | .hbm, ⟨24, _⟩ => ⟨S1x2048, .i1⟩
  | .hbm, ⟨25, _⟩ => ⟨S_, .i32⟩
  | .hbm, ⟨26, _⟩ => ⟨S1x2048, .i32⟩
  | .hbm, ⟨27, _⟩ => ⟨S1x2048, .i32⟩
  | .hbm, ⟨28, _⟩ => ⟨S1x2048, .i32⟩
  | .hbm, ⟨29, _⟩ => ⟨S1x2048, .i32⟩
  | .hbm, ⟨30, _⟩ => ⟨S_, .i32⟩
  | .hbm, ⟨31, _⟩ => ⟨S_, .i32⟩
  | .hbm, ⟨32, _⟩ => ⟨S1x2048, .i32⟩
  | .hbm, ⟨33, _⟩ => ⟨S1x2048, .i32⟩
  | .hbm, ⟨34, _⟩ => ⟨S_, .i32⟩
  | .hbm, ⟨35, _⟩ => ⟨S1x2048, .i32⟩
  | .hbm, ⟨36, _⟩ => ⟨S1x2048, .i1⟩
  | .hbm, ⟨37, _⟩ => ⟨S_, .i32⟩
  | .hbm, ⟨38, _⟩ => ⟨S_, .i32⟩
  | .hbm, ⟨39, _⟩ => ⟨S1x2048, .i32⟩
  | .hbm, ⟨40, _⟩ => ⟨S1x2048, .i32⟩
  | .hbm, ⟨41, _⟩ => ⟨S1x2048, .i1⟩
  | .hbm, ⟨42, _⟩ => ⟨S_, .f32⟩
  | .hbm, ⟨43, _⟩ => ⟨S_, .f32⟩
  | .hbm, ⟨44, _⟩ => ⟨S1x2048, .f32⟩
  | .hbm, ⟨45, _⟩ => ⟨S1x2048, .f32⟩
  | .hbm, ⟨46, _⟩ => ⟨S1x2048, .f32⟩
  | .hbm, ⟨47, _⟩ => ⟨S128x2048, .i32⟩
  | .hbm, ⟨48, _⟩ => ⟨S128x2048, .i1⟩
  | .hbm, ⟨49, _⟩ => ⟨S_, .f32⟩
  | .hbm, ⟨50, _⟩ => ⟨S128x2048, .f32⟩
  | .hbm, ⟨51, _⟩ => ⟨S128x2048, .f32⟩
  | .hbm, ⟨52, _⟩ => ⟨S128x2048, .f32⟩
  | .hbm, ⟨53, _⟩ => ⟨S128x2048, .bf16⟩
  | .hbm, ⟨54, _⟩ => ⟨S16384x1024, .bf16⟩
  | .hbm, ⟨55, _⟩ => ⟨S16384x1024, .bf16⟩
  | .hbm, ⟨56, _⟩ => ⟨S16384x1024, .bf16⟩
  | .local _ .vmem, ⟨0, _⟩ => ⟨S2048x128, .f32⟩
  | .local _ .vmem, ⟨1, _⟩ => ⟨S2048x128, .f32⟩
  | .local _ .vmem, ⟨2, _⟩ => ⟨S128x2048, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S4x2048x128, .bf16⟩
  | .local _ .vmem, ⟨20, _⟩ => ⟨S4x2048x128, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_c_3 : Ref sig .tc := ⟨.hbm, 18, rfl⟩
abbrev main_v10 : Ref sig .tc := ⟨.hbm, 19, rfl⟩
abbrev main_v11 : Ref sig .tc := ⟨.hbm, 20, rfl⟩
abbrev main_c_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_6 : Ref sig .tc := ⟨.hbm, 30, rfl⟩
abbrev main_call1_v0 : Ref sig .tc := ⟨.hbm, 31, rfl⟩
abbrev main_call1_v1 : Ref sig .tc := ⟨.hbm, 32, rfl⟩
abbrev main_v19 : Ref sig .tc := ⟨.hbm, 33, rfl⟩
abbrev main_c_7 : Ref sig .tc := ⟨.hbm, 34, rfl⟩
abbrev main_v20 : Ref sig .tc := ⟨.hbm, 35, rfl⟩
abbrev main_v21 : Ref sig .tc := ⟨.hbm, 36, rfl⟩
abbrev main_c_8 : Ref sig .tc := ⟨.hbm, 37, rfl⟩
abbrev main_call2_v0 : Ref sig .tc := ⟨.hbm, 38, rfl⟩
abbrev main_call2_v1 : Ref sig .tc := ⟨.hbm, 39, rfl⟩
abbrev main_v22 : Ref sig .tc := ⟨.hbm, 40, rfl⟩
abbrev main_v23 : Ref sig .tc := ⟨.hbm, 41, rfl⟩
abbrev main_cst : Ref sig .tc := ⟨.hbm, 42, rfl⟩
abbrev main_cst_9 : Ref sig .tc := ⟨.hbm, 43, rfl⟩
abbrev main_call3_v0 : Ref sig .tc := ⟨.hbm, 44, rfl⟩
abbrev main_call3_v1 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_10 : Ref sig .tc := ⟨.hbm, 49, rfl⟩
abbrev main_call4_v0 : Ref sig .tc := ⟨.hbm, 50, rfl⟩
abbrev main_call4_v1 : Ref sig .tc := ⟨.hbm, 51, rfl⟩
abbrev main_v27 : Ref sig .tc := ⟨.hbm, 52, rfl⟩
abbrev main_v28 : Ref sig .tc := ⟨.hbm, 53, rfl⟩
abbrev main_v29_0 : Ref sig .tc := ⟨.hbm, 54, rfl⟩
abbrev main_v29_1 : Ref sig .tc := ⟨.hbm, 55, rfl⟩
abbrev main_v30 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc1_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2048x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2048x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S2048x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S16384x1024 : Shape := ⟨2, ![16384, 1024]⟩
abbrev S16384x128 : Shape := ⟨2, ![16384, 128]⟩
abbrev S8x2048x16x64 : Shape := ⟨4, ![8, 2048, 16, 64]⟩
abbrev S8x2048x128 : Shape := ⟨3, ![8, 2048, 128]⟩
abbrev S8x2048x16 : Shape := ⟨3, ![8, 2048, 16]⟩
abbrev S_ : Shape := ⟨0, ![]⟩
abbrev S8x16x2048 : Shape := ⟨3, ![8, 16, 2048]⟩
abbrev S8x16x2048x64 : Shape := ⟨4, ![8, 16, 2048, 64]⟩
abbrev S8x16x2048x2048 : Shape := ⟨4, ![8, 16, 2048, 2048]⟩
abbrev S8x16x2048x1 : Shape := ⟨4, ![8, 16, 2048, 1]⟩
abbrev S8x16x1x2048 : Shape := ⟨4, ![8, 16, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩

abbrev nBuf : Space → Nat
  | .hbm => 60
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x128, .f32⟩
  | .hbm, ⟨4, _⟩ => ⟨S16384x1024, .f32⟩
  | .hbm, ⟨5, _⟩ => ⟨S8x2048x16x64, .f32⟩
  | .hbm, ⟨6, _⟩ => ⟨S16384x1024, .f32⟩
  | .hbm, ⟨7, _⟩ => ⟨S8x2048x16x64, .f32⟩
  | .hbm, ⟨8, _⟩ => ⟨S16384x1024, .f32⟩
  | .hbm, ⟨9, _⟩ => ⟨S8x2048x16x64, .f32⟩
  | .hbm, ⟨10, _⟩ => ⟨S8x2048x128, .f32⟩
  | .hbm, ⟨11, _⟩ => ⟨S8x2048x16, .f32⟩
  | .hbm, ⟨12, _⟩ => ⟨S_, .f32⟩
  | .hbm, ⟨13, _⟩ => ⟨S_, .f32⟩
  | .hbm, ⟨14, _⟩ => ⟨S8x2048x16, .f32⟩
  | .hbm, ⟨15, _⟩ => ⟨S8x16x2048, .f32⟩
  | .hbm, ⟨16, _⟩ => ⟨S8x16x2048x64, .f32⟩
  | .hbm, ⟨17, _⟩ => ⟨S8x16x2048x64, .f32⟩
  | .hbm, ⟨18, _⟩ => ⟨S8x16x2048x64, .f32⟩
  | .hbm, ⟨19, _⟩ => ⟨S8x16x2048x2048, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8x16x2048x2048, .f32⟩
  | .hbm, ⟨24, _⟩ => ⟨S8x16x2048x2048, .f32⟩
  | .hbm, ⟨25, _⟩ => ⟨S8x16x2048x1, .f32⟩
  | .hbm, ⟨26, _⟩ => ⟨S8x16x2048x2048, .f32⟩
  | .hbm, ⟨27, _⟩ => ⟨S8x16x2048x2048, .f32⟩
  | .hbm, ⟨28, _⟩ => ⟨S8x16x1x2048, .f32⟩
  | .hbm, ⟨29, _⟩ => ⟨S8x16x2048x2048, .f32⟩
  | .hbm, ⟨30, _⟩ => ⟨S8x16x2048x2048, .f32⟩
  | .hbm, ⟨31, _⟩ => ⟨S2048, .i32⟩
  | .hbm, ⟨32, _⟩ => ⟨S2048x1, .i32⟩
  | .hbm, ⟨33, _⟩ => ⟨S1x2048, .i32⟩
  | .hbm, ⟨34, _⟩ => ⟨S2048x2048, .i32⟩
  | .hbm, ⟨35, _⟩ => ⟨S2048x2048, .i32⟩
  | .hbm, ⟨36, _⟩ => ⟨S2048x2048, .i1⟩
  | .hbm, ⟨37, _⟩ => ⟨S_, .f32⟩
  | .hbm, ⟨38, _⟩ => ⟨S_, .f32⟩
  | .hbm, ⟨39, _⟩ => ⟨S8x16x2048x2048, .i1⟩
  | .hbm, ⟨40, _⟩ => ⟨S8x16x2048x2048, .f32⟩
  | .hbm, ⟨41, _⟩ => ⟨S8x16x2048x2048, .f32⟩
  | .hbm, ⟨42, _⟩ => ⟨S_, .f32⟩
  | .hbm, ⟨43, _⟩ => ⟨S8x16x2048, .f32⟩
  | .hbm, ⟨44, _⟩ => ⟨S_, .f32⟩
  | .hbm, ⟨45, _⟩ => ⟨S8x16x2048, .f32⟩
  | .hbm, ⟨46, _⟩ => ⟨S8x16x2048, .f32⟩
  | .hbm, ⟨47, _⟩ => ⟨S8x16x2048x1, .f32⟩
  | .hbm, ⟨48, _⟩ => ⟨S8x16x2048x2048, .f32⟩
  | .hbm, ⟨49, _⟩ => ⟨S8x16x2048x2048, .f32⟩
  | .hbm, ⟨50, _⟩ => ⟨S8x16x2048x2048, .f32⟩
  | .hbm, ⟨51, _⟩ => ⟨S_, .f32⟩
  | .hbm, ⟨52, _⟩ => ⟨S8x16x2048, .f32⟩
  | .hbm, ⟨53, _⟩ => ⟨S8x16x2048x1, .f32⟩
  | .hbm, ⟨54, _⟩ => ⟨S8x16x2048x2048, .f32⟩
  | .hbm, ⟨55, _⟩ => ⟨S8x16x2048x2048, .f32⟩
  | .hbm, ⟨56, _⟩ => ⟨S8x16x2048x64, .f32⟩
  | .hbm, ⟨57, _⟩ => ⟨S8x2048x16x64, .f32⟩
  | .hbm, ⟨58, _⟩ => ⟨S16384x1024, .f32⟩
  | .hbm, ⟨59, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_call0_cst : Ref sig .tc := ⟨.hbm, 12, rfl⟩
abbrev main_call0_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v30 : Ref sig .tc := ⟨.hbm, 41, rfl⟩
abbrev main_cst_1 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_3 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Kernel2.lean ====
abbrev S16384x2048 : Shape := ⟨2, ![16384, 2048]⟩
abbrev S1x2048 : Shape := ⟨2, ![1, 2048]⟩
abbrev S2048x5632 : Shape := ⟨2, ![2048, 5632]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let v_true : BitVec 1 := 1#1
  let arg1 : BitVec 32 := BitVec.ofNat 32 (i 1).val
  let c0_i32 : BitVec 32 := 0#32
  let v0 : BitVec 1 := Scalar.cmpi .eq arg1 c0_i32
  let v1 : BitVec 1 := Scalar.andi v_true v0
  let v2 : BitVec 32 := Scalar.extui v1
  let c0_i32_0 : BitVec 32 := 0#32
  let v3 : BitVec 1 := Scalar.cmpi .ne v2 c0_i32_0
  v3

def k0_cond2 (i : grid0.Coords) : BitVec 1 :=
  let true_2 : BitVec 1 := 1#1
  let arg1 : BitVec 32 := BitVec.ofNat 32 (i 1).val
  let c0_i32_1 : BitVec 32 := 0#32
  let v4 : BitVec 1 := Scalar.cmpi .sgt arg1 c0_i32_1
  let v5 : BitVec 1 := Scalar.andi true_2 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S16384x2048 : Shape := ⟨2, ![16384, 2048]⟩
abbrev S1x2048 : Shape := ⟨2, ![1, 2048]⟩
abbrev S2048x5632 : Shape := ⟨2, ![2048, 5632]⟩
abbrev S5632x2048 : Shape := ⟨2, ![5632, 2048]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩

abbrev nBuf : Space → Nat
  | .hbm => 40
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S2048x5632, .f32⟩
  | .hbm, ⟨21, _⟩ => ⟨S2048x5632, .f32⟩
  | .hbm, ⟨22, _⟩ => ⟨S5632x2048, .f32⟩
  | .hbm, ⟨23, _⟩ => ⟨S16384x5632, .f32⟩
  | .hbm, ⟨24, _⟩ => ⟨S16384x5632, .f32⟩
  | .hbm, ⟨25, _⟩ => ⟨S16384x5632, .f32⟩
  | .hbm, ⟨26, _⟩ => ⟨S_, .f32⟩
  | .hbm, ⟨27, _⟩ => ⟨S16384x5632, .f32⟩
  | .hbm, ⟨28, _⟩ => ⟨S16384x5632, .f32⟩
  | .hbm, ⟨29, _⟩ => ⟨S_, .f32⟩
  | .hbm, ⟨30, _⟩ => ⟨S16384x5632, .f32⟩
  | .hbm, ⟨31, _⟩ => ⟨S16384x5632, .f32⟩
  | .hbm, ⟨32, _⟩ => ⟨S16384x5632, .f32⟩
  | .hbm, ⟨33, _⟩ => ⟨S16384x5632, .f32⟩
  | .hbm, ⟨34, _⟩ => ⟨S16384x5632, .f32⟩
  | .hbm, ⟨35, _⟩ => ⟨S16384x2048, .f32⟩
  | .hbm, ⟨36, _⟩ => ⟨S_, .f32⟩
  | .hbm, ⟨37, _⟩ => ⟨S16384x2048, .f32⟩
  | .hbm, ⟨38, _⟩ => ⟨S16384x2048, .f32⟩
  | .hbm, ⟨39, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩

abbrev nD : Nat := 1
abbrev τ : Topo := Topo.v7x

variable {F : FTy → Type} [FloatOps F]
-- ==== Kernel3.lean ====
abbrev S16384x2048 : Shape := ⟨2, ![16384, 2048]⟩
abbrev S1x2048 : Shape := ⟨2, ![1, 2048]⟩
abbrev S2048x5632 : Shape := ⟨2, ![2048, 5632]⟩
abbrev S5632x2048 : Shape := ⟨2, ![5632, 2048]⟩
abbrev S1024x2048 : Shape := ⟨2, ![1024, 2048]⟩
abbrev S2048x256 : Shape := ⟨2, ![2048, 256]⟩
abbrev S256x2048 : Shape := ⟨2, ![256, 2048]⟩
abbrev S1024 : Shape := ⟨1, ![1024]⟩
abbrev S1024x1 : Shape := ⟨2, ![1024, 1]⟩
abbrev S1024x256 : Shape := ⟨2, ![1024, 256]⟩

abbrev nBuf : Space → Nat
  | .hbm => 9
  | .vmem => 16
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S1024x2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .local _ .vmem, ⟨0, _⟩ => ⟨S1024x2048, .f32⟩
  | .local _ .vmem, ⟨1, _⟩ => ⟨S1x2048, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S256x2048, .f32⟩
  | .local _ .vmem, ⟨7, _⟩ => ⟨S256x2048, .f32⟩
  | .local _ .vmem, ⟨8, _⟩ => ⟨S1024x2048, .f32⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S256x2048, .bf16⟩
  | .local _ .vmem, ⟨14, _⟩ => ⟨S256x2048, .bf16⟩
  | .local _ .vmem, ⟨15, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![22], ![false]⟩

def k0_cond1 (i : grid0.Coords) : BitVec 1 :=
  let arg0 : BitVec 32 := BitVec.ofNat 32 (i 0).val
  let c0_i32 : BitVec 32 := 0#32
  let v9 : BitVec 1 := Scalar.cmpi .eq arg0 c0_i32
  let v10 : BitVec 32 := Scalar.extui v9
  let c0_i32_11 : BitVec 32 := 0#32
  let v11 : BitVec 1 := Scalar.cmpi .ne v10 c0_i32_11
  v11

def k0_cond2 (i : grid0.Coords) : BitVec 1 :=
  let arg0 : BitVec 32 := BitVec.ofNat 32 (i 0).val
  let c0_i32_12 : BitVec 32 := 0#32
  let v12 : BitVec 1 := Scalar.cmpi .sgt arg0 c0_i32_12
  let v13 : BitVec 32 := Scalar.extui v12
  let c0_i32_13 : BitVec 32 := 0#32
  let v14 : BitVec 1 := Scalar.cmpi .ne v13 c0_i32_13
  v14

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S16384x2048 : Shape := ⟨2, ![16384, 2048]⟩
abbrev S1x2048 : Shape := ⟨2, ![1, 2048]⟩
abbrev S2048x5632 : Shape := ⟨2, ![2048, 5632]⟩
abbrev S5632x2048 : Shape := ⟨2, ![5632, 2048]⟩
abbrev S1024x2048 : Shape := ⟨2, ![1024, 2048]⟩
abbrev S_ : Shape := ⟨0, ![]⟩
abbrev S1024 : Shape := ⟨1, ![1024]⟩
abbrev S1024x1 : Shape := ⟨2, ![1024, 1]⟩
abbrev S1024x5632 : Shape := ⟨2, ![1024, 5632]⟩

abbrev nBuf : Space → Nat
  | .hbm => 41
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S1024x2048, .f32⟩
  | .hbm, ⟨6, _⟩ => ⟨S1024x2048, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x1, .f32⟩
  | .hbm, ⟨17, _⟩ => ⟨S1024x2048, .f32⟩
  | .hbm, ⟨18, _⟩ => ⟨S1024x2048, .f32⟩
  | .hbm, ⟨19, _⟩ => ⟨S1024x2048, .f32⟩
  | .hbm, ⟨20, _⟩ => ⟨S1024x2048, .f32⟩
  | .hbm, ⟨21, _⟩ => ⟨S1024x5632, .f32⟩
  | .hbm, ⟨22, _⟩ => ⟨S1024x5632, .f32⟩
  | .hbm, ⟨23, _⟩ => ⟨S1024x5632, .f32⟩
  | .hbm, ⟨24, _⟩ => ⟨S_, .f32⟩
  | .hbm, ⟨25, _⟩ => ⟨S1024x5632, .f32⟩
  | .hbm, ⟨26, _⟩ => ⟨S1024x5632, .f32⟩
  | .hbm, ⟨27, _⟩ => ⟨S_, .f32⟩
  | .hbm, ⟨28, _⟩ => ⟨S1024x5632, .f32⟩
  | .hbm, ⟨29, _⟩ => ⟨S1024x5632, .f32⟩
  | .hbm, ⟨30, _⟩ => ⟨S1024x5632, .f32⟩
  | .hbm, ⟨31, _⟩ => ⟨S1024x5632, .f32⟩
  | .hbm, ⟨32, _⟩ => ⟨S1024x5632, .f32⟩
  | .hbm, ⟨33, _⟩ => ⟨S1024x2048, .f32⟩
  | .hbm, ⟨34, _⟩ => ⟨S_, .f32⟩
  | .hbm, ⟨35, _⟩ => ⟨S1024x2048, .f32⟩
  | .hbm, ⟨36, _⟩ => ⟨S1024x2048, .f32⟩
  | .hbm, ⟨37, _⟩ => ⟨S1024x2048, .f32⟩
  | .hbm, ⟨38, _⟩ => ⟨S2048x5632, .bf16⟩
  | .hbm, ⟨39, _⟩ => ⟨S2048x5632, .bf16⟩
  | .hbm, ⟨40, _⟩ => ⟨S5632x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== Kernel4.lean ====
abbrev S16384x2048 : Shape := ⟨2, ![16384, 2048]⟩
abbrev S1x2048 : Shape := ⟨2, ![1, 2048]⟩
abbrev S2048x5632 : Shape := ⟨2, ![2048, 5632]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S128x2048 : Shape := ⟨2, ![128, 2048]⟩
abbrev S128x512 : Shape := ⟨2, ![128, 512]⟩
abbrev S512x128 : Shape := ⟨2, ![512, 128]⟩
abbrev S1024 : Shape := ⟨1, ![1024]⟩
abbrev S1024x1 : Shape := ⟨2, ![1024, 1]⟩
abbrev S1024x512 : Shape := ⟨2, ![1024, 512]⟩

abbrev nBuf : Space → Nat
  | .hbm => 13
  | .vmem => 26
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S1024x2048, .f32⟩
  | .hbm, ⟨9, _⟩ => ⟨S16384x2048, .f32⟩
  | .hbm, ⟨10, _⟩ => ⟨S2048x5632, .bf16⟩
  | .hbm, ⟨11, _⟩ => ⟨S2048x5632, .bf16⟩
  | .hbm, ⟨12, _⟩ => ⟨S5632x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S128x2048, .f32⟩
  | .local _ .vmem, ⟨10, _⟩ => ⟨S128x2048, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S512x128, .f32⟩
  | .local _ .vmem, ⟨16, _⟩ => ⟨S512x128, .f32⟩
  | .local _ .vmem, ⟨17, _⟩ => ⟨S1024x2048, .f32⟩
  | .local _ .vmem, ⟨18, _⟩ => ⟨S1024x2048, .f32⟩
  | .local _ .vmem, ⟨19, _⟩ => ⟨S128x512, .bf16⟩
  | .local _ .vmem, ⟨20, _⟩ => ⟨S128x512, .bf16⟩
  | .local _ .vmem, ⟨21, _⟩ => ⟨S128x512, .bf16⟩
  | .local _ .vmem, ⟨22, _⟩ => ⟨S128x512, .bf16⟩
  | .local _ .vmem, ⟨23, _⟩ => ⟨S512x128, .bf16⟩
  | .local _ .vmem, ⟨24, _⟩ => ⟨S512x128, .bf16⟩
  | .local _ .vmem, ⟨25, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c8_i32 : BitVec 32 := 8#32
  let v12 : BitVec 1 := Scalar.cmpi .slt arg1 c8_i32
  let v13 : BitVec 32 := Scalar.extui v12
  let c0_i32_6 : BitVec 32 := 0#32
  let v14 : BitVec 1 := Scalar.cmpi .ne v13 c0_i32_6
  v14

def k0_mult1 (i : grid0.Coords) : BitVec 32 :=
  let arg1 : BitVec 32 := BitVec.ofNat 32 (i 1).val
  let c128_i32 : BitVec 32 := 128#32
  let v25 : BitVec 32 := Scalar.muli arg1 c128_i32
  v25
def k0_off1 (i : grid0.Coords) : Fin 2 → Nat :=
  let arg1 : BitVec 32 := BitVec.ofNat 32 (i 1).val
  let c128_i32 : BitVec 32 := 128#32
  let v25 : BitVec 32 := Scalar.muli arg1 c128_i32
  let v26 : BitVec 32 := v25
  let v27 : Index := Scalar.indexCast v26
  let c0_20 : Index := 0#32
  ![v27.toNat, 0]
def k0_cond3 (i : grid0.Coords) : BitVec 1 :=
  let arg0 : BitVec 32 := BitVec.ofNat 32 (i 0).val
  let c0_i32_1 : BitVec 32 := 0#32
  let v3 : BitVec 1 := Scalar.cmpi .sgt arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k0_cond4 (i : grid0.Coords) : BitVec 1 :=
  let arg0 : BitVec 32 := BitVec.ofNat 32 (i 0).val
  let c0_i32_1 : BitVec 32 := 0#32
  let v3 : BitVec 1 := Scalar.cmpi .sgt arg0 c0_i32_1
  let arg1 : BitVec 32 := BitVec.ofNat 32 (i 1).val
  let c0_i32_4 : BitVec 32 := 0#32
  let v8 : BitVec 1 := Scalar.cmpi .sgt arg1 c0_i32_4
  let v9 : BitVec 1 := Scalar.andi v3 v8
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.maxsi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg0 c1_i32
  let v1 : BitVec 32 := Scalar.muli arg1 v0
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg0 c1_i32
  let v1 : BitVec 32 := Scalar.muli arg1 v0
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg0 c1_i32
  let v1 : BitVec 32 := Scalar.muli arg1 v0
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.minsi arg1 c7_i32
  let c7_i32_0 : BitVec 32 := 7#32
  let v2 : BitVec 32 := Scalar.select v0 v1 c7_i32_0
  let c0_i32_1 : BitVec 32 := 0#32
  let c0_i32_2 : BitVec 32 := 0#32
  ![v2.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference4Ideal.lean ====
abbrev S16384x2048 : Shape := ⟨2, ![16384, 2048]⟩
abbrev S1x2048 : Shape := ⟨2, ![1, 2048]⟩
abbrev S2048x5632 : Shape := ⟨2, ![2048, 5632]⟩
abbrev S5632x2048 : Shape := ⟨2, ![5632, 2048]⟩
abbrev S1024x2048 : Shape := ⟨2, ![1024, 2048]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S15360x2048 : Shape := ⟨2, ![15360, 2048]⟩

abbrev nBuf : Space → Nat
  | .hbm => 49
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S1024x2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S2048x5632, .f32⟩
  | .hbm, ⟨25, _⟩ => ⟨S2048x5632, .f32⟩
  | .hbm, ⟨26, _⟩ => ⟨S5632x2048, .f32⟩
  | .hbm, ⟨27, _⟩ => ⟨S16384x5632, .f32⟩
  | .hbm, ⟨28, _⟩ => ⟨S16384x5632, .f32⟩
  | .hbm, ⟨29, _⟩ => ⟨S16384x5632, .f32⟩
  | .hbm, ⟨30, _⟩ => ⟨S_, .f32⟩
  | .hbm, ⟨31, _⟩ => ⟨S16384x5632, .f32⟩
  | .hbm, ⟨32, _⟩ => ⟨S16384x5632, .f32⟩
  | .hbm, ⟨33, _⟩ => ⟨S_, .f32⟩
  | .hbm, ⟨34, _⟩ => ⟨S16384x5632, .f32⟩
  | .hbm, ⟨35, _⟩ => ⟨S16384x5632, .f32⟩
  | .hbm, ⟨36, _⟩ => ⟨S16384x5632, .f32⟩
  | .hbm, ⟨37, _⟩ => ⟨S16384x5632, .f32⟩
  | .hbm, ⟨38, _⟩ => ⟨S16384x5632, .f32⟩
  | .hbm, ⟨39, _⟩ => ⟨S16384x2048, .f32⟩
  | .hbm, ⟨40, _⟩ => ⟨S_, .f32⟩
  | .hbm, ⟨41, _⟩ => ⟨S16384x2048, .f32⟩
  | .hbm, ⟨42, _⟩ => ⟨S16384x2048, .f32⟩
  | .hbm, ⟨43, _⟩ => ⟨S16384x2048, .f32⟩
  | .hbm, ⟨44, _⟩ => ⟨S15360x2048, .f32⟩
  | .hbm, ⟨45, _⟩ => ⟨S16384x2048, .f32⟩
  | .hbm, ⟨46, _⟩ => ⟨S2048x5632, .bf16⟩
  | .hbm, ⟨47, _⟩ => ⟨S2048x5632, .bf16⟩
  | .hbm, ⟨48, _⟩ => ⟨S5632x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩

abbrev nD : Nat := 1
abbrev τ : Topo := Topo.v7x

variable {F : FTy → Type} [FloatOps F]
-- ==== Kernel5.lean ====
abbrev S16384x1024 : Shape := ⟨2, ![16384, 1024]⟩
abbrev S16384x2048 : Shape := ⟨2, ![16384, 2048]⟩
abbrev S1x1024 : Shape := ⟨2, ![1, 1024]⟩
abbrev S2048x2048 : Shape := ⟨2, ![2048, 2048]⟩
abbrev S512x1024 : Shape := ⟨2, ![512, 1024]⟩
abbrev S512x2048 : Shape := ⟨2, ![512, 2048]⟩
abbrev S1024x2048 : Shape := ⟨2, ![1024, 2048]⟩
abbrev S64x2048 : Shape := ⟨2, ![64, 2048]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩

abbrev nBuf : Space → Nat
  | .hbm => 7
  | .vmem => 13
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .f32⟩
  | .hbm, ⟨3, _⟩ => ⟨S1x1024, .f32⟩
  | .hbm, ⟨4, _⟩ => ⟨S1x1024, .f32⟩
  | .hbm, ⟨5, _⟩ => ⟨S2048x2048, .bf16⟩
  | .hbm, ⟨6, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S1x1024, .f32⟩
  | .local _ .vmem, ⟨7, _⟩ => ⟨S1x1024, .f32⟩
  | .local _ .vmem, ⟨8, _⟩ => ⟨S1024x2048, .bf16⟩
  | .local _ .vmem, ⟨9, _⟩ => ⟨S1024x2048, .bf16⟩
  | .local _ .vmem, ⟨10, _⟩ => ⟨S512x2048, .f32⟩
  | .local _ .vmem, ⟨11, _⟩ => ⟨S512x2048, .f32⟩
  | .local _ .vmem, ⟨12, _⟩ => ⟨S1024x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S16384x1024 : Shape := ⟨2, ![16384, 1024]⟩
abbrev S16384x2048 : Shape := ⟨2, ![16384, 2048]⟩
abbrev S1x1024 : Shape := ⟨2, ![1, 1024]⟩
abbrev S2048x2048 : Shape := ⟨2, ![2048, 2048]⟩
abbrev S1024x2048 : Shape := ⟨2, ![1024, 2048]⟩
abbrev S2x2x4x64x2048 : Shape := ⟨5, ![2, 2, 4, 64, 2048]⟩
abbrev S2x4x2x64x2048 : Shape := ⟨5, ![2, 4, 2, 64, 2048]⟩
abbrev S_ : Shape := ⟨0, ![]⟩
abbrev S16384 : Shape := ⟨1, ![16384]⟩
abbrev S16384x1 : Shape := ⟨2, ![16384, 1]⟩

abbrev nBuf : Space → Nat
  | .hbm => 48
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .f32⟩
  | .hbm, ⟨3, _⟩ => ⟨S1x1024, .f32⟩
  | .hbm, ⟨4, _⟩ => ⟨S1x1024, .f32⟩
  | .hbm, ⟨5, _⟩ => ⟨S2048x2048, .bf16⟩
  | .hbm, ⟨6, _⟩ => ⟨S2048x2048, .f32⟩
  | .hbm, ⟨7, _⟩ => ⟨S1024x2048, .f32⟩
  | .hbm, ⟨8, _⟩ => ⟨S2x2x4x64x2048, .f32⟩
  | .hbm, ⟨9, _⟩ => ⟨S2x4x2x64x2048, .f32⟩
  | .hbm, ⟨10, _⟩ => ⟨S1024x2048, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x2048, .f32⟩
  | .hbm, ⟨44, _⟩ => ⟨S1024x2048, .f32⟩
  | .hbm, ⟨45, _⟩ => ⟨S2048x2048, .f32⟩
  | .hbm, ⟨46, _⟩ => ⟨S16384x2048, .f32⟩
  | .hbm, ⟨47, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel6.lean ====
abbrev S16384x2048 : Shape := ⟨2, ![16384, 2048]⟩
abbrev S1x2048 : Shape := ⟨2, ![1, 2048]⟩
abbrev S2048x4736 : Shape := ⟨2, ![2048, 4736]⟩
abbrev S16384x1 : Shape := ⟨2, ![16384, 1]⟩
abbrev S32 : Shape := ⟨1, ![32]⟩
abbrev S64 : Shape := ⟨1, ![64]⟩
abbrev S16 : Shape := ⟨1, ![16]⟩
abbrev S2048x2048 : Shape := ⟨2, ![2048, 2048]⟩
abbrev S_ : Shape := ⟨0, ![]⟩
abbrev S112 : Shape := ⟨1, ![112]⟩
abbrev S128 : Shape := ⟨1, ![128]⟩
abbrev S1x128 : Shape := ⟨2, ![1, 128]⟩
abbrev S1x32 : Shape := ⟨2, ![1, 32]⟩
abbrev S4x32 : Shape := ⟨2, ![4, 32]⟩
abbrev S1x64 : Shape := ⟨2, ![1, 64]⟩
abbrev S16x64 : Shape := ⟨2, ![16, 64]⟩
abbrev S1024 : Shape := ⟨1, ![1024]⟩
abbrev S1x1024 : Shape := ⟨2, ![1, 1024]⟩
abbrev S4x64 : Shape := ⟨2, ![4, 64]⟩
abbrev S256 : Shape := ⟨1, ![256]⟩
abbrev S1x256 : Shape := ⟨2, ![1, 256]⟩
abbrev S16384x1024 : Shape := ⟨2, ![16384, 1024]⟩
abbrev S16384x256 : Shape := ⟨2, ![16384, 256]⟩
abbrev S16384x128 : Shape := ⟨2, ![16384, 128]⟩
abbrev S512x2048 : Shape := ⟨2, ![512, 2048]⟩
abbrev S512x1 : Shape := ⟨2, ![512, 1]⟩
abbrev S64x2048 : Shape := ⟨2, ![64, 2048]⟩
abbrev S512x1024 : Shape := ⟨2, ![512, 1024]⟩
abbrev S512x256 : Shape := ⟨2, ![512, 256]⟩
abbrev S512x128 : Shape := ⟨2, ![512, 128]⟩
abbrev S512 : Shape := ⟨1, ![512]⟩
abbrev S256x256 : Shape := ⟨2, ![256, 256]⟩
abbrev S2048x512 : Shape := ⟨2, ![2048, 512]⟩
abbrev S512x512 : Shape := ⟨2, ![512, 512]⟩
abbrev S1x512 : Shape := ⟨2, ![1, 512]⟩
abbrev S2048x256 : Shape := ⟨2, ![2048, 256]⟩
abbrev S2048x128 : Shape := ⟨2, ![2048, 128]⟩

abbrev nBuf : Space → Nat
  | .hbm => 43
  | .vmem => 30
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x4736, .bf16⟩
  | .hbm, ⟨3, _⟩ => ⟨S16384x1, .i32⟩
  | .hbm, ⟨4, _⟩ => ⟨S32, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S16, .f32⟩
  | .hbm, ⟨10, _⟩ => ⟨S2048x2048, .f32⟩
  | .hbm, ⟨11, _⟩ => ⟨S_, .f32⟩
  | .hbm, ⟨12, _⟩ => ⟨S112, .f32⟩
  | .hbm, ⟨13, _⟩ => ⟨S128, .f32⟩
  | .hbm, ⟨14, _⟩ => ⟨S1x128, .f32⟩
  | .hbm, ⟨15, _⟩ => ⟨S1x32, .f32⟩
  | .hbm, ⟨16, _⟩ => ⟨S4x32, .f32⟩
  | .hbm, ⟨17, _⟩ => ⟨S128, .f32⟩
  | .hbm, ⟨18, _⟩ => ⟨S1x128, .f32⟩
  | .hbm, ⟨19, _⟩ => ⟨S1x64, .f32⟩
  | .hbm, ⟨20, _⟩ => ⟨S16x64, .f32⟩
  | .hbm, ⟨21, _⟩ => ⟨S1024, .f32⟩
  | .hbm, ⟨22, _⟩ => ⟨S1x1024, .f32⟩
  | .hbm, ⟨23, _⟩ => ⟨S1x64, .f32⟩
  | .hbm, ⟨24, _⟩ => ⟨S16x64, .f32⟩
  | .hbm, ⟨25, _⟩ => ⟨S1024, .f32⟩
  | .hbm, ⟨26, _⟩ => ⟨S1x1024, .f32⟩
  | .hbm, ⟨27, _⟩ => ⟨S1x64, .f32⟩
  | .hbm, ⟨28, _⟩ => ⟨S16x64, .f32⟩
  | .hbm, ⟨29, _⟩ => ⟨S1024, .f32⟩
  | .hbm, ⟨30, _⟩ => ⟨S1x1024, .f32⟩
  | .hbm, ⟨31, _⟩ => ⟨S1x64, .f32⟩
  | .hbm, ⟨32, _⟩ => ⟨S4x64, .f32⟩
  | .hbm, ⟨33, _⟩ => ⟨S256, .f32⟩
  | .hbm, ⟨34, _⟩ => ⟨S1x256, .f32⟩
  | .hbm, ⟨35, _⟩ => ⟨S16384x1024, .bf16⟩
  | .hbm, ⟨36, _⟩ => ⟨S16384x1024, .bf16⟩
  | .hbm, ⟨37, _⟩ => ⟨S16384x1024, .bf16⟩
  | .hbm, ⟨38, _⟩ => ⟨S16384x1024, .bf16⟩
  | .hbm, ⟨39, _⟩ => ⟨S16384x256, .bf16⟩
  | .hbm, ⟨40, _⟩ => ⟨S16384x256, .bf16⟩
  | .hbm, ⟨41, _⟩ => ⟨S16384x128, .f32⟩
  | .hbm, ⟨42, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x4736, .bf16⟩
  | .local _ .vmem, ⟨4, _⟩ => ⟨S512x1, .i32⟩
  | .local _ .vmem, ⟨5, _⟩ => ⟨S512x1, .i32⟩
  | .local _ .vmem, ⟨6, _⟩ => ⟨S1x128, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x256, .f32⟩
  | .local _ .vmem, ⟨11, _⟩ => ⟨S1x128, .f32⟩
  | .local _ .vmem, ⟨12, _⟩ => ⟨S64x2048, .f32⟩
  | .local _ .vmem, ⟨13, _⟩ => ⟨S64x2048, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x256, .bf16⟩
  | .local _ .vmem, ⟨23, _⟩ => ⟨S512x256, .bf16⟩
  | .local _ .vmem, ⟨24, _⟩ => ⟨S512x256, .bf16⟩
  | .local _ .vmem, ⟨25, _⟩ => ⟨S512x256, .bf16⟩
  | .local _ .vmem, ⟨26, _⟩ => ⟨S512x128, .f32⟩
  | .local _ .vmem, ⟨27, _⟩ => ⟨S512x128, .f32⟩
  | .local _ .vmem, ⟨28, _⟩ => ⟨S64x2048, .bf16⟩
  | .local _ .vmem, ⟨29, _⟩ => ⟨S64x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23_0 : Ref sig .tc := ⟨.hbm, 35, rfl⟩
abbrev main_v23_1 : Ref sig .tc := ⟨.hbm, 36, rfl⟩
abbrev main_v23_2 : Ref sig .tc := ⟨.hbm, 37, rfl⟩
abbrev main_v23_3 : Ref sig .tc := ⟨.hbm, 38, rfl⟩
abbrev main_v23_4 : Ref sig .tc := ⟨.hbm, 39, rfl⟩
abbrev main_v23_5 : Ref sig .tc := ⟨.hbm, 40, rfl⟩
abbrev main_v23_6 : Ref sig .tc := ⟨.hbm, 41, rfl⟩
abbrev main_v23_7 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4736 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S64x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference6Ideal.lean ====
abbrev S16384x2048 : Shape := ⟨2, ![16384, 2048]⟩
abbrev S1x2048 : Shape := ⟨2, ![1, 2048]⟩
abbrev S2048x4736 : Shape := ⟨2, ![2048, 4736]⟩
abbrev S16384x1 : Shape := ⟨2, ![16384, 1]⟩
abbrev S32 : Shape := ⟨1, ![32]⟩
abbrev S64 : Shape := ⟨1, ![64]⟩
abbrev S16 : Shape := ⟨1, ![16]⟩
abbrev S2048x2048 : Shape := ⟨2, ![2048, 2048]⟩
abbrev S_ : Shape := ⟨0, ![]⟩
abbrev S16384 : Shape := ⟨1, ![16384]⟩
abbrev S16384x4736 : Shape := ⟨2, ![16384, 4736]⟩
abbrev S16384x1024 : Shape := ⟨2, ![16384, 1024]⟩
abbrev S16384x256 : Shape := ⟨2, ![16384, 256]⟩
abbrev S16384x128 : Shape := ⟨2, ![16384, 128]⟩
abbrev S1x32 : Shape := ⟨2, ![1, 32]⟩
abbrev S16384x32 : Shape := ⟨2, ![16384, 32]⟩
abbrev S128 : Shape := ⟨1, ![128]⟩
abbrev S1x128 : Shape := ⟨2, ![1, 128]⟩
abbrev S16384x16x64 : Shape := ⟨3, ![16384, 16, 64]⟩
abbrev S16384x16 : Shape := ⟨2, ![16384, 16]⟩
abbrev S16384x16x1 : Shape := ⟨3, ![16384, 16, 1]⟩
abbrev S1x1x64 : Shape := ⟨3, ![1, 1, 64]⟩
abbrev S16384x1x32 : Shape := ⟨3, ![16384, 1, 32]⟩
abbrev S16384x16x32 : Shape := ⟨3, ![16384, 16, 32]⟩
abbrev S16384x4x64 : Shape := ⟨3, ![16384, 4, 64]⟩
abbrev S16384x4 : Shape := ⟨2, ![16384, 4]⟩
abbrev S16384x4x1 : Shape := ⟨3, ![16384, 4, 1]⟩
abbrev S16384x4x32 : Shape := ⟨3, ![16384, 4, 32]⟩

abbrev nBuf : Space → Nat
  | .hbm => 181
  | .vmem => 0
  | .smem => 0
  | _ => 0

abbrev hbmTy0_0 (i : Nat) : BufTy := match i % 128 with
  | 0 => ⟨S16384x2048, .f32⟩
  | 1 => ⟨S1x2048, .f32⟩
  | 2 => ⟨S2048x4736, .bf16⟩
  | 3 => ⟨S16384x1, .i32⟩
  | 4 => ⟨S32, .f32⟩
  | 5 => ⟨S64, .f32⟩
  | 6 => ⟨S64, .f32⟩
  | 7 => ⟨S64, .f32⟩
  | 8 => ⟨S64, .f32⟩
  | 9 => ⟨S16, .f32⟩
  | 10 => ⟨S2048x2048, .f32⟩
  | 11 => ⟨S16384x2048, .f32⟩
  | 12 => ⟨S_, .f32⟩
  | 13 => ⟨S16384, .f32⟩
  | 14 => ⟨S16384x1, .f32⟩
  | 15 => ⟨S_, .f32⟩
  | 16 => ⟨S16384x1, .f32⟩
  | 17 => ⟨S16384x1, .f32⟩
  | 18 => ⟨S_, .f32⟩
  | 19 => ⟨S16384x1, .f32⟩
  | 20 => ⟨S16384x1, .f32⟩
  | 21 => ⟨S16384x1, .f32⟩
  | 22 => ⟨S16384x2048, .f32⟩
  | 23 => ⟨S16384x2048, .f32⟩
  | 24 => ⟨S16384x2048, .f32⟩
  | 25 => ⟨S16384x2048, .f32⟩
  | 26 => ⟨S2048x4736, .f32⟩
  | 27 => ⟨S16384x4736, .f32⟩
  | 28 => ⟨S16384x1024, .f32⟩
  | 29 => ⟨S16384x1024, .f32⟩
  | 30 => ⟨S16384x1024, .f32⟩
  | 31 => ⟨S16384x1024, .f32⟩
  | 32 => ⟨S16384x256, .f32⟩
  | 33 => ⟨S16384x256, .f32⟩
  | 34 => ⟨S16384x128, .f32⟩
  | 35 => ⟨S16384x1, .f32⟩
  | 36 => ⟨S1x32, .f32⟩
  | 37 => ⟨S16384x32, .f32⟩
  | 38 => ⟨S16384x32, .f32⟩
  | 39 => ⟨S16384x32, .f32⟩
  | 40 => ⟨S_, .i32⟩
  | 41 => ⟨S_, .f32⟩
  | 42 => ⟨S128, .f32⟩
  | 43 => ⟨S1x128, .f32⟩
  | 44 => ⟨S16384x128, .f32⟩
  | 45 => ⟨S16384x128, .f32⟩
  | 46 => ⟨S16384x128, .f32⟩
  | 47 => ⟨S_, .f32⟩
  | 48 => ⟨S16384x128, .f32⟩
  | 49 => ⟨S16384x128, .f32⟩
  | 50 => ⟨S16384x128, .f32⟩
  | 51 => ⟨S16384x128, .f32⟩
  | 52 => ⟨S16384x128, .i1⟩
  | 53 => ⟨S16384x128, .f32⟩
  | 54 => ⟨S16384x128, .f32⟩
  | 55 => ⟨S16384x128, .f32⟩
  | 56 => ⟨S16384x128, .f32⟩
  | 57 => ⟨S16384x128, .f32⟩
  | 58 => ⟨S16384x128, .f32⟩
  | 59 => ⟨S16384x128, .f32⟩
  | 60 => ⟨S16384x128, .f32⟩
  | 61 => ⟨S16384x128, .f32⟩
  | 62 => ⟨S16384x16x64, .f32⟩
  | 63 => ⟨S16384x16x64, .f32⟩
  | 64 => ⟨S_, .f32⟩
  | 65 => ⟨S16384x16, .f32⟩
  | 66 => ⟨S16384x16x1, .f32⟩
  | 67 => ⟨S_, .f32⟩
  | 68 => ⟨S16384x16x1, .f32⟩
  | 69 => ⟨S16384x16x1, .f32⟩
  | 70 => ⟨S_, .f32⟩
  | 71 => ⟨S16384x16x1, .f32⟩
  | 72 => ⟨S16384x16x1, .f32⟩
  | 73 => ⟨S16384x16x1, .f32⟩
  | 74 => ⟨S16384x16x64, .f32⟩
  | 75 => ⟨S16384x16x64, .f32⟩
  | 76 => ⟨S1x1x64, .f32⟩
  | 77 => ⟨S16384x16x64, .f32⟩
  | 78 => ⟨S16384x16x64, .f32⟩
  | 79 => ⟨S_, .f32⟩
  | 80 => ⟨S16384x16x64, .f32⟩
  | 81 => ⟨S16384x16x64, .f32⟩
  | 82 => ⟨S16384x1024, .f32⟩
  | 83 => ⟨S16384x1024, .bf16⟩
  | 84 => ⟨S16384x16x64, .f32⟩
  | 85 => ⟨S16384x16x64, .f32⟩
  | 86 => ⟨S_, .f32⟩
  | 87 => ⟨S16384x16, .f32⟩
  | 88 => ⟨S16384x16x1, .f32⟩
  | 89 => ⟨S_, .f32⟩
  | 90 => ⟨S16384x16x1, .f32⟩
  | 91 => ⟨S16384x16x1, .f32⟩
  | 92 => ⟨S_, .f32⟩
  | 93 => ⟨S16384x16x1, .f32⟩
  | 94 => ⟨S16384x16x1, .f32⟩
  | 95 => ⟨S16384x16x1, .f32⟩
  | 96 => ⟨S16384x16x64, .f32⟩
  | 97 => ⟨S16384x16x64, .f32⟩
  | 98 => ⟨S1x1x64, .f32⟩
  | 99 => ⟨S16384x16x64, .f32⟩
  | 100 => ⟨S16384x16x64, .f32⟩
  | 101 => ⟨S16384x1024, .f32⟩
  | 102 => ⟨S16384x1024, .bf16⟩
  | 103 => ⟨S16384x1024, .bf16⟩
  | 104 => ⟨S16384x16x64, .f32⟩
  | 105 => ⟨S16384x16x64, .f32⟩
  | 106 => ⟨S_, .f32⟩
  | 107 => ⟨S16384x16, .f32⟩
  | 108 => ⟨S16384x16x1, .f32⟩
  | 109 => ⟨S_, .f32⟩
  | 110 => ⟨S16384x16x1, .f32⟩
  | 111 => ⟨S16384x16x1, .f32⟩
  | 112 => ⟨S_, .f32⟩
  | 113 => ⟨S16384x16x1, .f32⟩
  | 114 => ⟨S16384x16x1, .f32⟩
  | 115 => ⟨S16384x16x1, .f32⟩
  | 116 => ⟨S16384x16x64, .f32⟩
  | 117 => ⟨S16384x16x64, .f32⟩
  | 118 => ⟨S1x1x64, .f32⟩
  | 119 => ⟨S16384x16x64, .f32⟩
  | 120 => ⟨S16384x16x64, .f32⟩
  | 121 => ⟨S16384x32, .f32⟩
  | 122 => ⟨S16384x1x32, .f32⟩
  | 123 => ⟨S16384x32, .f32⟩
  | 124 => ⟨S16384x1x32, .f32⟩
  | 125 => ⟨S16384x16x32, .f32⟩
  | 126 => ⟨S16384x16x32, .f32⟩
  | 127 => ⟨S16384x16x32, .f32⟩
  | _ => ⟨S16384x2048, .f32⟩

abbrev hbmTy0_1 (i : Nat) : BufTy := match i % 128 with
  | 0 => ⟨S16384x16x32, .f32⟩
  | 1 => ⟨S16384x16x32, .f32⟩
  | 2 => ⟨S16384x16x32, .f32⟩
  | 3 => ⟨S16384x16x32, .f32⟩
  | 4 => ⟨S16384x16x32, .f32⟩
  | 5 => ⟨S16384x16x32, .f32⟩
  | 6 => ⟨S16384x16x32, .f32⟩
  | 7 => ⟨S16384x16x32, .f32⟩
  | 8 => ⟨S16384x16x32, .f32⟩
  | 9 => ⟨S16384x16x64, .f32⟩
  | 10 => ⟨S_, .f32⟩
  | 11 => ⟨S16384x16x64, .f32⟩
  | 12 => ⟨S16384x16x64, .f32⟩
  | 13 => ⟨S16384x1024, .f32⟩
  | 14 => ⟨S16384x1024, .bf16⟩
  | 15 => ⟨S16384x4x64, .f32⟩
  | 16 => ⟨S16384x4x64, .f32⟩
  | 17 => ⟨S_, .f32⟩
  | 18 => ⟨S16384x4, .f32⟩
  | 19 => ⟨S16384x4x1, .f32⟩
  | 20 => ⟨S_, .f32⟩
  | 21 => ⟨S16384x4x1, .f32⟩
  | 22 => ⟨S16384x4x1, .f32⟩
  | 23 => ⟨S_, .f32⟩
  | 24 => ⟨S16384x4x1, .f32⟩
  | 25 => ⟨S16384x4x1, .f32⟩
  | 26 => ⟨S16384x4x1, .f32⟩
  | 27 => ⟨S16384x4x64, .f32⟩
  | 28 => ⟨S16384x4x64, .f32⟩
  | 29 => ⟨S1x1x64, .f32⟩
  | 30 => ⟨S16384x4x64, .f32⟩
  | 31 => ⟨S16384x4x64, .f32⟩
  | 32 => ⟨S16384x32, .f32⟩
  | 33 => ⟨S16384x1x32, .f32⟩
  | 34 => ⟨S16384x32, .f32⟩
  | 35 => ⟨S16384x1x32, .f32⟩
  | 36 => ⟨S16384x4x32, .f32⟩
  | 37 => ⟨S16384x4x32, .f32⟩
  | 38 => ⟨S16384x4x32, .f32⟩
  | 39 => ⟨S16384x4x32, .f32⟩
  | 40 => ⟨S16384x4x32, .f32⟩
  | 41 => ⟨S16384x4x32, .f32⟩
  | 42 => ⟨S16384x4x32, .f32⟩
  | 43 => ⟨S16384x4x32, .f32⟩
  | 44 => ⟨S16384x4x32, .f32⟩
  | 45 => ⟨S16384x4x32, .f32⟩
  | 46 => ⟨S16384x4x32, .f32⟩
  | 47 => ⟨S16384x4x32, .f32⟩
  | 48 => ⟨S16384x4x64, .f32⟩
  | 49 => ⟨S16384x256, .f32⟩
  | 50 => ⟨S16384x256, .bf16⟩
  | 51 => ⟨S16384x256, .bf16⟩
  | 52 => ⟨S2048x2048, .bf16⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c : Ref sig .tc := ⟨.hbm, 40, rfl⟩
abbrev main_call0_v0 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call1_v0 : Ref sig .tc := ⟨.hbm, 46, rfl⟩
abbrev main_call1_call0_cst : Ref sig .tc := ⟨.hbm, 47, rfl⟩
abbrev main_call1_call0_v0 : Ref sig .tc := ⟨.hbm, 48, rfl⟩
abbrev main_call1_call0_v1 : Ref sig .tc := ⟨.hbm, 49, rfl⟩
abbrev main_call1_call0_v2 : Ref sig .tc := ⟨.hbm, 50, rfl⟩
abbrev main_call1_call0_v3 : Ref sig .tc := ⟨.hbm, 51, rfl⟩
abbrev main_call1_call0_v4 : Ref sig .tc := ⟨.hbm, 52, rfl⟩
abbrev main_call1_call0_v5 : Ref sig .tc := ⟨.hbm, 53, rfl⟩
abbrev main_call1_call0_v6 : Ref sig .tc := ⟨.hbm, 54, rfl⟩
abbrev main_call1_call0_v7 : Ref sig .tc := ⟨.hbm, 55, rfl⟩
abbrev main_call1_call0_v8 : Ref sig .tc := ⟨.hbm, 56, rfl⟩
abbrev main_call1_call0_v9 : Ref sig .tc := ⟨.hbm, 57, rfl⟩
abbrev main_call1_call0_v10 : Ref sig .tc := ⟨.hbm, 58, rfl⟩
abbrev main_call1_call0_v11 : Ref sig .tc := ⟨.hbm, 59, rfl⟩
abbrev main_call1_v1 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_2 : Ref sig .tc := ⟨.hbm, 64, rfl⟩
abbrev main_v33 : Ref sig .tc := ⟨.hbm, 65, rfl⟩
abbrev main_v34 : Ref sig .tc := ⟨.hbm, 66, rfl⟩
abbrev main_cst_3 : Ref sig .tc := ⟨.hbm, 67, rfl⟩
abbrev main_v35 : Ref sig .tc := ⟨.hbm, 68, rfl⟩
abbrev main_v36 : Ref sig .tc := ⟨.hbm, 69, rfl⟩
abbrev main_cst_4 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_5 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_6 : Ref sig .tc := ⟨.hbm, 86, rfl⟩
abbrev main_v51 : Ref sig .tc := ⟨.hbm, 87, rfl⟩
abbrev main_v52 : Ref sig .tc := ⟨.hbm, 88, rfl⟩
abbrev main_cst_7 : Ref sig .tc := ⟨.hbm, 89, rfl⟩
abbrev main_v53 : Ref sig .tc := ⟨.hbm, 90, rfl⟩
abbrev main_v54 : Ref sig .tc := ⟨.hbm, 91, rfl⟩
abbrev main_cst_8 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_9 : Ref sig .tc := ⟨.hbm, 106, rfl⟩
abbrev main_v68 : Ref sig .tc := ⟨.hbm, 107, rfl⟩
abbrev main_v69 : Ref sig .tc := ⟨.hbm, 108, rfl⟩
abbrev main_cst_10 : Ref sig .tc := ⟨.hbm, 109, rfl⟩
abbrev main_v70 : Ref sig .tc := ⟨.hbm, 110, rfl⟩
abbrev main_v71 : Ref sig .tc := ⟨.hbm, 111, rfl⟩
abbrev main_cst_11 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_12 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_13 : Ref sig .tc := ⟨.hbm, 145, rfl⟩
abbrev main_v103 : Ref sig .tc := ⟨.hbm, 146, rfl⟩
abbrev main_v104 : Ref sig .tc := ⟨.hbm, 147, rfl⟩
abbrev main_cst_14 : Ref sig .tc := ⟨.hbm, 148, rfl⟩
abbrev main_v105 : Ref sig .tc := ⟨.hbm, 149, rfl⟩
abbrev main_v106 : Ref sig .tc := ⟨.hbm, 150, rfl⟩
abbrev main_cst_15 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩

abbrev nD : Nat := 1
abbrev τ : Topo := Topo.v7x

variable {F : FTy → Type} [FloatOps F]
-- ==== Proof.Frames.lean ====
/- The frames of the programs: each one runs, its arguments end unchanged, and every semaphore counter ends at zero. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

theorem frameR : Cert.quiescent_ReferenceIdeal := by
  intro m ρ _
  exact (θ_run Cert.ReferenceIdeal.defs _ _).mono (fun r h => ⟨fun c => (h c).2,
    sem_eq_zero_of_no_sems (sig := Cert.ReferenceIdeal.sig) (by decide) _⟩) (Cert.ReferenceIdeal.Value.run m ρ)

/-- The same under the precondition that the inputs are finite numbers. -/
theorem frameR_finite : Cert.quiescent_ReferenceIdeal_pre_finite := fun m ρ _ => frameR m ρ trivial

theorem frameR2 : Cert.quiescent_Reference2Ideal := by
  intro m ρ _
  exact (θ_run Cert.Reference2Ideal.defs _ _).mono (fun r h => ⟨fun c => (h c).2,
    sem_eq_zero_of_no_sems (sig := Cert.Reference2Ideal.sig) (by decide) _⟩) (Cert.Reference2Ideal.Value.run m ρ)

theorem frameR3 : Cert.quiescent_Reference3Ideal := by
  intro m ρ _
  exact (θ_run Cert.Reference3Ideal.defs _ _).mono (fun r h => ⟨fun c => (h c).2.2.2.2,
    sem_eq_zero_of_no_sems (sig := Cert.Reference3Ideal.sig) (by decide) _⟩) (Cert.Reference3Ideal.Value.run m ρ)

theorem frameR4 : Cert.quiescent_Reference4Ideal := by
  intro m ρ _
  exact (θ_run Cert.Reference4Ideal.defs _ _).mono (fun r h => ⟨fun c => (h c).2.2.2.2,
    sem_eq_zero_of_no_sems (sig := Cert.Reference4Ideal.sig) (by decide) _⟩) (Cert.Reference4Ideal.Value.run m ρ)

theorem frameR5 : Cert.quiescent_Reference5Ideal := by
  intro m ρ _
  exact (θ_run Cert.Reference5Ideal.defs _ _).mono (fun r h => ⟨fun c => (h c).2,
    sem_eq_zero_of_no_sems (sig := Cert.Reference5Ideal.sig) (by decide) _⟩) (Cert.Reference5Ideal.Value.run m ρ)

theorem frameR6 : Cert.quiescent_Reference6Ideal := by
  intro m ρ _
  exact (θ_run Cert.Reference6Ideal.defs _ _).mono (fun r h => ⟨fun c => (h c).2.2.2.2.2.2.2.2,
    sem_eq_zero_of_no_sems (sig := Cert.Reference6Ideal.sig) (by decide) _⟩) (Cert.Reference6Ideal.Value.run m ρ)

/-- The constant `log2 e` of the attention kernel is `1 / log 2`, and its word is that number rounded. -/
theorem preserves : Cert.preserves_Kernel_KernelIdeal :=
  IdealRules.named_const.statement Cert.KernelIdeal.κ "log2e" .f32 0x3FB8AA3B#32 (((Real.log 2)⁻¹ : ℝ) : EReal) rfl

end Cert.Proof

end
-- ==== Proof.Cast.Run.lean ====
/- The body of the first half step's main launch, run once per case on any staging memrefs: what each buffer holds at the
   end is named outright, the partly stored output block as what it held with the stored rows put in. -/
module

public import proofs.«01_k».proof.Proof.Gen.Kernel4Ideal.Frame
public import proofs.«01_k».proof.Proof.Gen.Kernel4Ideal.Skeleton
public import Idealize.ShloMosaic.Lib.VecWindow

@[expose] public section

set_option maxRecDepth 16384

noncomputable section

namespace Cert.Kernel4Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4Ideal.Gen

variable {F : FTy → Type} [FloatOps F]

local notation "𝕄" => MT nD τ sig Unit (Elt F) ℕ (UR sig nD τ) ℕ

/-- A load of a whole staging buffer that holds `x` reads `x`. -/
theorem load_whole {sp : Space} {sh : Shape} {e : EltTy} (M : Memref sig .tc sp sh e) (hM : M.IsWhole) (x : Vec F sh e)
    {off : Fin sh.rank → ℕ} (inb : ∀ a, off a + sh.size a ≤ sh.size a) :
    M.view.readAt (Elt F) (Rect.unit off sh.size inb).toLoadRect (hM.unread x) = x := by
  rw [View.readAt_full, hM.read_unread]

variable (c : Dev nD) (i : grid0.Coords) (arg2 : Memref sig .tc .vmem S1024x2048 .f32) (harg2 : arg2.IsWhole)
  (arg3 : Memref sig .tc .vmem S1x2048 .f32) (harg3 : arg3.IsWhole)
  (arg4 : Memref sig .tc .vmem S2048x512 .bf16) (harg4 : arg4.IsWhole)
  (arg5 : Memref sig .tc .vmem S2048x512 .bf16) (harg5 : arg5.IsWhole)
  (arg6 : Memref sig .tc .vmem S512x2048 .bf16) (harg6 : arg6.IsWhole)
  (arg7 : Memref sig .tc .vmem S128x2048 .f32) (harg7 : arg7.IsWhole)
  (arg8 : Memref sig .tc .vmem S128x512 .f32) (harg8 : arg8.IsWhole)
  (arg9 : Memref sig .tc .vmem S128x512 .f32) (harg9 : arg9.IsWhole)
  (arg10 : Memref sig .tc .vmem S512x128 .f32) (harg10 : arg10.IsWhole)
  (arg11 : Memref sig .tc .vmem S1024x2048 .f32) (harg11 : arg11.IsWhole)
  (arg12 : Memref sig .tc .vmem S128x512 .bf16) (harg12 : arg12.IsWhole)
  (arg13 : Memref sig .tc .vmem S128x512 .bf16) (harg13 : arg13.IsWhole)
  (arg14 : Memref sig .tc .vmem S512x128 .bf16) (harg14 : arg14.IsWhole)
  (arg15 : Memref sig .tc .vmem S1024x2048 .bf16) (harg15 : arg15.IsWhole)

set_option maxHeartbeats 1000000

/-- A point below 8: the staged block of the head goes into its rows of the output block; the side job casts. -/
theorem run_head  (h1 : k0_cond1 i = 1#1) (h2 : k0_cond2 i = 1#1) (h3 : ¬k0_cond3 i = 1#1) (h4 : ¬k0_cond4 i = 1#1)
    (x7 : Vec F S128x2048 .f32) (y : Vec F S1024x2048 .f32) (x8 : Vec F S128x512 .f32) (x9 : Vec F S128x512 .f32) (x10 : Vec F S512x128 .f32)
    (E : Set ℕ) (K : PUnit → sProp 𝕄) :
    iprop(owns (c : Thread nD τ) arg7 fullShare x7 ∗ owns (c : Thread nD τ) arg11 fullShare y ∗ owns (c : Thread nD τ) arg8 fullShare x8 ∗ owns (c : Thread nD τ) arg9 fullShare x9 ∗ owns (c : Thread nD τ) arg10 fullShare x10 ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg7 fullShare x7 ∗ owns (c : Thread nD τ) arg11 fullShare (VecWindow.put y (k0_off1 i) S128x2048.size x7) ∗ owns (c : Thread nD τ) arg8 fullShare x8 ∗ owns (c : Thread nD τ) arg9 fullShare x9 ∗ owns (c : Thread nD τ) arg10 fullShare x10 ∗ owns (c : Thread nD τ) arg12 fullShare (k0_pay1 x8) ∗ owns (c : Thread nD τ) arg13 fullShare (k0_pay2 x9) ∗ owns (c : Thread nD τ) arg14 fullShare (k0_pay3 x10)) -∗ K ⟨⟩))
      ⊢ wp frame (wpE (defs₀ (F := F)) Variants.none c none) E (cc0_ffn_cast i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_ffn_cast_eq_skeleton]; unfold cc0_ffn_cast_skel
  unfold owns
  iintro ⟨⟨%f7, %hf7, H7⟩, ⟨%f11, %hf11, H11⟩, ⟨%f8, %hf8, H8⟩, ⟨%f9, %hf9, H9⟩, ⟨%f10, %hf10, H10⟩, ⟨%d12, %f12, -, H12⟩, ⟨%d13, %f13, -, H13⟩, ⟨%d14, %f14, -, H14⟩, Hk⟩
  obtain rfl := harg7.eq_unread hf7; obtain rfl := harg11.eq_unread hf11; obtain rfl := harg8.eq_unread hf8; obtain rfl := harg9.eq_unread hf9; obtain rfl := harg10.eq_unread hf10
  sl_exec (disch := first | sl_exact h1 | sl_exact h2 | sl_exact h3 | sl_exact h4)
  sl_step
  iapply Hk
  isplitl [H7]
  · iexists _; isplitr; swap; · iexact H7
    ipureintro; exact harg7.read_unread _
  isplitl [H11]
  · iexists _; isplitr; swap; · iexact H11
    ipureintro; rw [View.read_writes_cons_put _ _ _ _ _ rfl]; rw [View.writes_nil, harg11.read_unread]; exact congrArg _ (load_whole _ _ _ _)
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H12]
  · iexists _; isplitr; swap; · iexact H12
    ipureintro; rw [View.read_writes_full]; exact congrArg (k0_pay1 (F := F)) (load_whole _ _ _ _)
  isplitl [H13]
  · iexists _; isplitr; swap; · iexact H13
    ipureintro; rw [View.read_writes_full]; exact congrArg (k0_pay2 (F := F)) (load_whole _ _ _ _)
  iexists _; isplitr; swap; · iexact H14
  ipureintro; rw [View.read_writes_full]; exact congrArg (k0_pay3 (F := F)) (load_whole _ _ _ _)

/-- A point from 8 to 10: the side job alone. -/
theorem run_idle  (h1 : k0_cond1 i = 1#1) (h2 : ¬k0_cond2 i = 1#1) (h3 : ¬k0_cond3 i = 1#1) (h4 : ¬k0_cond4 i = 1#1)
    (x8 : Vec F S128x512 .f32) (x9 : Vec F S128x512 .f32) (x10 : Vec F S512x128 .f32)
    (E : Set ℕ) (K : PUnit → sProp 𝕄) :
    iprop(owns (c : Thread nD τ) arg8 fullShare x8 ∗ owns (c : Thread nD τ) arg9 fullShare x9 ∗ owns (c : Thread nD τ) arg10 fullShare x10 ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg8 fullShare x8 ∗ owns (c : Thread nD τ) arg9 fullShare x9 ∗ owns (c : Thread nD τ) arg10 fullShare x10 ∗ owns (c : Thread nD τ) arg12 fullShare (k0_pay1 x8) ∗ owns (c : Thread nD τ) arg13 fullShare (k0_pay2 x9) ∗ owns (c : Thread nD τ) arg14 fullShare (k0_pay3 x10)) -∗ K ⟨⟩))
      ⊢ wp frame (wpE (defs₀ (F := F)) Variants.none c none) E (cc0_ffn_cast i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_ffn_cast_eq_skeleton]; unfold cc0_ffn_cast_skel
  unfold owns
  iintro ⟨⟨%f8, %hf8, H8⟩, ⟨%f9, %hf9, H9⟩, ⟨%f10, %hf10, H10⟩, ⟨%d12, %f12, -, H12⟩, ⟨%d13, %f13, -, H13⟩, ⟨%d14, %f14, -, H14⟩, Hk⟩
  obtain rfl := harg8.eq_unread hf8; obtain rfl := harg9.eq_unread hf9; obtain rfl := harg10.eq_unread hf10
  sl_exec (disch := first | sl_exact h1 | sl_exact h2 | sl_exact h3 | sl_exact h4)
  sl_step
  iapply Hk
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H12]
  · iexists _; isplitr; swap; · iexact H12
    ipureintro; rw [View.read_writes_full]; exact congrArg (k0_pay1 (F := F)) (load_whole _ _ _ _)
  isplitl [H13]
  · iexists _; isplitr; swap; · iexact H13
    ipureintro; rw [View.read_writes_full]; exact congrArg (k0_pay2 (F := F)) (load_whole _ _ _ _)
  iexists _; isplitr; swap; · iexact H14
  ipureintro; rw [View.read_writes_full]; exact congrArg (k0_pay3 (F := F)) (load_whole _ _ _ _)

/-- The first point of a later block row: the rows normalised into the scratch, the block added to its first tile, the side job. -/
theorem run_first  (h1 : ¬k0_cond1 i = 1#1) (h3 : k0_cond3 i = 1#1) (h4 : ¬k0_cond4 i = 1#1)
    (x2 : Vec F S1024x2048 .f32) (x3 : Vec F S1x2048 .f32) (x4 : Vec F S2048x512 .bf16) (x5 : Vec F S2048x512 .bf16) (x6 : Vec F S512x2048 .bf16) (x8 : Vec F S128x512 .f32) (x9 : Vec F S128x512 .f32) (x10 : Vec F S512x128 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg11 fullShare d) ∗ (∃ d, owns (c : Thread nD τ) arg15 fullShare d) ∗ owns (c : Thread nD τ) arg8 fullShare x8 ∗ owns (c : Thread nD τ) arg9 fullShare x9 ∗ owns (c : Thread nD τ) arg10 fullShare x10 ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg11 fullShare (k0_pay12 x4 x5 x6 x2 x3) ∗ owns (c : Thread nD τ) arg15 fullShare (k0_pay11 x2 x3) ∗ owns (c : Thread nD τ) arg8 fullShare x8 ∗ owns (c : Thread nD τ) arg9 fullShare x9 ∗ owns (c : Thread nD τ) arg10 fullShare x10 ∗ owns (c : Thread nD τ) arg12 fullShare (k0_pay1 x8) ∗ owns (c : Thread nD τ) arg13 fullShare (k0_pay2 x9) ∗ owns (c : Thread nD τ) arg14 fullShare (k0_pay3 x10)) -∗ K ⟨⟩))
      ⊢ wp frame (wpE (defs₀ (F := F)) Variants.none c none) E (cc0_ffn_cast i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_ffn_cast_eq_skeleton]; unfold cc0_ffn_cast_skel
  unfold owns
  iintro ⟨⟨%f2, %hf2, H2⟩, ⟨%f3, %hf3, H3⟩, ⟨%f4, %hf4, H4⟩, ⟨%f5, %hf5, H5⟩, ⟨%f6, %hf6, H6⟩, ⟨%d11, %f11, -, H11⟩, ⟨%d15, %f15, -, H15⟩, ⟨%f8, %hf8, H8⟩, ⟨%f9, %hf9, H9⟩, ⟨%f10, %hf10, H10⟩, ⟨%d12, %f12, -, H12⟩, ⟨%d13, %f13, -, H13⟩, ⟨%d14, %f14, -, H14⟩, Hk⟩
  obtain rfl := harg2.eq_unread hf2; obtain rfl := harg3.eq_unread hf3; obtain rfl := harg4.eq_unread hf4; obtain rfl := harg5.eq_unread hf5; obtain rfl := harg6.eq_unread hf6; obtain rfl := harg8.eq_unread hf8; obtain rfl := harg9.eq_unread hf9; obtain rfl := harg10.eq_unread hf10
  sl_exec (disch := first | sl_exact h1 | sl_exact h3 | sl_exact h4)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H11]
  · iexists _; isplitr; swap; · iexact H11
    ipureintro; rw [View.read_writes_full]; congr 1 <;> exact load_whole _ _ _ _
  isplitl [H15]
  · iexists _; isplitr; swap; · iexact H15
    ipureintro; rw [View.read_writes_full]; congr 1 <;> exact load_whole _ _ _ _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H12]
  · iexists _; isplitr; swap; · iexact H12
    ipureintro; rw [View.read_writes_full]; exact congrArg (k0_pay1 (F := F)) (load_whole _ _ _ _)
  isplitl [H13]
  · iexists _; isplitr; swap; · iexact H13
    ipureintro; rw [View.read_writes_full]; exact congrArg (k0_pay2 (F := F)) (load_whole _ _ _ _)
  iexists _; isplitr; swap; · iexact H14
  ipureintro; rw [View.read_writes_full]; exact congrArg (k0_pay3 (F := F)) (load_whole _ _ _ _)

/-- A later point of such a block row: one more tile added to the output block, the side job. -/
theorem run_next  (h1 : ¬k0_cond1 i = 1#1) (h3 : ¬k0_cond3 i = 1#1) (h4 : k0_cond4 i = 1#1)
    (x4 : Vec F S2048x512 .bf16) (x5 : Vec F S2048x512 .bf16) (x6 : Vec F S512x2048 .bf16) (y : Vec F S1024x2048 .f32) (s : Vec F S1024x2048 .bf16) (x8 : Vec F S128x512 .f32) (x9 : Vec F S128x512 .f32) (x10 : Vec F S512x128 .f32)
    (E : Set ℕ) (K : PUnit → sProp 𝕄) :
    iprop(owns (c : Thread nD τ) arg4 fullShare x4 ∗ owns (c : Thread nD τ) arg5 fullShare x5 ∗ owns (c : Thread nD τ) arg6 fullShare x6 ∗ owns (c : Thread nD τ) arg11 fullShare y ∗ owns (c : Thread nD τ) arg15 fullShare s ∗ owns (c : Thread nD τ) arg8 fullShare x8 ∗ owns (c : Thread nD τ) arg9 fullShare x9 ∗ owns (c : Thread nD τ) arg10 fullShare x10 ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg4 fullShare x4 ∗ owns (c : Thread nD τ) arg5 fullShare x5 ∗ owns (c : Thread nD τ) arg6 fullShare x6 ∗ owns (c : Thread nD τ) arg11 fullShare (k0_pay6 x4 x5 x6 y s) ∗ owns (c : Thread nD τ) arg15 fullShare s ∗ owns (c : Thread nD τ) arg8 fullShare x8 ∗ owns (c : Thread nD τ) arg9 fullShare x9 ∗ owns (c : Thread nD τ) arg10 fullShare x10 ∗ owns (c : Thread nD τ) arg12 fullShare (k0_pay1 x8) ∗ owns (c : Thread nD τ) arg13 fullShare (k0_pay2 x9) ∗ owns (c : Thread nD τ) arg14 fullShare (k0_pay3 x10)) -∗ K ⟨⟩))
      ⊢ wp frame (wpE (defs₀ (F := F)) Variants.none c none) E (cc0_ffn_cast i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_ffn_cast_eq_skeleton]; unfold cc0_ffn_cast_skel
  unfold owns
  iintro ⟨⟨%f4, %hf4, H4⟩, ⟨%f5, %hf5, H5⟩, ⟨%f6, %hf6, H6⟩, ⟨%f11, %hf11, H11⟩, ⟨%f15, %hf15, H15⟩, ⟨%f8, %hf8, H8⟩, ⟨%f9, %hf9, H9⟩, ⟨%f10, %hf10, H10⟩, ⟨%d12, %f12, -, H12⟩, ⟨%d13, %f13, -, H13⟩, ⟨%d14, %f14, -, H14⟩, Hk⟩
  obtain rfl := harg4.eq_unread hf4; obtain rfl := harg5.eq_unread hf5; obtain rfl := harg6.eq_unread hf6; obtain rfl := harg11.eq_unread hf11; obtain rfl := harg15.eq_unread hf15; obtain rfl := harg8.eq_unread hf8; obtain rfl := harg9.eq_unread hf9; obtain rfl := harg10.eq_unread hf10
  sl_exec (disch := first | sl_exact h1 | sl_exact h3 | sl_exact h4)
  sl_step
  iapply Hk
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H11]
  · iexists _; isplitr; swap; · iexact H11
    ipureintro; rw [View.read_writes_full]; congr 1 <;> exact load_whole _ _ _ _
  isplitl [H15]
  · iexists _; isplitr; swap; · iexact H15
    ipureintro; exact harg15.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H12]
  · iexists _; isplitr; swap; · iexact H12
    ipureintro; rw [View.read_writes_full]; exact congrArg (k0_pay1 (F := F)) (load_whole _ _ _ _)
  isplitl [H13]
  · iexists _; isplitr; swap; · iexact H13
    ipureintro; rw [View.read_writes_full]; exact congrArg (k0_pay2 (F := F)) (load_whole _ _ _ _)
  iexists _; isplitr; swap; · iexact H14
  ipureintro; rw [View.read_writes_full]; exact congrArg (k0_pay3 (F := F)) (load_whole _ _ _ _)

end Cert.Kernel4Ideal.Hand

end
-- ==== Proof.Cast.Data.lean ====
/- The proof data of the first half step's main launch. The output block of the first block row is filled a few rows at a
   point, over contents nothing states, so what the body leaves in it is given from what it found there; every other buffer
   has its contents named. The scratch carries the normalised rows of the current block row. -/
module

public import proofs.«01_k».proof.Proof.Cast.Run

@[expose] public section

set_option maxRecDepth 16384

noncomputable section

namespace Cert.Kernel4Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4Ideal.Gen Idealize.ShloMosaic.Pipeline

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which case a point is in -/

theorem cond1_iff : ∀ t : Fin cfg0.N, k0_cond1 (grid0.coords t) = 1#1 ↔ t.val < 11 :=
  (by decide +kernel : ∀ t : Fin grid0.N, k0_cond1 (grid0.coords t) = 1#1 ↔ t.val < 11)
theorem cond2_iff : ∀ t : Fin cfg0.N, k0_cond2 (grid0.coords t) = 1#1 ↔ t.val % 11 < 8 :=
  (by decide +kernel : ∀ t : Fin grid0.N, k0_cond2 (grid0.coords t) = 1#1 ↔ t.val % 11 < 8)
theorem cond3_iff : ∀ t : Fin cfg0.N, k0_cond3 (grid0.coords t) = 1#1 ↔ 11 ≤ t.val ∧ t.val % 11 = 0 :=
  (by decide +kernel : ∀ t : Fin grid0.N, k0_cond3 (grid0.coords t) = 1#1 ↔ 11 ≤ t.val ∧ t.val % 11 = 0)
theorem cond4_iff : ∀ t : Fin cfg0.N, k0_cond4 (grid0.coords t) = 1#1 ↔ 11 ≤ t.val ∧ t.val % 11 ≠ 0 :=
  (by decide +kernel : ∀ t : Fin grid0.N, k0_cond4 (grid0.coords t) = 1#1 ↔ 11 ≤ t.val ∧ t.val % 11 ≠ 0)

/-! ## What the body leaves -/

/-- The first point of `t`'s block row. -/
def rowStart (t : Fin cfg0.N) : Fin cfg0.N := ⟨t.val - t.val % 11, lt_of_le_of_lt (Nat.sub_le _ _) t.isLt⟩

/-- The normalised rows of `t`'s block row, as its first point leaves them in the scratch. -/
def normed (c : Dev nD) (t : Fin cfg0.N) : Vec F S1024x2048 .bf16 :=
  k0_pay11 (iblk m c 0 (rowStart t)) (iblk m c 1 (rowStart t))

/-- What the body leaves in the output block at point `t`, having found `Y` there. -/
def out9 (c : Dev nD) (t : Fin cfg0.N) (Y : Vec F S1024x2048 .f32) : Vec F S1024x2048 .f32 :=
  if t.val < 11 then
    if t.val % 11 < 8 then VecWindow.put Y (k0_off1 (grid0.coords t)) S128x2048.size (iblk m c 5 t : Vec F S128x2048 .f32) else Y
  else if t.val % 11 = 0 then k0_pay12 (iblk m c 2 t) (iblk m c 3 t) (iblk m c 4 t) (iblk m c 0 t) (iblk m c 1 t)
  else k0_pay6 (iblk m c 2 t) (iblk m c 3 t) (iblk m c 4 t) Y (normed m c t)

/-- The proof data: inputs left as found, the output block by `out9`, the three cast blocks named; the scratch holds the
    normalised rows after every point of a later block row. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun Y X => X = Y
    | ⟨9, _⟩ => fun Y X => X = out9 m c t Y
    | ⟨10, _⟩ => fun _ X => X = k0_pay1 (iblk m c 6 t)
    | ⟨11, _⟩ => fun _ X => X = k0_pay2 (iblk m c 7 t)
    | ⟨12, _⟩ => fun _ X => X = k0_pay3 (iblk m c 8 t)
  Φ t := iprop((∃ d, ⌜∀ u : Fin cfg0.N, 11 ≤ u.val → u.val + 1 = t.val → d = normed m c u⌝
    ∗ owns (c : Thread nD τ) (Memref.whole cc0_scratch0) fullShare d) ∗ (∃ r, prngReg c r))
  q _ := fullShare
  owed _ := 0

/-- An input's buffer holds its block whenever the body is handed it. -/
theorem finds_input {c : Dev nD} {w : Fin cfg0.W} (hw : w.val < 9) (t : Fin cfg0.N) {Y} (h : (rdat m c).Finds w t Y) :
    ∃ d, Y = (rdat m c).fetched w t d := by
  match w, hw, Y, h with
  | ⟨0, _⟩, _, _, h => exact (rdat m c).finds_in_eq_fetched 0 rfl (fun _ _ _ => rfl) (fun _ _ _ h => h) t _ h
  | ⟨1, _⟩, _, _, h => exact (rdat m c).finds_in_eq_fetched 1 rfl (fun _ _ _ => rfl) (fun _ _ _ h => h) t _ h
  | ⟨2, _⟩, _, _, h => exact (rdat m c).finds_in_eq_fetched 2 rfl (fun _ _ _ => rfl) (fun _ _ _ h => h) t _ h
  | ⟨3, _⟩, _, _, h => exact (rdat m c).finds_in_eq_fetched 3 rfl (fun _ _ _ => rfl) (fun _ _ _ h => h) t _ h
  | ⟨4, _⟩, _, _, h => exact (rdat m c).finds_in_eq_fetched 4 rfl (fun _ _ _ => rfl) (fun _ _ _ h => h) t _ h
  | ⟨5, _⟩, _, _, h => exact (rdat m c).finds_in_eq_fetched 5 rfl (fun _ _ _ => rfl) (fun _ _ _ h => h) t _ h
  | ⟨6, _⟩, _, _, h => exact (rdat m c).finds_in_eq_fetched 6 rfl (fun _ _ _ => rfl) (fun _ _ _ h => h) t _ h
  | ⟨7, _⟩, _, _, h => exact (rdat m c).finds_in_eq_fetched 7 rfl (fun _ _ _ => rfl) (fun _ _ _ h => h) t _ h
  | ⟨8, _⟩, _, _, h => exact (rdat m c).finds_in_eq_fetched 8 rfl (fun _ _ _ => rfl) (fun _ _ _ h => h) t _ h

theorem found0 {c : Dev nD} (t : Fin cfg0.N) {Y} (h : (rdat m c).Finds 0 t Y) : Y = iblk m c 0 t :=
  (finds_input m (by decide) t h).elim fun _ e => e.trans rfl
theorem found1 {c : Dev nD} (t : Fin cfg0.N) {Y} (h : (rdat m c).Finds 1 t Y) : Y = iblk m c 1 t :=
  (finds_input m (by decide) t h).elim fun _ e => e.trans rfl
theorem found2 {c : Dev nD} (t : Fin cfg0.N) {Y} (h : (rdat m c).Finds 2 t Y) : Y = iblk m c 2 t :=
  (finds_input m (by decide) t h).elim fun _ e => e.trans rfl
theorem found3 {c : Dev nD} (t : Fin cfg0.N) {Y} (h : (rdat m c).Finds 3 t Y) : Y = iblk m c 3 t :=
  (finds_input m (by decide) t h).elim fun _ e => e.trans rfl
theorem found4 {c : Dev nD} (t : Fin cfg0.N) {Y} (h : (rdat m c).Finds 4 t Y) : Y = iblk m c 4 t :=
  (finds_input m (by decide) t h).elim fun _ e => e.trans rfl
theorem found5 {c : Dev nD} (t : Fin cfg0.N) {Y} (h : (rdat m c).Finds 5 t Y) : Y = iblk m c 5 t :=
  (finds_input m (by decide) t h).elim fun _ e => e.trans rfl
theorem found6 {c : Dev nD} (t : Fin cfg0.N) {Y} (h : (rdat m c).Finds 6 t Y) : Y = iblk m c 6 t :=
  (finds_input m (by decide) t h).elim fun _ e => e.trans rfl
theorem found7 {c : Dev nD} (t : Fin cfg0.N) {Y} (h : (rdat m c).Finds 7 t Y) : Y = iblk m c 7 t :=
  (finds_input m (by decide) t h).elim fun _ e => e.trans rfl
theorem found8 {c : Dev nD} (t : Fin cfg0.N) {Y} (h : (rdat m c).Finds 8 t Y) : Y = iblk m c 8 t :=
  (finds_input m (by decide) t h).elim fun _ e => e.trans rfl

/-! ## The body at a point -/

/-- What the body is called with at point `t`: the invariant, the inputs' blocks, anything in the other buffers. -/
def pre (c : Dev nD) (t : Fin cfg0.N) (Y : Vec F S1024x2048 .f32) : sProp 𝕄 :=
  iprop((rdat m c).Φ t.castSucc ∗ (rdat m c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ owns (c : Thread nD τ) (st0_8 t) fullShare (iblk m c 8 t)
    ∗ owns (c : Thread nD τ) (st0_9 t) fullShare Y
    ∗ (∃ d, owns (c : Thread nD τ) (st0_10 t) fullShare d)
    ∗ (∃ d, owns (c : Thread nD τ) (st0_11 t) fullShare d)
    ∗ (∃ d, owns (c : Thread nD τ) (st0_12 t) fullShare d))

/-- What it returns. -/
def post (c : Dev nD) (t : Fin cfg0.N) (Y : Vec F S1024x2048 .f32) : sProp 𝕄 :=
  iprop((rdat m c).Φ t.succ ∗ (rdat m c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ owns (c : Thread nD τ) (st0_8 t) fullShare (iblk m c 8 t)
    ∗ owns (c : Thread nD τ) (st0_9 t) fullShare (out9 m c t Y)
    ∗ owns (c : Thread nD τ) (st0_10 t) fullShare (k0_pay1 (iblk m c 6 t))
    ∗ owns (c : Thread nD τ) (st0_11 t) fullShare (k0_pay2 (iblk m c 7 t))
    ∗ owns (c : Thread nD τ) (st0_12 t) fullShare (k0_pay3 (iblk m c 8 t)))

theorem rowStart_pred {t u : Fin cfg0.N} (h : u.val + 1 = t.val) (ht : t.val % 11 ≠ 0) : rowStart u = rowStart t :=
  Fin.ext (by show u.val - u.val % 11 = t.val - t.val % 11; omega)

set_option maxHeartbeats 3200000 in
/-- The body at any point: the point says which case it is in, and that case's run applies. -/
theorem sound (c : Dev nD) (t : Fin cfg0.N) (Y : Vec F S1024x2048 .f32) :
    pre m c t Y ⊢ wp frame (wpE (defs₀ (F := F)) Variants.none c none) Set.univ (bodyAt0 t) (fun _ => post m c t Y) := by
  unfold pre post bodyAt0
  rw [show (rdat m c).owesAt () t.succ = (rdat m c).owesAt () t.castSucc from rfl]
  dsimp only [rdat]
  iintro ⟨⟨⟨%d, %hd, HS⟩, Hg⟩, Ho, H0, H1, H2, H3, H4, H5, H6, H7, H8, H9, H10, H11, H12⟩
  by_cases h1 : t.val < 11
  · have c3 : ¬k0_cond3 (grid0.coords t) = 1#1 := fun h => by have := (cond3_iff t).mp h; omega
    have c4 : ¬k0_cond4 (grid0.coords t) = 1#1 := fun h => by have := (cond4_iff t).mp h; omega
    by_cases h2 : t.val % 11 < 8
    · rw [show out9 m c t Y = VecWindow.put Y (k0_off1 (grid0.coords t)) S128x2048.size (iblk m c 5 t : Vec F S128x2048 .f32) from by
        unfold out9; rw [if_pos h1, if_pos h2]]
      iapply (run_head c (grid0.coords t) _ _ _ _ _ _ _ _ _ _ _ _ _ _ _ _ _ _ _ _ _ _ _ _ _ _ _ _ ((cond1_iff t).mpr h1) ((cond2_iff t).mpr h2) c3 c4
        (iblk m c 5 t) Y (iblk m c 6 t) (iblk m c 7 t) (iblk m c 8 t) Set.univ _)
      isplitl [H5]; · iexact H5
      isplitl [H9]; · iexact H9
      isplitl [H6]; · iexact H6
      isplitl [H7]; · iexact H7
      isplitl [H8]; · iexact H8
      isplitl [H10]; · iexact H10
      isplitl [H11]; · iexact H11
      isplitl [H12]; · iexact H12
      iintro ⟨H5, H9, H6, H7, H8, H10, H11, H12⟩
      isplitl [HS Hg]
      · isplitl [HS]
        · iexists d; isplitr
          · ipureintro; intro u hu hut
            have : u.val + 1 = t.val + 1 := hut
            omega
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · rw [show out9 m c t Y = Y from by unfold out9; rw [if_pos h1, if_neg h2]]
      iapply (run_idle c (grid0.coords t) _ _ _ _ _ _ _ _ _ _ _ _ _ _ _ _ _ _ _ _ _ _ _ _ _ _ _ _ ((cond1_iff t).mpr h1) (fun h => h2 ((cond2_iff t).mp h)) c3 c4
        (iblk m c 6 t) (iblk m c 7 t) (iblk m c 8 t) Set.univ _)
      isplitl [H6]; · iexact H6
      isplitl [H7]; · iexact H7
      isplitl [H8]; · iexact H8
      isplitl [H10]; · iexact H10
      isplitl [H11]; · iexact H11
      isplitl [H12]; · iexact H12
      iintro ⟨H6, H7, H8, H10, H11, H12⟩
      isplitl [HS Hg]
      · isplitl [HS]
        · iexists d; isplitr
          · ipureintro; intro u hu hut
            have : u.val + 1 = t.val + 1 := hut
            omega
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
  · have c1 : ¬k0_cond1 (grid0.coords t) = 1#1 := fun h => h1 ((cond1_iff t).mp h)
    by_cases h2 : t.val % 11 = 0
    · have c4 : ¬k0_cond4 (grid0.coords t) = 1#1 := fun h => ((cond4_iff t).mp h).2 h2
      rw [show out9 m c t Y = k0_pay12 (iblk m c 2 t) (iblk m c 3 t) (iblk m c 4 t) (iblk m c 0 t) (iblk m c 1 t) from by
        unfold out9; rw [if_neg h1, if_pos h2]]
      iapply (run_first c (grid0.coords t) _ _ _ _ _ _ _ _ _ _ _ _ _ _ _ _ _ _ _ _ _ _ _ _ _ _ _ _ c1 ((cond3_iff t).mpr ⟨by omega, h2⟩) c4
        (iblk m c 0 t) (iblk m c 1 t) (iblk m c 2 t) (iblk m c 3 t) (iblk m c 4 t) (iblk m c 6 t) (iblk m c 7 t) (iblk m c 8 t) Set.univ _)
      isplitl [H0]; · iexact H0
      isplitl [H1]; · iexact H1
      isplitl [H2]; · iexact H2
      isplitl [H3]; · iexact H3
      isplitl [H4]; · iexact H4
      isplitl [H9]; · iexists _; iexact H9
      isplitl [HS]; · iexists _; iexact HS
      isplitl [H6]; · iexact H6
      isplitl [H7]; · iexact H7
      isplitl [H8]; · iexact H8
      isplitl [H10]; · iexact H10
      isplitl [H11]; · iexact H11
      isplitl [H12]; · iexact H12
      iintro ⟨H0, H1, H2, H3, H4, H9, HS, H6, H7, H8, H10, H11, H12⟩
      isplitl [HS Hg]
      · isplitl [HS]
        · iexists _; isplitr; swap; · iexact HS
          ipureintro; intro u hu hut
          have hu' : u = t := Fin.ext (by have : u.val + 1 = t.val + 1 := hut; omega)
          subst hu'
          unfold normed
          rw [show rowStart u = u from Fin.ext (by show u.val - u.val % 11 = u.val; omega)]
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · have c3 : ¬k0_cond3 (grid0.coords t) = 1#1 := fun h => h2 ((cond3_iff t).mp h).2
      have hds : d = normed m c t := by
        have e := hd ⟨t.val - 1, lt_of_le_of_lt (Nat.sub_le _ _) t.isLt⟩ (by show 11 ≤ t.val - 1; omega) (by show t.val - 1 + 1 = t.val; omega)
        rw [e]; unfold normed
        rw [rowStart_pred (by show t.val - 1 + 1 = t.val; omega) h2]
      rw [show out9 m c t Y = k0_pay6 (iblk m c 2 t) (iblk m c 3 t) (iblk m c 4 t) Y (normed m c t) from by
        unfold out9; rw [if_neg h1, if_neg h2]]
      subst hds
      iapply (run_next c (grid0.coords t) _ _ _ _ _ _ _ _ _ _ _ _ _ _ _ _ _ _ _ _ _ _ _ _ _ _ _ _ c1 c3 ((cond4_iff t).mpr ⟨by omega, h2⟩)
        (iblk m c 2 t) (iblk m c 3 t) (iblk m c 4 t) Y (normed m c t) (iblk m c 6 t) (iblk m c 7 t) (iblk m c 8 t) Set.univ _)
      isplitl [H2]; · iexact H2
      isplitl [H3]; · iexact H3
      isplitl [H4]; · iexact H4
      isplitl [H9]; · iexact H9
      isplitl [HS]; · iexact HS
      isplitl [H6]; · iexact H6
      isplitl [H7]; · iexact H7
      isplitl [H8]; · iexact H8
      isplitl [H10]; · iexact H10
      isplitl [H11]; · iexact H11
      isplitl [H12]; · iexact H12
      iintro ⟨H2, H3, H4, H9, HS, H6, H7, H8, H10, H11, H12⟩
      isplitl [HS Hg]
      · isplitl [HS]
        · iexists _; isplitr; swap; · iexact HS
          ipureintro; intro u hu hut
          have hu' : u = t := Fin.ext (by have : u.val + 1 = t.val + 1 := hut; omega)
          subst hu'; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12

/-! ## The obligation, the run and the frame -/

theorem defs₀_row (t : Fin cfg0.N) :
    defs₀ (F := F) .tc cfg0.body (cfg0.bodyArgs t (cfg0.slots t)) = bodyAt0 t := by
  unfold defs₀; rw [Defs.onTc_tc]

/-- The library's body obligation at every point. -/
theorem body_obligation (c : Dev nD) : (rdat (F := F) m c).BodyObligation (defs₀ (F := F)) Variants.none () Set.univ := fun t Y hY => by
  have e0 := found0 m t (hY 0)
  have e1 := found1 m t (hY 1)
  have e2 := found2 m t (hY 2)
  have e3 := found3 m t (hY 3)
  have e4 := found4 m t (hY 4)
  have e5 := found5 m t (hY 5)
  have e6 := found6 m t (hY 6)
  have e7 := found7 m t (hY 7)
  have e8 := found8 m t (hY 8)
  rw [bigSep_W0, bigSep_W0, defs₀_row, e0, e1, e2, e3, e4, e5, e6, e7, e8]
  refine triple_restated (sound m c t (Y 9)) rfl ?_ fun _ => ?_
  · unfold pre
    iintro ⟨HΦ, Ho, H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    iexists _; iexact H12
  · unfold post
    iintro ⟨HΦ, Ho, H0, H1, H2, H3, H4, H5, H6, H7, H8, H9, H10, H11, H12⟩
    isplitl [HΦ]; · iexact HΦ
    isplitl [Ho]; · iexact Ho
    isplitl [H0]; · iexists _; isplitr; swap; · iexact H0
                    ipureintro; rfl
    isplitl [H1]; · iexists _; isplitr; swap; · iexact H1
                    ipureintro; rfl
    isplitl [H2]; · iexists _; isplitr; swap; · iexact H2
                    ipureintro; rfl
    isplitl [H3]; · iexists _; isplitr; swap; · iexact H3
                    ipureintro; rfl
    isplitl [H4]; · iexists _; isplitr; swap; · iexact H4
                    ipureintro; rfl
    isplitl [H5]; · iexists _; isplitr; swap; · iexact H5
                    ipureintro; rfl
    isplitl [H6]; · iexists _; isplitr; swap; · iexact H6
                    ipureintro; rfl
    isplitl [H7]; · iexists _; isplitr; swap; · iexact H7
                    ipureintro; rfl
    isplitl [H8]; · iexists _; isplitr; swap; · iexact H8
                    ipureintro; rfl
    isplitl [H9]; · iexists _; isplitr; swap; · iexact H9
                    ipureintro; rfl
    isplitl [H10]; · iexists _; isplitr; swap; · iexact H10
                     ipureintro; rfl
    isplitl [H11]; · iexists _; isplitr; swap; · iexact H11
                     ipureintro; rfl
    iexists _; isplitr; swap; · iexact H12
    ipureintro; rfl

/-- The launch's state with the scratch as a memref at some contents. -/
theorem PhiA_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]

theorem hin (c : Dev nD) : Pipeline.ΦA spec0 c ⊢ (rdat m c).Φ 0 := by
  rw [PhiA_eq]; dsimp only [rdat]
  iintro ⟨⟨%d, HS⟩, Hg⟩
  isplitl [HS]
  · iexists d; isplitr; swap; · iexact HS
    ipureintro; intro u hu hut
    exact absurd (show u.val + 1 = 0 from hut) (by omega)
  iexact Hg

theorem hout (c : Dev nD) : (rdat m c).Φ (Fin.last cfg0.N) ⊢ Pipeline.ΦA spec0 c := by
  rw [PhiA_eq]; dsimp only [rdat]
  iintro ⟨⟨%d, %hd, HS⟩, Hg⟩
  isplitl [HS]
  · iexists d; iexact HS
  iexact Hg

set_option backward.isDefEq.respectTransparency.types false in
/-- Every fair run ends, with the arrays at what the proof data allow and every semaphore at zero. -/
theorem run_quiescent : θ_run defs (onTc (τ := τ) (main (F := F))) (s₀ m ρ)
    (fun r => RDat.FramePost cfg0 (rdat m) (V m) r ∧ r.2.sem = fun _ => 0) :=
  RDat.θ_run_frame_track (Q' := _) cfgs (0 : Fin 1) launch0 defs₀ Variants.none (rdat m) m ρ main
    (hbody := body_obligation m) (hshare := fun c => (rdat m c).share_full fun _ => rfl)
    (howed := fun _ _ => rfl) (V := V m) (hmain := hmain m Variants.none) (hA := fun _ _ => rfl) (hin := hin m) (hout := hout m)

theorem run_main : θ_run defs (onTc (τ := τ) (main (F := F))) (s₀ m ρ) (RDat.FramePost cfg0 (rdat m) (V m)) :=
  (θ_run defs _ _).mono (fun _ h => h.1) (run_quiescent m ρ)

/-- The arguments end as they were and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨h.1.arr_in c 0 rfl, h.1.arr_in c 1 rfl, h.1.arr_in c 2 rfl, h.1.arr_in c 3 rfl,
    h.1.arr_in c 4 rfl, h.1.arr_in c 6 rfl, h.1.arr_in c 7 rfl, h.1.arr_in c 8 rfl, h.1.arr_in c 5 rfl⟩, h.2⟩) (run_quiescent m ρ)

end Cert.Kernel4Ideal.Hand

end
-- ==== Proof.Cast.Same.lean ====
/- The first half step's main launch as written and as read over the extended reals are one program, so its frame, proved for
   any arithmetic, is the frame of the one as written too. -/
module

public import proofs.«01_k».proof.Proof.Gen.Kernel4.Frame
public import proofs.«01_k».proof.Proof.Cast.Data

@[expose] public section

set_option maxRecDepth 16384

noncomputable section

namespace Cert.Same4

open Idealize.ShloMosaic Idealize.ShloMosaic.TcCoe Idealize.SL.Sem Idealize.ShloMosaic.Tactic

variable {F : FTy → Type} [FloatOps F]

theorem defs_eq : Cert.Kernel4.defs (F := F) = Cert.Kernel4Ideal.defs (F := F) := by
  sl_kernel_rfl

open Cert.Kernel4 in
/-- The arguments end as they were and the semaphores at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  rw [defs_eq]
  exact Cert.Kernel4Ideal.Hand.frame m ρ

end Cert.Same4

end
-- ==== Proof.Ffn.Math.lean ====
/- The arithmetic of one SwiGLU half step over the extended reals: the row norm, one hidden unit, one result entry,
   and the law that moves the factor one half out of the sum over the hidden units. -/
module

public import Idealize.ShloMosaic.Lib.Pipeline.ValueKit

@[expose] public section

set_option maxRecDepth 16384

noncomputable section

open Idealize.ShloMosaic

namespace Cert.Ffn

/-- The constant one half, as its word denotes it. -/
abbrev half : EReal := Ideal.ofBits .f32 1056964608#32

theorem half_eq : half = ((1 / 2 : ℝ) : EReal) := by
  simp [half, Ideal.ofBits, Ideal.ieee]
  rw [← EReal.coe_mul]
  norm_num

/-- Entry `k` of the normalised row: `x k / sqrt (mean of x² + eps) * g k`. -/
def rms (x g : Fin 2048 → EReal) (k : Fin 2048) : EReal :=
  x k * Ideal.rsqrt (Ideal.div (∑ l, x l * x l) (Ideal.ofBits .f32 1157627904#32) + Ideal.ofBits .f32 897988541#32) * g k

/-- One hidden unit: `silu` of the gate product times the up product. -/
def mid (u wg wu : Fin 2048 → EReal) : EReal :=
  (∑ k, u k * wg k) * Ideal.logistic (∑ k, u k * wg k) * ∑ k, u k * wu k

/-- One entry of the half step: the residual `r` plus half of the down product over the hidden units. -/
def step (r : EReal) (u : Fin 2048 → EReal) (wg wu : Fin 2048 → Fin 5632 → EReal) (wd : Fin 5632 → EReal) : EReal :=
  r + ∑ f, mid u (fun k => wg k f) (fun k => wu k f) * half * wd f

/-- A finite nonnegative factor goes into a finite sum of extended reals. -/
theorem mul_sum_of_nonneg {ι : Type*} (s : Finset ι) (a : EReal) (h0 : 0 ≤ a) (h1 : a ≠ ⊤) (f : ι → EReal) :
    a * ∑ i ∈ s, f i = ∑ i ∈ s, a * f i := by
  classical
  induction s using Finset.induction_on with
  | empty => simp
  | insert i s hi ih => rw [Finset.sum_insert hi, Finset.sum_insert hi, EReal.left_distrib_of_nonneg_of_ne_top h0 h1, ih]

/-- The half step with the factor one half outside the sum. -/
theorem step_eq (r : EReal) (u : Fin 2048 → EReal) (wg wu : Fin 2048 → Fin 5632 → EReal) (wd : Fin 5632 → EReal) :
    r + half * ∑ f, mid u (fun k => wg k f) (fun k => wu k f) * wd f = step r u wg wu wd := by
  have h0 : (0 : EReal) ≤ half := by rw [half_eq]; exact_mod_cast (by norm_num : (0 : ℝ) ≤ 1 / 2)
  have h1 : half ≠ ⊤ := by rw [half_eq]; exact EReal.coe_ne_top _
  unfold step
  rw [mul_sum_of_nonneg _ _ h0 h1]
  refine congrArg (r + ·) (Finset.sum_congr rfl fun f _ => ?_)
  rw [← mul_assoc, mul_comm half]

/-- Entry `(r, b)` of the half step of `n` rows. -/
def half_step {n : ℕ} (X : Fin n → Fin 2048 → EReal) (G : Fin 2048 → EReal) (WG WU : Fin 2048 → Fin 5632 → EReal)
    (WD : Fin 5632 → Fin 2048 → EReal) (r : Fin n) (b : Fin 2048) : EReal :=
  step (X r b) (rms (X r) G) WG WU (fun f => WD f b)

end Cert.Ffn

end
-- ==== Proof.Ffn.Two.lean ====
/- The second SwiGLU half step: the tiled kernel and the plain reference both compute it. The grid walks the row blocks
   and, in each, eleven tiles of hidden units; the first point of a row block normalises its rows into a carried scratch
   and starts the result block from the residual, the others add their tile. -/
module

public import proofs.«01_k».proof.Proof.Gen.Kernel2Ideal.Frame
public import proofs.«01_k».proof.Proof.Gen.Reference2Ideal.Run
public import proofs.«01_k».proof.Proof.Ffn.Math
public import Idealize.ShloMosaic.Lib.Pipeline.ValueKit
public import Idealize.ShloMosaic.Lib.Pipeline.ReadBack
public import Idealize.ShloMosaic.Lib.Pipeline.ValueKit.Held

@[expose] public section

set_option maxRecDepth 16384

noncomputable section

open Idealize.ShloMosaic Idealize.ShloMosaic.TcCoe Idealize.SL.Sem
open Idealize.ShloMosaic.Pipeline (Dat)

namespace Cert.Kernel2Ideal.Ffn
open Cert.Kernel2Ideal Cert.Kernel2Ideal.Gen

variable (m : (ℓ : Loc nD τ sig) → Buf (Elt Ideal) ℓ)

theorem outs_A (c : Dev nD) (t : Fin cfg0.N) (h : t.val % 11 = 0) :
    (outsAt0 m c t.val t.isLt).1
      = k0_pay3 (iblk m c 2 t) (iblk m c 3 t) (iblk m c 4 t) (iblk m c 0 t) (iblk m c 1 t) := by
  rw [outsAt0_A m c t h (by omega)]
  frame_out

theorem held_A (c : Dev nD) (t : Fin cfg0.N) (h : t.val % 11 = 0) :
    (outsAt0 m c t.val t.isLt).2 = k0_pay2 (iblk m c 0 t) (iblk m c 1 t) := by
  rw [outsAt0_A m c t h (by omega)]
  frame_out

theorem outs_B (c : Dev nD) (t : Fin cfg0.N) (h : ¬t.val % 11 = 0) :
    (outsAt0 m c t.val t.isLt).1
      = k0_pay4 (iblk m c 2 t) (iblk m c 3 t) (iblk m c 4 t)
          (outsAt0 m c (t.val - 1) (Nat.lt_of_le_of_lt (Nat.sub_le _ _) t.isLt)).1
          (outsAt0 m c (t.val - 1) (Nat.lt_of_le_of_lt (Nat.sub_le _ _) t.isLt)).2 := by
  rw [outsAt0_B m c t h (by omega)]
  frame_out
  rw [Idealize.ShloMosaic.read_unread_whole]

theorem held_B (c : Dev nD) (t : Fin cfg0.N) (h : ¬t.val % 11 = 0) :
    (outsAt0 m c t.val t.isLt).2
      = (outsAt0 m c (t.val - 1) (Nat.lt_of_le_of_lt (Nat.sub_le _ _) t.isLt)).2 := by
  rw [outsAt0_B m c t h (by omega)]
  rfl

/-- The normalised rows the first point of a run stores in the carried scratch. -/
theorem pay2_at (x : FVec Ideal S1024x2048 .f32) (g : FVec Ideal S1x2048 .f32) (a : Fin 1024) (k : Fin 2048) :
    k0_pay2 (F := Ideal) x g (ix2 a k) = Ffn.rms (fun l => x (ix2 a l)) (fun l => g (ix2 0 l)) k := by
  pointwise [k0_pay2, k0_pay1, Ffn.rms]

theorem pay1_at (x : FVec Ideal S1024x2048 .f32) (g : FVec Ideal S1x2048 .f32) (a : Fin 1024) (k : Fin 2048) :
    k0_pay1 (F := Ideal) x g (ix2 a k) = Ffn.rms (fun l => x (ix2 a l)) (fun l => g (ix2 0 l)) k := by
  pointwise [k0_pay1, Ffn.rms]

/-- One tile of hidden units: its part of entry `(a, b)`. -/
def tile (u : Fin 2048 → EReal) (wg wu : FVec Ideal S2048x512 .bf16) (wd : FVec Ideal S512x2048 .bf16)
    (b : Fin 2048) : EReal :=
  ∑ f : Fin 512, Ffn.mid u (fun k => wg (ix2 k f)) (fun k => wu (ix2 k f)) * Ffn.half * wd (ix2 f b)

theorem pay3_at (wg wu : FVec Ideal S2048x512 .bf16) (wd : FVec Ideal S512x2048 .bf16)
    (x : FVec Ideal S1024x2048 .f32) (g : FVec Ideal S1x2048 .f32) (j : S1024x2048.Idx) :
    k0_pay3 (F := Ideal) wg wu wd x g j
      = x j + tile (Ffn.rms (fun l => x (ix2 (j 0) l)) (fun l => g (ix2 0 l))) wg wu wd (j 1) := by
  pointwise [k0_pay3, tile, Ffn.mid, pay1_at]

theorem pay4_at (wg wu : FVec Ideal S2048x512 .bf16) (wd : FVec Ideal S512x2048 .bf16)
    (acc : FVec Ideal S1024x2048 .f32) (u : FVec Ideal S1024x2048 .bf16) (j : S1024x2048.Idx) :
    k0_pay4 (F := Ideal) wg wu wd acc u j = acc j + tile (fun k => u (ix2 (j 0) k)) wg wu wd (j 1) := by
  pointwise [k0_pay4, tile, Ffn.mid]

theorem idx : ∀ t : Fin cfg0.N, win0_0.index t = ![t.val / 11, 0] ∧ win0_1.index t = ![0, 0]
    ∧ win0_2.index t = ![0, t.val % 11] ∧ win0_3.index t = ![0, t.val % 11] ∧ win0_4.index t = ![t.val % 11, 0]
    ∧ win0_5.index t = ![t.val / 11, 0] :=
  (by decide +kernel : ∀ t : Fin grid0.N, _)

/-- Row `a` of row block `t / 11`, as a row of the array. -/
def row (t : Fin cfg0.N) (a : Fin 1024) : Fin 16384 :=
  ⟨t.val / 11 * 1024 + a.val, by have := lt_of_lt_of_eq t.isLt N_0; omega⟩

/-- Hidden unit `f` of tile `t % 11`, as a hidden unit of the layer. -/
def unit (t : Fin cfg0.N) (f : Fin 512) : Fin 5632 := ⟨t.val % 11 * 512 + f.val, by omega⟩

/-- The arguments, at their literal types. -/
abbrev X (c : Dev nD) : FVec Ideal S16384x2048 .f32 := m ((c : Thread nD τ).loc main_arg0)
abbrev G (c : Dev nD) : FVec Ideal S1x2048 .f32 := m ((c : Thread nD τ).loc main_arg1)
abbrev WG (c : Dev nD) : FVec Ideal S2048x5632 .bf16 := m ((c : Thread nD τ).loc main_arg2)
abbrev WU (c : Dev nD) : FVec Ideal S2048x5632 .bf16 := m ((c : Thread nD τ).loc main_arg3)
abbrev WD (c : Dev nD) : FVec Ideal S5632x2048 .bf16 := m ((c : Thread nD τ).loc main_arg4)

theorem x_at (c : Dev nD) (t : Fin cfg0.N) (a : Fin 1024) (l : Fin 2048) :
    (show FVec Ideal S1024x2048 .f32 from iblk m c 0 t) (ix2 a l) = X m c (ix2 (row t a) l) := by
  blk_ext [iblk, V, idx t, row]

theorem g_at (c : Dev nD) (t : Fin cfg0.N) (l : Fin 2048) :
    (show FVec Ideal S1x2048 .f32 from iblk m c 1 t) (ix2 0 l) = G m c (ix2 0 l) := by
  blk_ext [iblk, V, idx t]

theorem wg_at (c : Dev nD) (t : Fin cfg0.N) (k : Fin 2048) (f : Fin 512) :
    (show FVec Ideal S2048x512 .bf16 from iblk m c 2 t) (ix2 k f) = WG m c (ix2 k (unit t f)) := by
  blk_ext [iblk, V, idx t, unit]

theorem wu_at (c : Dev nD) (t : Fin cfg0.N) (k : Fin 2048) (f : Fin 512) :
    (show FVec Ideal S2048x512 .bf16 from iblk m c 3 t) (ix2 k f) = WU m c (ix2 k (unit t f)) := by
  blk_ext [iblk, V, idx t, unit]

theorem wd_at (c : Dev nD) (t : Fin cfg0.N) (f : Fin 512) (b : Fin 2048) :
    (show FVec Ideal S512x2048 .bf16 from iblk m c 4 t) (ix2 f b) = WD m c (ix2 (unit t f) b) := by
  blk_ext [iblk, V, idx t, unit]

/-- The normalised row `a` of the row block of point `t`. -/
abbrev U (c : Dev nD) (r : Fin 16384) : Fin 2048 → EReal :=
  Ffn.rms (fun l => X m c (ix2 r l)) (fun l => G m c (ix2 0 l))

theorem rms_at (c : Dev nD) (t : Fin cfg0.N) (a : Fin 1024) :
    Ffn.rms (fun l => (show FVec Ideal S1024x2048 .f32 from iblk m c 0 t) (ix2 a l))
      (fun l => (show FVec Ideal S1x2048 .f32 from iblk m c 1 t) (ix2 0 l)) = U m c (row t a) := by
  congr 1
  · funext l; exact x_at m c t a l
  · funext l; exact g_at m c t l

/-- The carried scratch holds the normalised rows of the run's row block, at every point. -/
theorem held (c : Dev nD) (t : Fin cfg0.N) (a : Fin 1024) :
    (fun k => (show FVec Ideal S1024x2048 .bf16 from (outsAt0 m c t.val t.isLt).2) (ix2 a k)) = U m c (row t a) := by
  funext k
  have h := Pipeline.eq_of_write_hold (fun n h => (outsAt0 m c n h).2) 11 (fun t => k0_pay2 (iblk m c 0 t) (iblk m c 1 t))
    (held_A m c) (held_B m c) t
  refine (congrFun h (ix2 a k)).trans ((pay2_at _ _ a k).trans ?_)
  refine congrFun ((rms_at m c ⟨11 * (t.val / 11), Pipeline.run_start_lt t⟩ a).trans ?_) k
  refine congrArg (U m c) (Fin.ext ?_)
  simp only [row]
  omega

/-- The part of tile `t % 11` in entry `(a, b)` of the row block of point `t`. -/
def add (c : Dev nD) (t : Fin cfg0.N) (a : Fin 1024) (b : Fin 2048) : EReal :=
  ∑ f : Fin 512, Ffn.mid (U m c (row t a)) (fun k => WG m c (ix2 k (unit t f))) (fun k => WU m c (ix2 k (unit t f)))
    * Ffn.half * WD m c (ix2 (unit t f) b)

theorem tile_at (c : Dev nD) (t : Fin cfg0.N) (a : Fin 1024) (b : Fin 2048) :
    tile (U m c (row t a)) (iblk m c 2 t) (iblk m c 3 t) (iblk m c 4 t) b = add m c t a b := by
  unfold tile add
  refine Finset.sum_congr rfl fun f _ => ?_
  refine congrArg₂ (· * ·) (congrArg₂ (· * ·) (congrArg₂ (Ffn.mid _) ?_ ?_) rfl) (wd_at m c t f b)
  · funext k; exact wg_at m c t k f
  · funext k; exact wu_at m c t k f

/-- What point `t` adds at block index `j`: at a run's first point the residual too. -/
def part (c : Dev nD) (t : Fin cfg0.N) (j : S1024x2048.Idx) : EReal :=
  (if t.val % 11 = 0 then X m c (ix2 (row t (j 0)) (j 1)) else 0) + add m c t (j 0) (j 1)

theorem reset (c : Dev nD) (t : Fin cfg0.N) (h : t.val % 11 = 0) (j : S1024x2048.Idx) :
    (outsAt0 m c t.val t.isLt).1 j = 0 + part m c t j := by
  obtain ⟨a, b, rfl⟩ : ∃ (a : Fin 1024) (b : Fin 2048), j = ix2 a b := ⟨j 0, j 1, by pointwise⟩
  rw [outs_A m c t h, part, if_pos h, zero_add]
  refine (pay3_at _ _ _ _ _ (ix2 a b)).trans (congrArg₂ (· + ·) (x_at m c t a b) ?_)
  exact (congrArg (fun u => tile u _ _ _ b) (rms_at m c t a)).trans (tile_at m c t a b)

theorem next (c : Dev nD) (t : Fin cfg0.N) (h : ¬t.val % 11 = 0) (j : S1024x2048.Idx) :
    (outsAt0 m c t.val t.isLt).1 j
      = (outsAt0 m c (t.val - 1) (Nat.lt_of_le_of_lt (Nat.sub_le _ _) t.isLt)).1 j + part m c t j := by
  rw [outs_B m c t h, part, if_neg h, zero_add, ← held_B m c t h]
  refine (pay4_at _ _ _ _ _ j).trans (congrArg₂ (· + ·) rfl ?_)
  exact (congrArg (fun u => tile u _ _ _ (j 1)) (held m c t (j 0))).trans (tile_at m c t (j 0) (j 1))

/-- The half step at entry `(r, b)` of the array. -/
abbrev RES (c : Dev nD) (r : Fin 16384) (b : Fin 2048) : EReal :=
  Ffn.half_step (fun r l => X m c (ix2 r l)) (fun l => G m c (ix2 0 l)) (fun k f => WG m c (ix2 k f))
    (fun k f => WU m c (ix2 k f)) (fun f b => WD m c (ix2 f b)) r b

/-- The eleven parts of one run make up the half step. -/
theorem sum_part (c : Dev nD) (t : Fin cfg0.N) (ht : t.val % 11 = 11 - 1) (a : Fin 1024) (b : Fin 2048) :
    ∑ s : Fin 11, part m c ⟨11 * (t.val / 11) + s.val, Pipeline.run_point_lt_of_flush t ht s⟩ (ix2 a b)
      = RES m c (row t a) b := by
  have hr : ∀ s : Fin 11, row ⟨11 * (t.val / 11) + s.val, Pipeline.run_point_lt_of_flush t ht s⟩ a = row t a :=
    fun s => Fin.ext (by simp only [row]; omega)
  unfold part RES Ffn.half_step Ffn.step
  rw [Finset.sum_add_distrib]
  refine congrArg₂ (· + ·) ?_ ?_
  · rw [Fin.sum_univ_succ, Finset.sum_eq_zero, add_zero, if_pos (by simp)]
    · exact congrArg (fun r => X m c (ix2 r b)) (hr 0)
    · intro s _
      rw [if_neg]
      simp only [Fin.val_succ]
      omega
  · unfold add
    refine Fin.sum_mul_add_congr fun s k hl => ?_
    have hu : unit ⟨11 * (t.val / 11) + s.val, Pipeline.run_point_lt_of_flush t ht s⟩ k = ⟨s.val * 512 + k.val, hl⟩ :=
      Fin.ext (by simp only [unit]; omega)
    simp only [ix2_0, ix2_1]
    rw [hr s, hu]

/-- The result array: every entry is the half step of its row. -/
theorem final (c : Dev nD) : (dats m 0 c).arrAt 5 (cfgs 0).N = fun i : S16384x2048.Idx => RES m c (i 0) (i 1) := by
  refine (dats m 0 c).arrAt_eq_of_covers 5 _ (by decide +kernel) fun t hf y => ?_
  blk_simp
  rw [after0_5, Pipeline.eq_sum_fin_of_reset_step_apply_of_flush (fun n h => (outsAt0 m c n h).1) 11 (fun _ => 0) (part m c)
    (reset m c) (next m c) t ((flush0_5 t).mp hf) _, zero_add]
  obtain ⟨a, b, rfl⟩ : ∃ (a : Fin 1024) (b : Fin 2048), y = ix2 a b := ⟨y 0, y 1, by pointwise⟩
  refine (sum_part m c t ((flush0_5 t).mp hf) a b).trans (congrArg₂ (RES m c) (Fin.ext ?_) (Fin.ext ?_))
  · blk_simp [idx t, row]
  · blk_simp [idx t]

end Cert.Kernel2Ideal.Ffn

namespace Cert.Reference2Ideal.Ffn
open Cert.Reference2Ideal Cert.Reference2Ideal.Gen

/-- The reference's run: its result, too, is the half step of every row. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v22) = (fun i : S16384x2048.Idx =>
        Ffn.half_step (fun r l => (m ((c : Thread nD τ).loc main_arg0) : FVec Ideal S16384x2048 .f32) (ix2 r l))
          (fun l => (m ((c : Thread nD τ).loc main_arg1) : FVec Ideal S1x2048 .f32) (ix2 0 l))
          (fun k f => (m ((c : Thread nD τ).loc main_arg2) : FVec Ideal S2048x5632 .bf16) (ix2 k f))
          (fun k f => (m ((c : Thread nD τ).loc main_arg3) : FVec Ideal S2048x5632 .bf16) (ix2 k f))
          (fun f b => (m ((c : Thread nD τ).loc main_arg4) : FVec Ideal S5632x2048 .bf16) (ix2 f b)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ⟨(h c).1.trans ?_, (h c).2⟩) (Value.run m ρ)
  funext i
  obtain ⟨a, b, rfl⟩ : ∃ (a : Fin 16384) (b : Fin 2048), i = ix2 a b := ⟨i 0, i 1, by pointwise⟩
  refine Eq.trans ?_ (Ffn.step_eq _ _ _ _ _)
  pointwise [Ffn.mid, Ffn.rms, Ffn.half, Ideal.logistic]

end Cert.Reference2Ideal.Ffn
-- ==== Proof.Ffn.Head.lean ====
/- The first half step's first block row: one row block, twenty-two tiles of hidden units. Each point casts its tile of the
   weights and writes the casts out as well; the first normalises the rows into a carried scratch and starts the result from
   the residual, the others add their tile. -/
module

public import proofs.«01_k».proof.Proof.Gen.Kernel3Ideal.Frame
public import proofs.«01_k».proof.Proof.Gen.Reference3Ideal.Run
public import proofs.«01_k».proof.Proof.Ffn.Math
public import Idealize.ShloMosaic.Lib.Pipeline.ValueKit
public import Idealize.ShloMosaic.Lib.Pipeline.ReadBack
public import Idealize.ShloMosaic.Lib.Pipeline.ValueKit.Held

@[expose] public section

set_option maxRecDepth 16384

noncomputable section

open Idealize.ShloMosaic Idealize.ShloMosaic.TcCoe Idealize.SL.Sem
open Idealize.ShloMosaic.Pipeline (Dat)

namespace Cert.Kernel3Ideal.Ffn
open Cert.Kernel3Ideal Cert.Kernel3Ideal.Gen

variable (m : (ℓ : Loc nD τ sig) → Buf (Elt Ideal) ℓ)

/-! ## What a point leaves -/

theorem zero_of_mod (t : Fin cfg0.N) (h : t.val % 22 = 0) : ¬1 ≤ t.val := by
  have := lt_of_lt_of_eq t.isLt N_0
  omega

theorem outs_A (c : Dev nD) (t : Fin cfg0.N) (h : t.val % 22 = 0) :
    (outsAt0 m c t.val t.isLt).1
      = k0_pay6 (k0_pay1 (iblk m c 2 t)) (k0_pay2 (iblk m c 3 t)) (k0_pay3 (iblk m c 4 t)) (iblk m c 0 t) (iblk m c 1 t) := by
  rw [outsAt0_A m c t h (zero_of_mod t h)]
  frame_out

theorem held_A (c : Dev nD) (t : Fin cfg0.N) (h : t.val % 22 = 0) :
    (outsAt0 m c t.val t.isLt).2.2.2.2 = k0_pay5 (iblk m c 0 t) (iblk m c 1 t) := by
  rw [outsAt0_A m c t h (zero_of_mod t h)]
  frame_out

theorem outs_B (c : Dev nD) (t : Fin cfg0.N) (h : ¬t.val % 22 = 0) :
    (outsAt0 m c t.val t.isLt).1
      = k0_pay7 (k0_pay1 (iblk m c 2 t)) (k0_pay2 (iblk m c 3 t)) (k0_pay3 (iblk m c 4 t))
          (outsAt0 m c (t.val - 1) (Nat.lt_of_le_of_lt (Nat.sub_le _ _) t.isLt)).1
          (outsAt0 m c (t.val - 1) (Nat.lt_of_le_of_lt (Nat.sub_le _ _) t.isLt)).2.2.2.2 := by
  rw [outsAt0_B m c t h (by omega)]
  frame_out
  rw [Idealize.ShloMosaic.read_unread_whole]

theorem held_B (c : Dev nD) (t : Fin cfg0.N) (h : ¬t.val % 22 = 0) :
    (outsAt0 m c t.val t.isLt).2.2.2.2
      = (outsAt0 m c (t.val - 1) (Nat.lt_of_le_of_lt (Nat.sub_le _ _) t.isLt)).2.2.2.2 := by
  rw [outsAt0_B m c t h (by omega)]
  rfl

theorem cast_wg (c : Dev nD) (t : Fin cfg0.N) : (outsAt0 m c t.val t.isLt).2.1 = k0_pay1 (iblk m c 2 t) := by
  by_cases h : t.val % 22 = 0
  · rw [outsAt0_A m c t h (zero_of_mod t h)]
    frame_out
  · rw [outsAt0_B m c t h (by omega)]
    frame_out

theorem cast_wu (c : Dev nD) (t : Fin cfg0.N) : (outsAt0 m c t.val t.isLt).2.2.1 = k0_pay2 (iblk m c 3 t) := by
  by_cases h : t.val % 22 = 0
  · rw [outsAt0_A m c t h (zero_of_mod t h)]
    frame_out
  · rw [outsAt0_B m c t h (by omega)]
    frame_out

theorem cast_wd (c : Dev nD) (t : Fin cfg0.N) : (outsAt0 m c t.val t.isLt).2.2.2.1 = k0_pay3 (iblk m c 4 t) := by
  by_cases h : t.val % 22 = 0
  · rw [outsAt0_A m c t h (zero_of_mod t h)]
    frame_out
  · rw [outsAt0_B m c t h (by omega)]
    frame_out

/-! ## The stored values -/

theorem pay1_at (w : FVec Ideal S2048x256 .f32) (j : S2048x256.Idx) : k0_pay1 (F := Ideal) w j = w j := by
  pointwise [k0_pay1]

theorem pay2_at (w : FVec Ideal S2048x256 .f32) (j : S2048x256.Idx) : k0_pay2 (F := Ideal) w j = w j := by
  pointwise [k0_pay2]

theorem pay3_at (w : FVec Ideal S256x2048 .f32) (j : S256x2048.Idx) : k0_pay3 (F := Ideal) w j = w j := by
  pointwise [k0_pay3]

theorem pay4_at (x : FVec Ideal S1024x2048 .f32) (g : FVec Ideal S1x2048 .f32) (a : Fin 1024) (k : Fin 2048) :
    k0_pay4 (F := Ideal) x g (ix2 a k) = Ffn.rms (fun l => x (ix2 a l)) (fun l => g (ix2 0 l)) k := by
  pointwise [k0_pay4, Ffn.rms]

/-- The normalised rows the first point stores in the carried scratch. -/
theorem pay5_at (x : FVec Ideal S1024x2048 .f32) (g : FVec Ideal S1x2048 .f32) (a : Fin 1024) (k : Fin 2048) :
    k0_pay5 (F := Ideal) x g (ix2 a k) = Ffn.rms (fun l => x (ix2 a l)) (fun l => g (ix2 0 l)) k := by
  pointwise [k0_pay5, pay4_at]

/-- One tile of hidden units: its part of entry `b` of the row with normalised entries `u`. -/
def tile (u : Fin 2048 → EReal) (wg wu : FVec Ideal S2048x256 .bf16) (wd : FVec Ideal S256x2048 .bf16)
    (b : Fin 2048) : EReal :=
  ∑ f : Fin 256, Ffn.mid u (fun k => wg (ix2 k f)) (fun k => wu (ix2 k f)) * Ffn.half * wd (ix2 f b)

theorem pay6_at (wg wu : FVec Ideal S2048x256 .bf16) (wd : FVec Ideal S256x2048 .bf16)
    (x : FVec Ideal S1024x2048 .f32) (g : FVec Ideal S1x2048 .f32) (j : S1024x2048.Idx) :
    k0_pay6 (F := Ideal) wg wu wd x g j
      = x j + tile (Ffn.rms (fun l => x (ix2 (j 0) l)) (fun l => g (ix2 0 l))) wg wu wd (j 1) := by
  pointwise [k0_pay6, tile, Ffn.mid, pay4_at]

theorem pay7_at (wg wu : FVec Ideal S2048x256 .bf16) (wd : FVec Ideal S256x2048 .bf16)
    (acc : FVec Ideal S1024x2048 .f32) (u : FVec Ideal S1024x2048 .bf16) (j : S1024x2048.Idx) :
    k0_pay7 (F := Ideal) wg wu wd acc u j = acc j + tile (fun k => u (ix2 (j 0) k)) wg wu wd (j 1) := by
  pointwise [k0_pay7, tile, Ffn.mid]

/-! ## The blocks -/

theorem idx : ∀ t : Fin cfg0.N, win0_0.index t = ![0, 0] ∧ win0_1.index t = ![0, 0]
    ∧ win0_2.index t = ![0, t.val] ∧ win0_3.index t = ![0, t.val] ∧ win0_4.index t = ![t.val, 0]
    ∧ win0_5.index t = ![0, 0] ∧ win0_6.index t = ![0, t.val] ∧ win0_7.index t = ![0, t.val] ∧ win0_8.index t = ![t.val, 0] :=
  (by decide +kernel : ∀ t : Fin grid0.N, _)

/-- Row `a` of the first row block, as a row of the array. -/
def row (a : Fin 1024) : Fin 16384 := ⟨a.val, by omega⟩

/-- Hidden unit `f` of tile `t`, as a hidden unit of the layer. -/
def unit (t : Fin cfg0.N) (f : Fin 256) : Fin 5632 :=
  ⟨t.val * 256 + f.val, by have := lt_of_lt_of_eq t.isLt N_0; omega⟩

/-- The arguments, at their literal types. -/
abbrev X (c : Dev nD) : FVec Ideal S16384x2048 .f32 := m ((c : Thread nD τ).loc main_arg0)
abbrev G (c : Dev nD) : FVec Ideal S1x2048 .f32 := m ((c : Thread nD τ).loc main_arg1)
abbrev WG (c : Dev nD) : FVec Ideal S2048x5632 .f32 := m ((c : Thread nD τ).loc main_arg2)
abbrev WU (c : Dev nD) : FVec Ideal S2048x5632 .f32 := m ((c : Thread nD τ).loc main_arg3)
abbrev WD (c : Dev nD) : FVec Ideal S5632x2048 .f32 := m ((c : Thread nD τ).loc main_arg4)

theorem x_at (c : Dev nD) (t : Fin cfg0.N) (a : Fin 1024) (l : Fin 2048) :
    (show FVec Ideal S1024x2048 .f32 from iblk m c 0 t) (ix2 a l) = X m c (ix2 (row a) l) := by
  blk_ext [iblk, V, idx t, row]

theorem g_at (c : Dev nD) (t : Fin cfg0.N) (l : Fin 2048) :
    (show FVec Ideal S1x2048 .f32 from iblk m c 1 t) (ix2 0 l) = G m c (ix2 0 l) := by
  blk_ext [iblk, V, idx t]

theorem wg_at (c : Dev nD) (t : Fin cfg0.N) (k : Fin 2048) (f : Fin 256) :
    (show FVec Ideal S2048x256 .f32 from iblk m c 2 t) (ix2 k f) = WG m c (ix2 k (unit t f)) := by
  blk_ext [iblk, V, idx t, unit]

theorem wu_at (c : Dev nD) (t : Fin cfg0.N) (k : Fin 2048) (f : Fin 256) :
    (show FVec Ideal S2048x256 .f32 from iblk m c 3 t) (ix2 k f) = WU m c (ix2 k (unit t f)) := by
  blk_ext [iblk, V, idx t, unit]

theorem wd_at (c : Dev nD) (t : Fin cfg0.N) (f : Fin 256) (b : Fin 2048) :
    (show FVec Ideal S256x2048 .f32 from iblk m c 4 t) (ix2 f b) = WD m c (ix2 (unit t f) b) := by
  blk_ext [iblk, V, idx t, unit]

/-! ## The running sum -/

/-- The normalised row `r`. -/
abbrev U (c : Dev nD) (r : Fin 16384) : Fin 2048 → EReal :=
  Ffn.rms (fun l => X m c (ix2 r l)) (fun l => G m c (ix2 0 l))

theorem rms_at (c : Dev nD) (t : Fin cfg0.N) (a : Fin 1024) :
    Ffn.rms (fun l => (show FVec Ideal S1024x2048 .f32 from iblk m c 0 t) (ix2 a l))
      (fun l => (show FVec Ideal S1x2048 .f32 from iblk m c 1 t) (ix2 0 l)) = U m c (row a) := by
  congr 1
  · funext l; exact x_at m c t a l
  · funext l; exact g_at m c t l

/-- The carried scratch holds the normalised rows at every point. -/
theorem held (c : Dev nD) (t : Fin cfg0.N) (a : Fin 1024) :
    (fun k => (show FVec Ideal S1024x2048 .bf16 from (outsAt0 m c t.val t.isLt).2.2.2.2) (ix2 a k)) = U m c (row a) := by
  funext k
  have h := Pipeline.eq_of_write_hold (fun n h => (outsAt0 m c n h).2.2.2.2) 22 (fun t => k0_pay5 (iblk m c 0 t) (iblk m c 1 t))
    (held_A m c) (held_B m c) t
  exact (congrFun h (ix2 a k)).trans ((pay5_at _ _ a k).trans
    (congrFun (rms_at m c ⟨22 * (t.val / 22), Pipeline.run_start_lt t⟩ a) k))

/-- The part of tile `t` in entry `(a, b)`. -/
def add (c : Dev nD) (t : Fin cfg0.N) (a : Fin 1024) (b : Fin 2048) : EReal :=
  ∑ f : Fin 256, Ffn.mid (U m c (row a)) (fun k => WG m c (ix2 k (unit t f))) (fun k => WU m c (ix2 k (unit t f)))
    * Ffn.half * WD m c (ix2 (unit t f) b)

theorem tile_at (c : Dev nD) (t : Fin cfg0.N) (a : Fin 1024) (b : Fin 2048) :
    tile (U m c (row a)) (k0_pay1 (iblk m c 2 t)) (k0_pay2 (iblk m c 3 t)) (k0_pay3 (iblk m c 4 t)) b = add m c t a b := by
  unfold tile add
  refine Finset.sum_congr rfl fun f _ => ?_
  refine congrArg₂ (· * ·) (congrArg₂ (· * ·) (congrArg₂ (Ffn.mid _) ?_ ?_) rfl) ((pay3_at _ _).trans (wd_at m c t f b))
  · funext k; exact (pay1_at _ _).trans (wg_at m c t k f)
  · funext k; exact (pay2_at _ _).trans (wu_at m c t k f)

/-- What point `t` adds at block index `j`: at the first point the residual too. -/
def part (c : Dev nD) (t : Fin cfg0.N) (j : S1024x2048.Idx) : EReal :=
  (if t.val % 22 = 0 then X m c (ix2 (row (j 0)) (j 1)) else 0) + add m c t (j 0) (j 1)

theorem reset (c : Dev nD) (t : Fin cfg0.N) (h : t.val % 22 = 0) (j : S1024x2048.Idx) :
    (outsAt0 m c t.val t.isLt).1 j = 0 + part m c t j := by
  obtain ⟨a, b, rfl⟩ : ∃ (a : Fin 1024) (b : Fin 2048), j = ix2 a b := ⟨j 0, j 1, by pointwise⟩
  rw [outs_A m c t h, part, if_pos h, zero_add]
  refine (pay6_at _ _ _ _ _ (ix2 a b)).trans (congrArg₂ (· + ·) (x_at m c t a b) ?_)
  exact (congrArg (fun u => tile u _ _ _ b) (rms_at m c t a)).trans (tile_at m c t a b)

theorem next (c : Dev nD) (t : Fin cfg0.N) (h : ¬t.val % 22 = 0) (j : S1024x2048.Idx) :
    (outsAt0 m c t.val t.isLt).1 j
      = (outsAt0 m c (t.val - 1) (Nat.lt_of_le_of_lt (Nat.sub_le _ _) t.isLt)).1 j + part m c t j := by
  rw [outs_B m c t h, part, if_neg h, zero_add, ← held_B m c t h]
  refine (pay7_at _ _ _ _ _ j).trans (congrArg₂ (· + ·) rfl ?_)
  exact (congrArg (fun u => tile u _ _ _ (j 1)) (held m c t (j 0))).trans (tile_at m c t (j 0) (j 1))

/-- The half step at entry `(a, b)` of the first row block. -/
abbrev RES (c : Dev nD) (a : Fin 1024) (b : Fin 2048) : EReal :=
  Ffn.half_step (fun (r : Fin 1024) l => X m c (ix2 (row r) l)) (fun l => G m c (ix2 0 l)) (fun k f => WG m c (ix2 k f))
    (fun k f => WU m c (ix2 k f)) (fun f b => WD m c (ix2 f b)) a b

/-- The twenty-two parts make up the half step. -/
theorem sum_part (c : Dev nD) (t : Fin cfg0.N) (ht : t.val % 22 = 22 - 1) (a : Fin 1024) (b : Fin 2048) :
    ∑ s : Fin 22, part m c ⟨22 * (t.val / 22) + s.val, Pipeline.run_point_lt_of_flush t ht s⟩ (ix2 a b)
      = RES m c a b := by
  unfold part RES Ffn.half_step Ffn.step
  rw [Finset.sum_add_distrib]
  refine congrArg₂ (· + ·) ?_ ?_
  · rw [Fin.sum_univ_succ, Finset.sum_eq_zero, add_zero, if_pos (by simp)]
    · rfl
    · intro s _
      rw [if_neg]
      simp only [Fin.val_succ]
      omega
  · unfold add
    refine Fin.sum_mul_add_congr fun s k hl => ?_
    have hu : unit ⟨22 * (t.val / 22) + s.val, Pipeline.run_point_lt_of_flush t ht s⟩ k = ⟨s.val * 256 + k.val, hl⟩ :=
      Fin.ext (by have := lt_of_lt_of_eq t.isLt N_0; simp only [unit]; omega)
    simp only [ix2_0, ix2_1]
    rw [hu]

/-! ## The arrays -/

/-- The result array: every entry is the half step of its row. -/
theorem final (c : Dev nD) : (dats m 0 c).arrAt 5 (cfgs 0).N = fun i : S1024x2048.Idx => RES m c (i 0) (i 1) := by
  refine (dats m 0 c).arrAt_eq_of_covers 5 _ (by decide +kernel) fun t hf y => ?_
  blk_simp
  rw [after0_5, Pipeline.eq_sum_fin_of_reset_step_apply_of_flush (fun n h => (outsAt0 m c n h).1) 22 (fun _ => 0) (part m c)
    (reset m c) (next m c) t ((flush0_5 t).mp hf) _, zero_add]
  obtain ⟨a, b, rfl⟩ : ∃ (a : Fin 1024) (b : Fin 2048), y = ix2 a b := ⟨y 0, y 1, by pointwise⟩
  refine (sum_part m c t ((flush0_5 t).mp hf) a b).trans (congrArg₂ (RES m c) (Fin.ext ?_) (Fin.ext ?_))
  · blk_simp [idx t]
  · blk_simp [idx t]

theorem final_wg (c : Dev nD) : (dats m 0 c).arrAt 6 (cfgs 0).N = (show FVec Ideal S2048x5632 .bf16 from fun i => WG m c i) := by
  refine (dats m 0 c).arrAt_eq_of_covers 6 _ (by decide +kernel) fun t hf y => ?_
  blk_simp
  rw [after0_6, cast_wg]
  refine (pay1_at _ _).trans ?_
  blk_ext [iblk, V, idx t]

theorem final_wu (c : Dev nD) : (dats m 0 c).arrAt 7 (cfgs 0).N = (show FVec Ideal S2048x5632 .bf16 from fun i => WU m c i) := by
  refine (dats m 0 c).arrAt_eq_of_covers 7 _ (by decide +kernel) fun t hf y => ?_
  blk_simp
  rw [after0_7, cast_wu]
  refine (pay2_at _ _).trans ?_
  blk_ext [iblk, V, idx t]

theorem final_wd (c : Dev nD) : (dats m 0 c).arrAt 8 (cfgs 0).N = (show FVec Ideal S5632x2048 .bf16 from fun i => WD m c i) := by
  refine (dats m 0 c).arrAt_eq_of_covers 8 _ (by decide +kernel) fun t hf y => ?_
  blk_simp
  rw [after0_8, cast_wd]
  refine (pay3_at _ _).trans ?_
  blk_ext [iblk, V, idx t]

end Cert.Kernel3Ideal.Ffn

namespace Cert.Reference3Ideal.Ffn
open Cert.Reference3Ideal Cert.Reference3Ideal.Gen

/-- The reference's run: its result, too, is the half step of the first 1024 rows, and the weights cast. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v20) = (fun i : S1024x2048.Idx =>
        Ffn.half_step (fun (r : Fin 1024) l => (m ((c : Thread nD τ).loc main_arg0) : FVec Ideal S16384x2048 .f32)
            (ix2 (⟨r.val, by omega⟩ : Fin 16384) l))
          (fun l => (m ((c : Thread nD τ).loc main_arg1) : FVec Ideal S1x2048 .f32) (ix2 0 l))
          (fun k f => (m ((c : Thread nD τ).loc main_arg2) : FVec Ideal S2048x5632 .f32) (ix2 k f))
          (fun k f => (m ((c : Thread nD τ).loc main_arg3) : FVec Ideal S2048x5632 .f32) (ix2 k f))
          (fun f b => (m ((c : Thread nD τ).loc main_arg4) : FVec Ideal S5632x2048 .f32) (ix2 f b)) (i 0) (i 1))
      ∧ r.2.mem ((c : Thread nD τ).loc main_v21)
        = (show FVec Ideal S2048x5632 .bf16 from fun i => (m ((c : Thread nD τ).loc main_arg2) : FVec Ideal S2048x5632 .f32) i)
      ∧ r.2.mem ((c : Thread nD τ).loc main_v22)
        = (show FVec Ideal S2048x5632 .bf16 from fun i => (m ((c : Thread nD τ).loc main_arg3) : FVec Ideal S2048x5632 .f32) i)
      ∧ r.2.mem ((c : Thread nD τ).loc main_v23)
        = (show FVec Ideal S5632x2048 .bf16 from fun i => (m ((c : Thread nD τ).loc main_arg4) : FVec Ideal S5632x2048 .f32) i)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ⟨(h c).1.trans ?_, (h c).2.1.trans rfl, (h c).2.2.1.trans rfl,
    (h c).2.2.2.1.trans rfl, (h c).2.2.2.2⟩) (Value.run m ρ)
  funext i
  obtain ⟨a, b, rfl⟩ : ∃ (a : Fin 1024) (b : Fin 2048), i = ix2 a b := ⟨i 0, i 1, by pointwise⟩
  refine Eq.trans ?_ (Ffn.step_eq _ _ _ _ _)
  pointwise [Ffn.mid, Ffn.rms, Ffn.half, Ideal.logistic]

end Cert.Reference3Ideal.Ffn

end
-- ==== Proof.Cast.Blocks.lean ====
/- The first half step's main launch, point by point: what each stored value is at an index, where each block sits in its
   array, and what one point adds to its rows. -/
module

public import proofs.«01_k».proof.Proof.Cast.Data
public import proofs.«01_k».proof.Proof.Ffn.Math
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Kernel4Ideal.Hand
open Cert.Kernel4Ideal Cert.Kernel4Ideal.Gen

variable (m : (ℓ : Loc nD τ sig) → Buf (Elt Ideal) ℓ)

/-! ## The stored values -/

theorem pay10_at (x : FVec Ideal S1024x2048 .f32) (g : FVec Ideal S1x2048 .f32) (a : Fin 1024) (k : Fin 2048) :
    k0_pay10 (F := Ideal) x g (ix2 a k) = Ffn.rms (fun l => x (ix2 a l)) (fun l => g (ix2 0 l)) k := by
  pointwise [k0_pay10, Ffn.rms]

/-- The normalised rows the first point of a run stores in the carried scratch. -/
theorem pay11_at (x : FVec Ideal S1024x2048 .f32) (g : FVec Ideal S1x2048 .f32) (a : Fin 1024) (k : Fin 2048) :
    k0_pay11 (F := Ideal) x g (ix2 a k) = Ffn.rms (fun l => x (ix2 a l)) (fun l => g (ix2 0 l)) k := by
  pointwise [k0_pay11, pay10_at]

/-- One tile of hidden units: its part of entry `b` of the row with normalised entries `u`. -/
def tile (u : Fin 2048 → EReal) (wg wu : FVec Ideal S2048x512 .bf16) (wd : FVec Ideal S512x2048 .bf16)
    (b : Fin 2048) : EReal :=
  ∑ f : Fin 512, Ffn.mid u (fun k => wg (ix2 k f)) (fun k => wu (ix2 k f)) * Ffn.half * wd (ix2 f b)

theorem pay12_at (wg wu : FVec Ideal S2048x512 .bf16) (wd : FVec Ideal S512x2048 .bf16)
    (x : FVec Ideal S1024x2048 .f32) (g : FVec Ideal S1x2048 .f32) (j : S1024x2048.Idx) :
    k0_pay12 (F := Ideal) wg wu wd x g j
      = x j + tile (Ffn.rms (fun l => x (ix2 (j 0) l)) (fun l => g (ix2 0 l))) wg wu wd (j 1) := by
  pointwise [k0_pay12, tile, Ffn.mid, pay10_at]

theorem pay6_at (wg wu : FVec Ideal S2048x512 .bf16) (wd : FVec Ideal S512x2048 .bf16)
    (acc : FVec Ideal S1024x2048 .f32) (u : FVec Ideal S1024x2048 .bf16) (j : S1024x2048.Idx) :
    k0_pay6 (F := Ideal) wg wu wd acc u j = acc j + tile (fun k => u (ix2 (j 0) k)) wg wu wd (j 1) := by
  pointwise [k0_pay6, tile, Ffn.mid]

theorem pay1_at (w : FVec Ideal S128x512 .f32) (j : S128x512.Idx) : k0_pay1 (F := Ideal) w j = w j := by
  pointwise [k0_pay1]

theorem pay2_at (w : FVec Ideal S128x512 .f32) (j : S128x512.Idx) : k0_pay2 (F := Ideal) w j = w j := by
  pointwise [k0_pay2]

theorem pay3_at (w : FVec Ideal S512x128 .f32) (j : S512x128.Idx) : k0_pay3 (F := Ideal) w j = w j := by
  pointwise [k0_pay3]

/-! ## The blocks -/

/-- The blocks of the residual and of the tiles of weights, at a point of a later block row. -/
theorem idx : ∀ t : Fin cfg0.N, 11 ≤ t.val → win0_0.index t = ![t.val / 11, 0] ∧ win0_1.index t = ![0, 0]
    ∧ win0_2.index t = ![0, t.val % 11] ∧ win0_3.index t = ![0, t.val % 11] ∧ win0_4.index t = ![t.val % 11, 0] :=
  (by decide +kernel : ∀ t : Fin grid0.N, _)

/-- The block of the given first rows, at a point of the first block row. -/
theorem idx_head : ∀ t : Fin cfg0.N, t.val < 8 → win0_5.index t = ![t.val, 0] ∧ k0_off1 (grid0.coords t) = ![128 * t.val, 0] :=
  (by decide +kernel : ∀ t : Fin grid0.N, _)

/-- The blocks of the results and of the weights to cast, at any point. -/
theorem idx_out : ∀ t : Fin cfg0.N, win0_9.index t = ![t.val / 11, 0]
    ∧ win0_6.index t = ![t.val / 11, t.val % 11] ∧ win0_7.index t = ![t.val / 11, t.val % 11]
    ∧ win0_8.index t = ![t.val % 11, t.val / 11] ∧ win0_10.index t = ![t.val / 11, t.val % 11]
    ∧ win0_11.index t = ![t.val / 11, t.val % 11] ∧ win0_12.index t = ![t.val % 11, t.val / 11] :=
  (by decide +kernel : ∀ t : Fin grid0.N, _)

/-- Row `a` of row block `t / 11`, as a row of the array. -/
def row (t : Fin cfg0.N) (a : Fin 1024) : Fin 16384 :=
  ⟨t.val / 11 * 1024 + a.val, by have := lt_of_lt_of_eq t.isLt N_0; omega⟩

/-- Hidden unit `f` of tile `t % 11`, as a hidden unit of the layer. -/
def unit (t : Fin cfg0.N) (f : Fin 512) : Fin 5632 := ⟨t.val % 11 * 512 + f.val, by omega⟩

/-- The arguments, at their literal types. -/
abbrev X (c : Dev nD) : FVec Ideal S16384x2048 .f32 := m ((c : Thread nD τ).loc main_arg0)
abbrev G (c : Dev nD) : FVec Ideal S1x2048 .f32 := m ((c : Thread nD τ).loc main_arg1)
abbrev WG (c : Dev nD) : FVec Ideal S2048x5632 .bf16 := m ((c : Thread nD τ).loc main_arg2)
abbrev WU (c : Dev nD) : FVec Ideal S2048x5632 .bf16 := m ((c : Thread nD τ).loc main_arg3)
abbrev WD (c : Dev nD) : FVec Ideal S5632x2048 .bf16 := m ((c : Thread nD τ).loc main_arg4)
abbrev WG2 (c : Dev nD) : FVec Ideal S2048x5632 .f32 := m ((c : Thread nD τ).loc main_arg5)
abbrev WU2 (c : Dev nD) : FVec Ideal S2048x5632 .f32 := m ((c : Thread nD τ).loc main_arg6)
abbrev WD2 (c : Dev nD) : FVec Ideal S5632x2048 .f32 := m ((c : Thread nD τ).loc main_arg7)
abbrev HEAD (c : Dev nD) : FVec Ideal S1024x2048 .f32 := m ((c : Thread nD τ).loc main_arg8)

theorem x_at (c : Dev nD) (t : Fin cfg0.N) (ht : 11 ≤ t.val) (a : Fin 1024) (l : Fin 2048) :
    (show FVec Ideal S1024x2048 .f32 from iblk m c 0 t) (ix2 a l) = X m c (ix2 (row t a) l) := by
  blk_ext [iblk, V, idx t ht, row]

theorem g_at (c : Dev nD) (t : Fin cfg0.N) (ht : 11 ≤ t.val) (l : Fin 2048) :
    (show FVec Ideal S1x2048 .f32 from iblk m c 1 t) (ix2 0 l) = G m c (ix2 0 l) := by
  blk_ext [iblk, V, idx t ht]

theorem wg_at (c : Dev nD) (t : Fin cfg0.N) (ht : 11 ≤ t.val) (k : Fin 2048) (f : Fin 512) :
    (show FVec Ideal S2048x512 .bf16 from iblk m c 2 t) (ix2 k f) = WG m c (ix2 k (unit t f)) := by
  blk_ext [iblk, V, idx t ht, unit]

theorem wu_at (c : Dev nD) (t : Fin cfg0.N) (ht : 11 ≤ t.val) (k : Fin 2048) (f : Fin 512) :
    (show FVec Ideal S2048x512 .bf16 from iblk m c 3 t) (ix2 k f) = WU m c (ix2 k (unit t f)) := by
  blk_ext [iblk, V, idx t ht, unit]

theorem wd_at (c : Dev nD) (t : Fin cfg0.N) (ht : 11 ≤ t.val) (f : Fin 512) (b : Fin 2048) :
    (show FVec Ideal S512x2048 .bf16 from iblk m c 4 t) (ix2 f b) = WD m c (ix2 (unit t f) b) := by
  blk_ext [iblk, V, idx t ht, unit]

theorem head_at (c : Dev nD) (t : Fin cfg0.N) (ht : t.val < 8) (a : Fin 128) (b : Fin 2048) :
    (show FVec Ideal S128x2048 .f32 from iblk m c 5 t) (ix2 a b)
      = HEAD m c (ix2 (⟨128 * t.val + a.val, by omega⟩ : Fin 1024) b) := by
  blk_ext [iblk, V, idx_head t ht]

/-! ## What a point adds -/

/-- The normalised row `r`. -/
abbrev U (c : Dev nD) (r : Fin 16384) : Fin 2048 → EReal :=
  Ffn.rms (fun l => X m c (ix2 r l)) (fun l => G m c (ix2 0 l))

theorem rms_at (c : Dev nD) (t : Fin cfg0.N) (ht : 11 ≤ t.val) (a : Fin 1024) :
    Ffn.rms (fun l => (show FVec Ideal S1024x2048 .f32 from iblk m c 0 t) (ix2 a l))
      (fun l => (show FVec Ideal S1x2048 .f32 from iblk m c 1 t) (ix2 0 l)) = U m c (row t a) := by
  congr 1
  · funext l; exact x_at m c t ht a l
  · funext l; exact g_at m c t ht l

/-- The scratch holds the normalised rows of the block row of the point. -/
theorem normed_at (c : Dev nD) (t : Fin cfg0.N) (ht : 11 ≤ t.val) (a : Fin 1024) :
    (fun k => (show FVec Ideal S1024x2048 .bf16 from normed m c t) (ix2 a k)) = U m c (row t a) := by
  funext k
  have hs : 11 ≤ (rowStart t).val := by simp only [rowStart]; omega
  refine (pay11_at _ _ a k).trans ((congrFun (rms_at m c (rowStart t) hs a) k).trans ?_)
  refine congrFun (congrArg (U m c) (Fin.ext ?_)) k
  simp only [row, rowStart]
  omega

/-- The part of tile `t % 11` in entry `(a, b)` of the row block of point `t`. -/
def add (c : Dev nD) (t : Fin cfg0.N) (a : Fin 1024) (b : Fin 2048) : EReal :=
  ∑ f : Fin 512, Ffn.mid (U m c (row t a)) (fun k => WG m c (ix2 k (unit t f))) (fun k => WU m c (ix2 k (unit t f)))
    * Ffn.half * WD m c (ix2 (unit t f) b)

theorem tile_at (c : Dev nD) (t : Fin cfg0.N) (ht : 11 ≤ t.val) (a : Fin 1024) (b : Fin 2048) :
    tile (U m c (row t a)) (iblk m c 2 t) (iblk m c 3 t) (iblk m c 4 t) b = add m c t a b := by
  unfold tile add
  refine Finset.sum_congr rfl fun f _ => ?_
  refine congrArg₂ (· * ·) (congrArg₂ (· * ·) (congrArg₂ (Ffn.mid _) ?_ ?_) rfl) (wd_at m c t ht f b)
  · funext k; exact wg_at m c t ht k f
  · funext k; exact wu_at m c t ht k f

/-- What point `t` adds at block index `j`: at a run's first point the residual too. -/
def part (c : Dev nD) (t : Fin cfg0.N) (j : S1024x2048.Idx) : EReal :=
  (if t.val % 11 = 0 then X m c (ix2 (row t (j 0)) (j 1)) else 0) + add m c t (j 0) (j 1)

/-- The half step at entry `(r, b)` of the array. -/
abbrev RES (c : Dev nD) (r : Fin 16384) (b : Fin 2048) : EReal :=
  Ffn.half_step (fun r l => X m c (ix2 r l)) (fun l => G m c (ix2 0 l)) (fun k f => WG m c (ix2 k f))
    (fun k f => WU m c (ix2 k f)) (fun f b => WD m c (ix2 f b)) r b

/-- The eleven parts of one run make up the half step. -/
theorem sum_part (c : Dev nD) (t : Fin cfg0.N) (ht : t.val % 11 = 11 - 1) (a : Fin 1024) (b : Fin 2048) :
    ∑ s : Fin 11, part m c ⟨11 * (t.val / 11) + s.val, Pipeline.run_point_lt_of_flush t ht s⟩ (ix2 a b)
      = RES m c (row t a) b := by
  have hr : ∀ s : Fin 11, row ⟨11 * (t.val / 11) + s.val, Pipeline.run_point_lt_of_flush t ht s⟩ a = row t a :=
    fun s => Fin.ext (by simp only [row]; omega)
  unfold part RES Ffn.half_step Ffn.step
  rw [Finset.sum_add_distrib]
  refine congrArg₂ (· + ·) ?_ ?_
  · rw [Fin.sum_univ_succ, Finset.sum_eq_zero, add_zero, if_pos (by simp)]
    · exact congrArg (fun r => X m c (ix2 r b)) (hr 0)
    · intro s _
      rw [if_neg]
      simp only [Fin.val_succ]
      omega
  · unfold add
    refine Fin.sum_mul_add_congr fun s k hl => ?_
    have hu : unit ⟨11 * (t.val / 11) + s.val, Pipeline.run_point_lt_of_flush t ht s⟩ k = ⟨s.val * 512 + k.val, hl⟩ :=
      Fin.ext (by simp only [unit]; omega)
    simp only [ix2_0, ix2_1]
    rw [hr s, hu]

end Cert.Kernel4Ideal.Hand

end
-- ==== Proof.Cast.Value.lean ====
/- The result arrays of the first half step's main launch. In the first block row the body copies the given rows, 128 at a
   point, over contents nothing states; after eight points every row of the block is one of them. In a later block row the
   first point starts the block from the residual and the others add their tile, as in the second half step. -/
module

public import proofs.«01_k».proof.Proof.Cast.Blocks
public import Idealize.ShloMosaic.Lib.Pipeline.ArrRel

@[expose] public section

set_option maxRecDepth 16384

noncomputable section

open Idealize.ShloMosaic Idealize.ShloMosaic.TcCoe Idealize.SL.Sem
open Idealize.ShloMosaic.Pipeline (Dat RDat)

namespace Cert.Kernel4Ideal.Hand
open Cert.Kernel4Ideal Cert.Kernel4Ideal.Gen

variable (m : (ℓ : Loc nD τ sig) → Buf (Elt Ideal) ℓ)

theorem fetch9 : ∀ t : Fin cfg0.N, (cfg0.win 9).fetch t = false :=
  (by decide +kernel : ∀ t : Fin grid0.N, _)

/-- What the body may leave in the output block at `t`: `out9` of something it may have left at the point before. -/
theorem leaves9 {c : Dev nD} (t : Fin cfg0.N) {Z : Vec Ideal S1024x2048 .f32} (h : (rdat m c).Leaves 9 t Z) :
    ∃ Y, Z = out9 m c t Y ∧ (t.val % 11 ≠ 0 →
      (rdat m c).Leaves 9 ⟨t.val - 1, Nat.lt_of_le_of_lt (Nat.sub_le _ _) t.isLt⟩ Y) := by
  obtain ⟨Y, hY, hZ⟩ := h
  refine ⟨Y, hZ, fun ht => ?_⟩
  rcases ((rdat m c).finds_of_pos (fetch9 t) (by omega) Y).mp hY with hf | hL
  · exact absurd ((flush0_9 _).mp hf) (by dsimp only; omega)
  · exact hL

/-! ## The first block row -/

/-- Rows 128·t to 128·t + 127 of what point `t < 8` leaves are given rows, the others are as found. -/
theorem out9_head (c : Dev nD) (t : Fin cfg0.N) (ht : t.val < 8) (Y : Vec Ideal S1024x2048 .f32) (a : Fin 1024) (b : Fin 2048) :
    out9 m c t Y (ix2 a b) = if 128 * t.val ≤ a.val ∧ a.val < 128 * t.val + 128 then HEAD m c (ix2 a b) else Y (ix2 a b) := by
  unfold out9
  rw [if_pos (by omega), if_pos (by omega), (idx_head t ht).2]
  unfold VecWindow.put
  by_cases h : 128 * t.val ≤ a.val ∧ a.val < 128 * t.val + 128
  · have h' : ∀ d : Fin 2, (![128 * t.val, 0] : Fin 2 → ℕ) d ≤ ((ix2 a b : S1024x2048.Idx) d).val
        ∧ ((ix2 a b : S1024x2048.Idx) d).val < (![128 * t.val, 0] : Fin 2 → ℕ) d + S128x2048.size d := by
      intro d
      fin_cases d
      · exact h
      · exact ⟨Nat.zero_le _, by have := b.isLt; show b.val < 0 + 2048; omega⟩
    rw [if_pos h]
    refine (dif_pos h').trans ?_
    refine Eq.trans (congrArg _ (?_ : _ = ix2 (⟨a.val - 128 * t.val, by omega⟩ : Fin 128) b)) ((head_at m c t ht _ b).trans ?_)
    · funext d
      fin_cases d
      · rfl
      · exact Fin.ext (Nat.sub_zero _)
    · refine congrArg (fun r => HEAD m c (ix2 r b)) (Fin.ext ?_)
      show 128 * t.val + (a.val - 128 * t.val) = a.val
      omega
  · rw [if_neg h]
    exact dif_neg fun h' => h (h' 0)

/-- After point `n` of the first block row the rows below 128·(n + 1) are given rows. -/
theorem head_rows (c : Dev nD) : ∀ (n : ℕ) (hn : n < cfg0.N), n < 11 → ∀ Z : Vec Ideal S1024x2048 .f32,
    (rdat m c).Leaves 9 ⟨n, hn⟩ Z → ∀ (a : Fin 1024) (b : Fin 2048), a.val < 128 * (n + 1) → Z (ix2 a b) = HEAD m c (ix2 a b) := by
  intro n
  induction n with
  | zero =>
    intro hn h11 Z hZ a b ha
    obtain ⟨Y, rfl, -⟩ := leaves9 m _ hZ
    rw [out9_head m c ⟨0, hn⟩ (Nat.zero_lt_succ 7), if_pos]
    dsimp only
    omega
  | succ n ih =>
    intro hn h11 Z hZ a b ha
    obtain ⟨Y, rfl, hY⟩ := leaves9 m _ hZ
    have hY' := hY (by dsimp only; omega)
    have hY'' : a.val < 128 * (n + 1) → Y (ix2 a b) = HEAD m c (ix2 a b) :=
      ih (Nat.lt_of_succ_lt hn) (by omega) Y hY' a b
    by_cases h8 : n + 1 < 8
    · rw [out9_head m c ⟨n + 1, hn⟩ h8]
      split
      · rfl
      · next h => exact hY'' (by dsimp only at h; omega)
    · have e : out9 m c ⟨n + 1, hn⟩ Y = Y := by
        unfold out9
        rw [if_pos (by dsimp only; omega), if_neg (by dsimp only; omega)]
      rw [e]
      exact hY'' (by have := a.isLt; omega)

/-! ## The later block rows -/

/-- The running sum of a run's parts. -/
def acc (c : Dev nD) : (n : ℕ) → n < cfg0.N → S1024x2048.Idx → EReal
  | 0, hn => part m c ⟨0, hn⟩
  | n + 1, hn => fun j => (if (n + 1) % 11 = 0 then 0 else acc c n (Nat.lt_of_succ_lt hn) j) + part m c ⟨n + 1, hn⟩ j

theorem acc_reset (c : Dev nD) (t : Fin cfg0.N) (h : t.val % 11 = 0) (j : S1024x2048.Idx) :
    acc m c t.val t.isLt j = 0 + part m c t j := by
  obtain ⟨n, hn⟩ := t
  cases n with
  | zero => exact (zero_add _).symm
  | succ n => exact congrArg (· + part m c ⟨n + 1, hn⟩ j) (if_pos h)

theorem acc_next (c : Dev nD) (t : Fin cfg0.N) (h : ¬t.val % 11 = 0) (j : S1024x2048.Idx) :
    acc m c t.val t.isLt j
      = acc m c (t.val - 1) (Nat.lt_of_le_of_lt (Nat.sub_le _ _) t.isLt) j + part m c t j := by
  obtain ⟨n, hn⟩ := t
  cases n with
  | zero => exact absurd rfl h
  | succ n => exact congrArg (· + part m c ⟨n + 1, hn⟩ j) (if_neg h)

theorem out9_first (c : Dev nD) (t : Fin cfg0.N) (ht : 11 ≤ t.val) (h : t.val % 11 = 0) (Y : Vec Ideal S1024x2048 .f32)
    (j : S1024x2048.Idx) : out9 m c t Y j = part m c t j := by
  obtain ⟨a, b, rfl⟩ : ∃ (a : Fin 1024) (b : Fin 2048), j = ix2 a b := ⟨j 0, j 1, by pointwise⟩
  unfold out9
  rw [if_neg (by omega), if_pos h, part, if_pos h]
  refine (pay12_at _ _ _ _ _ (ix2 a b)).trans (congrArg₂ (· + ·) (x_at m c t ht a b) ?_)
  exact (congrArg (fun u => tile u _ _ _ b) (rms_at m c t ht a)).trans (tile_at m c t ht a b)

theorem out9_next (c : Dev nD) (t : Fin cfg0.N) (ht : 11 ≤ t.val) (h : ¬t.val % 11 = 0) (Y : Vec Ideal S1024x2048 .f32)
    (j : S1024x2048.Idx) : out9 m c t Y j = Y j + part m c t j := by
  unfold out9
  rw [if_neg (by omega), if_neg h, part, if_neg h, zero_add]
  refine (pay6_at _ _ _ _ _ j).trans (congrArg₂ (· + ·) rfl ?_)
  exact (congrArg (fun u => tile u _ _ _ (j 1)) (normed_at m c t ht (j 0))).trans (tile_at m c t ht (j 0) (j 1))

/-- At a point of a later block row the output block holds the running sum. -/
theorem acc_rows (c : Dev nD) : ∀ (n : ℕ) (hn : n < cfg0.N), 11 ≤ n → ∀ Z : Vec Ideal S1024x2048 .f32,
    (rdat m c).Leaves 9 ⟨n, hn⟩ Z → ∀ j, Z j = acc m c n hn j := by
  intro n
  induction n with
  | zero => intro hn h11; omega
  | succ n ih =>
    intro hn h11 Z hZ j
    obtain ⟨Y, rfl, hY⟩ := leaves9 m _ hZ
    by_cases h : (n + 1) % 11 = 0
    · exact (out9_first m c ⟨n + 1, hn⟩ h11 h Y j).trans ((acc_reset m c ⟨n + 1, hn⟩ h j).trans (zero_add _)).symm
    · refine (out9_next m c ⟨n + 1, hn⟩ h11 h Y j).trans (Eq.trans ?_ (acc_next m c ⟨n + 1, hn⟩ h j).symm)
      exact congrArg (· + part m c ⟨n + 1, hn⟩ j) (ih (Nat.lt_of_succ_lt hn) (by omega) Y (hY h) j)

/-! ## The arrays -/

/-- The given rows, then the half step of the later ones. -/
def result (c : Dev nD) : FVec Ideal S16384x2048 .f32 := fun i =>
  if h : (i 0).val < 1024 then HEAD m c (ix2 (⟨(i 0).val, h⟩ : Fin 1024) (i 1)) else RES m c (i 0) (i 1)

section

variable {m} {c : Dev nD} {after : (w' : Fin cfg0.W) → Fin cfg0.N → (cfg0.win w').block.Idx → Elt Ideal (cfg0.win w').elt}
  (hL : ∀ (w : Fin cfg0.W) (u : Fin cfg0.N), (cfg0.win w).flush u = true → (rdat m c).Leaves w u (after w u))
include hL

theorem final9 : ((rdat m c).withAfter after).arrAt 9 cfg0.N = result m c := by
  refine Dat.arrAt_eq_of_covers _ 9 _ (by decide +kernel) fun t hf y => ?_
  have ht := (flush0_9 t).mp hf
  have hl := hL 9 t hf
  blk_simp
  obtain ⟨a, b, rfl⟩ : ∃ (a : Fin 1024) (b : Fin 2048), y = ix2 a b := ⟨y 0, y 1, by pointwise⟩
  have hi : ((cfg0.win 9).blk t).view.emb (ix2 a b) = (ix2 (row t a) b : S16384x2048.Idx) := by
    funext d
    fin_cases d
    · refine Fin.ext ?_
      blk_simp [idx_out t, row]
      rfl
    · refine Fin.ext ?_
      blk_simp [idx_out t]
      rfl
  refine Eq.trans ?_ (congrArg (result m c) hi).symm
  unfold result
  by_cases h : t.val < 11
  · have hr : (row t a).val = a.val := by simp only [row]; omega
    refine Eq.trans ?_ (dif_pos (show (row t a).val < 1024 by have := a.isLt; omega)).symm
    refine (head_rows m c t.val t.isLt h _ hl a b (by have := a.isLt; omega)).trans ?_
    exact congrArg (fun r => HEAD m c (ix2 r b)) (Fin.ext hr.symm)
  · refine Eq.trans ?_ (dif_neg (show ¬(row t a).val < 1024 by simp only [row]; omega)).symm
    refine (acc_rows m c t.val t.isLt (by omega) _ hl (ix2 a b)).trans ?_
    rw [Pipeline.eq_sum_fin_of_reset_step_apply_of_flush (acc m c) 11 (fun _ => 0) (part m c)
      (acc_reset m c) (acc_next m c) t ht _, zero_add]
    exact sum_part m c t ht a b

theorem final10 : ((rdat m c).withAfter after).arrAt 10 cfg0.N = (show FVec Ideal S2048x5632 .bf16 from fun i => WG2 m c i) := by
  refine Dat.arrAt_eq_of_covers _ 10 _ (by decide +kernel) fun t hf y => ?_
  obtain ⟨Y, -, hY⟩ := hL 10 t hf
  have hX : after 10 t = k0_pay1 (iblk m c 6 t) := hY
  blk_simp
  refine (congrFun hX _).trans ((pay1_at _ _).trans ?_)
  blk_ext [iblk, V, idx_out t]

theorem final11 : ((rdat m c).withAfter after).arrAt 11 cfg0.N = (show FVec Ideal S2048x5632 .bf16 from fun i => WU2 m c i) := by
  refine Dat.arrAt_eq_of_covers _ 11 _ (by decide +kernel) fun t hf y => ?_
  obtain ⟨Y, -, hY⟩ := hL 11 t hf
  have hX : after 11 t = k0_pay2 (iblk m c 7 t) := hY
  blk_simp
  refine (congrFun hX _).trans ((pay2_at _ _).trans ?_)
  blk_ext [iblk, V, idx_out t]

theorem final12 : ((rdat m c).withAfter after).arrAt 12 cfg0.N = (show FVec Ideal S5632x2048 .bf16 from fun i => WD2 m c i) := by
  refine Dat.arrAt_eq_of_covers _ 12 _ (by decide +kernel) fun t hf y => ?_
  obtain ⟨Y, -, hY⟩ := hL 12 t hf
  have hX : after 12 t = k0_pay3 (iblk m c 8 t) := hY
  blk_simp
  refine (congrFun hX _).trans ((pay3_at _ _).trans ?_)
  blk_ext [iblk, V, idx_out t]

end

/-- The kernel's run. -/
theorem run (ρ : Dev nD → PrngReg) : θ_run defs (onTc (τ := τ) (main (F := Ideal))) ⟨m, fun _ => 0, ρ⟩ fun r => ∀ c : Dev nD,
      r.2.mem ((c : Thread nD τ).loc main_v0_0) = result m c
      ∧ r.2.mem ((c : Thread nD τ).loc main_v0_1) = (show FVec Ideal S2048x5632 .bf16 from fun i => WG2 m c i)
      ∧ r.2.mem ((c : Thread nD τ).loc main_v0_2) = (show FVec Ideal S2048x5632 .bf16 from fun i => WU2 m c i)
      ∧ r.2.mem ((c : Thread nD τ).loc main_v0_3) = (show FVec Ideal S5632x2048 .bf16 from fun i => WD2 m c i)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) := by
  refine (θ_run defs _ _).mono (fun r h c => ?_) (run_main m ρ)
  obtain ⟨after, hL, hA⟩ := RDat.FramePost.exists_exact h c
  exact ⟨(hA 9).trans (final9 hL), (hA 10).trans (final10 hL), (hA 11).trans (final11 hL), (hA 12).trans (final12 hL),
    h.arr_in c 0 rfl, h.arr_in c 1 rfl, h.arr_in c 2 rfl, h.arr_in c 3 rfl,
    h.arr_in c 4 rfl, h.arr_in c 6 rfl, h.arr_in c 7 rfl, h.arr_in c 8 rfl, h.arr_in c 5 rfl⟩

end Cert.Kernel4Ideal.Hand

end
-- ==== Proof.Cast.Reference.lean ====
/- The plain reference of the first half step's main launch: the given rows first, the half step of every later row, and
   the second half step's weights cast. -/
module

public import proofs.«01_k».proof.Proof.Gen.Reference4Ideal.Run
public import proofs.«01_k».proof.Proof.Ffn.Math
public import Idealize.ShloMosaic.Lib.Pipeline.ValueKit

@[expose] public section

set_option maxRecDepth 16384

noncomputable section

open Idealize.ShloMosaic Idealize.ShloMosaic.TcCoe Idealize.SL.Sem

namespace Cert.Reference4Ideal.Ffn
open Cert.Reference4Ideal Cert.Reference4Ideal.Gen

/-- The given rows, then the half step of the later ones. -/
def result (X : FVec Ideal S16384x2048 .f32) (G : FVec Ideal S1x2048 .f32) (WG WU : FVec Ideal S2048x5632 .bf16)
    (WD : FVec Ideal S5632x2048 .bf16) (H : FVec Ideal S1024x2048 .f32) : FVec Ideal S16384x2048 .f32 := fun i =>
  if h : (i 0).val < 1024 then H (ix2 (⟨(i 0).val, h⟩ : Fin 1024) (i 1))
  else Ffn.half_step (fun r l => X (ix2 r l)) (fun l => G (ix2 0 l)) (fun k f => WG (ix2 k f))
    (fun k f => WU (ix2 k f)) (fun f b => WD (ix2 f b)) (i 0) (i 1)

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v24)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg8))
      ∧ r.2.mem ((c : Thread nD τ).loc main_v25)
        = (show FVec Ideal S2048x5632 .bf16 from fun i => (m ((c : Thread nD τ).loc main_arg5) : FVec Ideal S2048x5632 .f32) i)
      ∧ r.2.mem ((c : Thread nD τ).loc main_v26)
        = (show FVec Ideal S2048x5632 .bf16 from fun i => (m ((c : Thread nD τ).loc main_arg6) : FVec Ideal S2048x5632 .f32) i)
      ∧ r.2.mem ((c : Thread nD τ).loc main_v27)
        = (show FVec Ideal S5632x2048 .bf16 from fun i => (m ((c : Thread nD τ).loc main_arg7) : FVec Ideal S5632x2048 .f32) i)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) := by
  refine (θ_run defs _ _).mono (fun r h c => ⟨(h c).1.trans ?_, (h c).2.1.trans rfl, (h c).2.2.1.trans rfl,
    (h c).2.2.2.1.trans rfl, (h c).2.2.2.2⟩) (Value.run m ρ)
  funext i
  obtain ⟨a, b, rfl⟩ : ∃ (a : Fin 16384) (b : Fin 2048), i = ix2 a b := ⟨i 0, i 1, by pointwise⟩
  unfold result
  by_cases ha : a.val < 1024
  · refine Eq.trans ?_ (dif_pos ha).symm
    pointwise [ha]
  · refine Eq.trans ?_ (dif_neg ha).symm
    refine Eq.trans ?_ (Ffn.step_eq _ _ _ _ _)
    have ha' : 1024 + (a.val - 1024) = a.val := by omega
    pointwise [ha, ha', Ffn.mid, Ffn.rms, Ffn.half, Ideal.logistic]

end Cert.Reference4Ideal.Ffn

end
-- ==== Proof.Out.Math.lean ====
/- The arithmetic of the output projection over the extended reals: the row norm of one group of heads, one result entry,
   and the order in which the heads of the sliding window attention are stored. -/
module

public import Idealize.ShloMosaic.Lib.Pipeline.ValueKit

@[expose] public section

set_option maxRecDepth 16384

noncomputable section

open Idealize.ShloMosaic

namespace Cert.Out

/-- Entry `k` of the normalised row of one group: `x k / sqrt (mean of x² + eps) * g k`. -/
def rms (x g : Fin 1024 → EReal) (k : Fin 1024) : EReal :=
  x k * Ideal.rsqrt (Ideal.div (∑ l, x l * x l) (Ideal.ofBits .f32 1149239296#32) + Ideal.ofBits .f32 897988541#32) * g k

/-- One result entry: the residual, and the products of the two normalised groups with their halves of the weights. -/
def entry (r : EReal) (u v wu wv : Fin 1024 → EReal) : EReal :=
  r + (∑ k, u k * wu k + ∑ k, v k * wv k)

/-- The weight row that column `k` of the sliding window attention meets. Columns come by pair of key heads (512), query
    head of the group (128), member of the pair (64) and lane; rows by pair, member, query head and lane. -/
def home (k : Fin 1024) : Fin 1024 :=
  ⟨k.val / 512 * 512 + k.val / 64 % 2 * 256 + k.val / 128 % 4 * 64 + k.val % 64, by omega⟩

end Cert.Out

end
-- ==== Proof.Out.Value.lean ====
/- The output projection: thirty-two blocks of 512 rows. The first point also puts the sliding window attention's weight rows,
   head by head, into a scratch in the order of that attention's columns. -/
module

public import proofs.«01_k».proof.Proof.Gen.Kernel5Ideal.Frame
public import proofs.«01_k».proof.Proof.Out.Math
public import Idealize.ShloMosaic.Lib.Pipeline.ValueKit
public import Idealize.ShloMosaic.Lib.Pipeline.ReadBack
public import Idealize.ShloMosaic.Lib.Pipeline.ValueKit.Held

@[expose] public section

set_option maxRecDepth 16384

noncomputable section

open Idealize.ShloMosaic Idealize.ShloMosaic.TcCoe Idealize.SL.Sem
open Idealize.ShloMosaic.Pipeline (Dat)

namespace Cert.Kernel5Ideal.Out
open Cert.Kernel5Ideal Cert.Kernel5Ideal.Gen

variable (m : (ℓ : Loc nD τ sig) → Buf (Elt Ideal) ℓ)

/-- The weight rows in the order of the sliding window attention's columns. -/
def sorted (w : FVec Ideal S1024x2048 .bf16) : FVec Ideal S1024x2048 .bf16 := fun i => w (ix2 (Out.home (i 0)) (i 1))

/-- Sixteen stores of 64 rows each put the rows in that order. -/
theorem scratch_A (c : Dev nD) (t : Fin cfg0.N) (h : t.val % 32 = 0) : (outsAt0 m c t.val t.isLt).2 = sorted (iblk m c 6 t) := by
  rw [outsAt0_A m c t h]
  frame_out
  funext y
  canon_tiles x g
  all_goals
    open_payloads
    pointwise [sorted]
    refine congrArg₂ (fun i j => (show FVec Ideal S1024x2048 .bf16 from iblk m c 6 t) (ix2 i j)) (Fin.ext ?_) (Fin.ext g1.symm)
    simp only [Out.home]
    omega

/-- The later points leave the scratch as it is. -/
theorem scratch_B (c : Dev nD) (t : Fin cfg0.N) (h : ¬t.val % 32 = 0) :
    (outsAt0 m c t.val t.isLt).2 = (outsAt0 m c (t.val - 1) (Nat.lt_of_le_of_lt (Nat.sub_le _ _) t.isLt)).2 := by
  rw [outsAt0_B m c t h]
  rfl

/-- The block a point leaves, from its rows, the gains and the two halves of the weights. -/
def block (x0 x1 : FVec Ideal S512x1024 .bf16) (x2 : FVec Ideal S512x2048 .f32) (x3 x4 : FVec Ideal S1x1024 .f32)
    (x5 s : FVec Ideal S1024x2048 .bf16) : FVec Ideal S512x2048 .f32 := fun y =>
  Out.entry (x2 (ix2 (y 0) (y 1))) (Out.rms (fun l => x0 (ix2 (y 0) l)) (fun l => x3 (ix2 0 l)))
    (Out.rms (fun l => x1 (ix2 (y 0) l)) (fun l => x4 (ix2 0 l))) (fun k => x5 (ix2 k (y 1))) (fun k => s (ix2 k (y 1)))

section
variable (x0 x1 : FVec Ideal S512x1024 .bf16) (x2 : FVec Ideal S512x2048 .f32) (x3 x4 : FVec Ideal S1x1024 .f32)
    (x5 s : FVec Ideal S1024x2048 .bf16) (x : S256x2048.Idx) (y : S512x2048.Idx)

/-- The first 256 rows of the block. -/
theorem upper (g0 : (y 0).val = (x 0).val) (g1 : (y 1).val = (x 1).val) :
    k0_pay23 (k0_pay18 (View.ld (Val := Elt Ideal) (e' := .bf16) (S := S512x1024) x0 (Rect.unit (s := S512x1024) ![0, 0] ![256, 1024] inb_S512x1024_S256x1024_0_0)) x3)
      (k0_pay19 (View.ld (Val := Elt Ideal) (e' := .bf16) (S := S512x1024) x1 (Rect.unit (s := S512x1024) ![0, 0] ![256, 1024] inb_S512x1024_S256x1024_0_0)) x4) x5 s
      (View.ld (Val := Elt Ideal) (e' := .f32) (S := S512x2048) x2 (Rect.unit (s := S512x2048) ![0, 0] ![256, 2048] inb_S512x2048_S256x2048_0_0)) x = block x0 x1 x2 x3 x4 x5 s y := by
  obtain ⟨a, b, rfl⟩ : ∃ (a : Fin 512) (b : Fin 2048), y = ix2 a b := ⟨y 0, y 1, by pointwise⟩
  pointwise [block, Out.entry, Out.rms, k0_pay23, k0_pay18, k0_pay19]
  rw [show a = ⟨_, lt_of_eq_of_lt g0.symm a.isLt⟩ from Fin.ext g0, show b = x 1 from Fin.ext g1]

/-- The other 256 rows. -/
theorem lower (g0 : (y 0).val = 256 + (x 0).val) (g1 : (y 1).val = (x 1).val) :
    k0_pay1 (k0_pay21 (k0_pay20 (View.ld (Val := Elt Ideal) (e' := .bf16) (S := S512x1024) x0 (Rect.unit (s := S512x1024) ![256, 0] ![256, 1024] inb_S512x1024_S256x1024_256_0))) x3)
      (k0_pay22 (View.ld (Val := Elt Ideal) (e' := .bf16) (S := S512x1024) x1 (Rect.unit (s := S512x1024) ![256, 0] ![256, 1024] inb_S512x1024_S256x1024_256_0)) x4) x5 s
      (View.ld (Val := Elt Ideal) (e' := .f32) (S := S512x2048) x2 (Rect.unit (s := S512x2048) ![256, 0] ![256, 2048] inb_S512x2048_S256x2048_256_0)) x = block x0 x1 x2 x3 x4 x5 s y := by
  obtain ⟨a, b, rfl⟩ : ∃ (a : Fin 512) (b : Fin 2048), y = ix2 a b := ⟨y 0, y 1, by pointwise⟩
  pointwise [block, Out.entry, Out.rms, k0_pay1, k0_pay20, k0_pay21, k0_pay22]
  rw [show a = ⟨_, lt_of_eq_of_lt g0.symm a.isLt⟩ from Fin.ext g0, show b = x 1 from Fin.ext g1]
end

theorem out_B (c : Dev nD) (t : Fin cfg0.N) (h : ¬t.val % 32 = 0) :
    (outsAt0 m c t.val t.isLt).1 = block (iblk m c 0 t) (iblk m c 1 t) (iblk m c 2 t) (iblk m c 3 t) (iblk m c 4 t) (iblk m c 5 t)
      (outsAt0 m c t.val t.isLt).2 := by
  rw [scratch_B m c t h, outsAt0_B m c t h]
  frame_out
  rw [Idealize.ShloMosaic.read_unread_whole]
  funext y
  generalize (outsAt0 m c (t.val - 1) (Nat.lt_of_le_of_lt (Nat.sub_le _ _) t.isLt)).2 = s
  canon_tiles x g
  case piece0 => exact lower _ _ _ _ _ _ s x y g0 g1
  case piece1 => exact upper _ _ _ _ _ _ s x y g0 g1

theorem out_A (c : Dev nD) (t : Fin cfg0.N) (h : t.val % 32 = 0) :
    (outsAt0 m c t.val t.isLt).1 = block (iblk m c 0 t) (iblk m c 1 t) (iblk m c 2 t) (iblk m c 3 t) (iblk m c 4 t) (iblk m c 5 t)
      (outsAt0 m c t.val t.isLt).2 := by
  have hw := scratch_A m c t h
  rw [hw]
  rw [outsAt0_A m c t h] at hw ⊢
  frame_out at hw
  frame_out
  generalize hs : View.readCov (Val := Elt Ideal) (View.whole cc0_scratch0) _ _ = s
  have he : s = sorted (iblk m c 6 t) := by
    rw [← hs]
    refine (View.readCov_eq_canon' (Val := Elt Ideal) _ _ _).trans ?_
    rw [hw]
    funext j
    pointwise
  rw [← he]
  funext y
  canon_tiles x g
  case piece0 => exact lower _ _ _ _ _ _ s x y g0 g1
  case piece1 => exact upper _ _ _ _ _ _ s x y g0 g1

/-! ## The blocks -/

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![1, 0]
    ∧ win0_7.index t = ![t.val, 0] :=
  (by decide +kernel : ∀ t : Fin grid0.N, _)

/-- Row `a` of row block `t`, as a row of the array. -/
def row (t : Fin cfg0.N) (a : Fin 512) : Fin 16384 :=
  ⟨t.val * 512 + a.val, by have := lt_of_lt_of_eq t.isLt N_0; omega⟩

/-- The arguments, at their literal types. -/
abbrev OF (c : Dev nD) : FVec Ideal S16384x1024 .bf16 := m ((c : Thread nD τ).loc main_arg0)
abbrev OS (c : Dev nD) : FVec Ideal S16384x1024 .bf16 := m ((c : Thread nD τ).loc main_arg1)
abbrev H (c : Dev nD) : FVec Ideal S16384x2048 .f32 := m ((c : Thread nD τ).loc main_arg2)
abbrev GF (c : Dev nD) : FVec Ideal S1x1024 .f32 := m ((c : Thread nD τ).loc main_arg3)
abbrev GS (c : Dev nD) : FVec Ideal S1x1024 .f32 := m ((c : Thread nD τ).loc main_arg4)
abbrev W (c : Dev nD) : FVec Ideal S2048x2048 .bf16 := m ((c : Thread nD τ).loc main_arg5)

theorem of_at (c : Dev nD) (t : Fin cfg0.N) (a : Fin 512) (l : Fin 1024) :
    (show FVec Ideal S512x1024 .bf16 from iblk m c 0 t) (ix2 a l) = OF m c (ix2 (row t a) l) := by
  blk_ext [iblk, V, idx t, row]

theorem os_at (c : Dev nD) (t : Fin cfg0.N) (a : Fin 512) (l : Fin 1024) :
    (show FVec Ideal S512x1024 .bf16 from iblk m c 1 t) (ix2 a l) = OS m c (ix2 (row t a) l) := by
  blk_ext [iblk, V, idx t, row]

theorem h_at (c : Dev nD) (t : Fin cfg0.N) (a : Fin 512) (b : Fin 2048) :
    (show FVec Ideal S512x2048 .f32 from iblk m c 2 t) (ix2 a b) = H m c (ix2 (row t a) b) := by
  blk_ext [iblk, V, idx t, row]

theorem gf_at (c : Dev nD) (t : Fin cfg0.N) (l : Fin 1024) :
    (show FVec Ideal S1x1024 .f32 from iblk m c 3 t) (ix2 0 l) = GF m c (ix2 0 l) := by
  blk_ext [iblk, V, idx t]

theorem gs_at (c : Dev nD) (t : Fin cfg0.N) (l : Fin 1024) :
    (show FVec Ideal S1x1024 .f32 from iblk m c 4 t) (ix2 0 l) = GS m c (ix2 0 l) := by
  blk_ext [iblk, V, idx t]

theorem wf_at (c : Dev nD) (t : Fin cfg0.N) (k : Fin 1024) (b : Fin 2048) :
    (show FVec Ideal S1024x2048 .bf16 from iblk m c 5 t) (ix2 k b) = W m c (ix2 (Fin.castAdd 1024 k : Fin (1024 + 1024)) b) := by
  blk_ext [iblk, V, idx t, Fin.castAdd, Fin.castLE]

theorem ws_at (c : Dev nD) (t : Fin cfg0.N) (k : Fin 1024) (b : Fin 2048) :
    (show FVec Ideal S1024x2048 .bf16 from iblk m c 6 t) (ix2 k b) = W m c (ix2 (Fin.natAdd 1024 k : Fin (1024 + 1024)) b) := by
  blk_ext [iblk, V, idx t, Fin.natAdd]

/-- The scratch holds the second half of the weights, its rows in the other order, at every point. -/
theorem held (c : Dev nD) (t : Fin cfg0.N) (k : Fin 1024) (b : Fin 2048) :
    (show FVec Ideal S1024x2048 .bf16 from (outsAt0 m c t.val t.isLt).2) (ix2 k b)
      = W m c (ix2 (Fin.natAdd 1024 (Out.home k) : Fin (1024 + 1024)) b) := by
  have h := Pipeline.eq_of_write_hold (fun n h => (outsAt0 m c n h).2) 32 (fun t => sorted (iblk m c 6 t))
    (scratch_A m c) (scratch_B m c) t
  exact (congrFun h (ix2 k b)).trans (ws_at m c _ (Out.home k) b)

/-- What every point leaves in its result block. -/
theorem out (c : Dev nD) (t : Fin cfg0.N) :
    (outsAt0 m c t.val t.isLt).1 = block (iblk m c 0 t) (iblk m c 1 t) (iblk m c 2 t) (iblk m c 3 t) (iblk m c 4 t) (iblk m c 5 t)
      (outsAt0 m c t.val t.isLt).2 := by
  by_cases h : t.val % 32 = 0
  · exact out_A m c t h
  · exact out_B m c t h

/-- Entry `(r, b)` of the result. -/
abbrev RES (c : Dev nD) (r : Fin 16384) (b : Fin 2048) : EReal :=
  Out.entry (H m c (ix2 r b)) (Out.rms (fun l => OF m c (ix2 r l)) (fun l => GF m c (ix2 0 l)))
    (Out.rms (fun l => OS m c (ix2 r l)) (fun l => GS m c (ix2 0 l)))
    (fun k => W m c (ix2 (Fin.castAdd 1024 k : Fin (1024 + 1024)) b))
    (fun k => W m c (ix2 (Fin.natAdd 1024 (Out.home k) : Fin (1024 + 1024)) b))

theorem out_at (c : Dev nD) (t : Fin cfg0.N) (a : Fin 512) (b : Fin 2048) :
    (show FVec Ideal S512x2048 .f32 from (outsAt0 m c t.val t.isLt).1) (ix2 a b) = RES m c (row t a) b := by
  refine (congrFun (out m c t) (ix2 a b)).trans ?_
  unfold block RES
  simp only [ix2_0, ix2_1]
  congr 1
  · exact h_at m c t a b
  · exact congrArg₂ Out.rms (funext (of_at m c t a)) (funext (gf_at m c t))
  · exact congrArg₂ Out.rms (funext (os_at m c t a)) (funext (gs_at m c t))
  · exact funext fun k => wf_at m c t k b
  · exact funext fun k => held m c t k b

/-- The result array. -/
theorem final (c : Dev nD) : (dats m 0 c).arrAt 7 (cfgs 0).N = fun i : S16384x2048.Idx => RES m c (i 0) (i 1) := by
  refine (dats m 0 c).arrAt_eq_of_covers 7 _ (by decide +kernel) fun t hf y => ?_
  blk_simp
  rw [after0_7]
  obtain ⟨a, b, rfl⟩ : ∃ (a : Fin 512) (b : Fin 2048), y = ix2 a b := ⟨y 0, y 1, by pointwise⟩
  refine (out_at m c t a b).trans (congrArg₂ (RES m c) (Fin.ext ?_) (Fin.ext ?_))
  · blk_simp [idx t, row]
  · blk_simp [idx t]

end Cert.Kernel5Ideal.Out

end
-- ==== Proof.Out.Reference.lean ====
/- The run of the output projection's reference: every result entry is `Out.entry` of its row and column. -/
module

public import proofs.«01_k».proof.Proof.Gen.Reference5Ideal.Run
public import proofs.«01_k».proof.Proof.Out.Math
public import Idealize.ShloMosaic.Lib.Pipeline.ValueKit

@[expose] public section

set_option maxRecDepth 16384

noncomputable section

open Idealize.ShloMosaic Idealize.ShloMosaic.TcCoe Idealize.SL.Sem

namespace Cert.Reference5Ideal.Out
open Cert.Reference5Ideal Cert.Reference5Ideal.Gen

/-- The reference's run: its result, and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v35) = (fun i : S16384x2048.Idx =>
        Out.entry ((m ((c : Thread nD τ).loc main_arg2) : FVec Ideal S16384x2048 .f32) (ix2 (i 0) (i 1)))
          (Out.rms (fun l => (m ((c : Thread nD τ).loc main_arg0) : FVec Ideal S16384x1024 .bf16) (ix2 (i 0) l))
            (fun l => (m ((c : Thread nD τ).loc main_arg3) : FVec Ideal S1x1024 .f32) (ix2 0 l)))
          (Out.rms (fun l => (m ((c : Thread nD τ).loc main_arg1) : FVec Ideal S16384x1024 .bf16) (ix2 (i 0) l))
            (fun l => (m ((c : Thread nD τ).loc main_arg4) : FVec Ideal S1x1024 .f32) (ix2 0 l)))
          (fun k => (m ((c : Thread nD τ).loc main_arg5) : FVec Ideal S2048x2048 .bf16) (ix2 (Fin.castAdd 1024 k : Fin (1024 + 1024)) (i 1)))
          (fun k => (m ((c : Thread nD τ).loc main_arg5) : FVec Ideal S2048x2048 .bf16) (ix2 (Fin.natAdd 1024 (Out.home k) : Fin (1024 + 1024)) (i 1))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ⟨(h c).1.trans ?_, (h c).2⟩) (Value.run m ρ)
  funext i
  obtain ⟨a, b, rfl⟩ : ∃ (a : Fin 16384) (b : Fin 2048), i = ix2 a b := ⟨i 0, i 1, by pointwise⟩
  pointwise [Out.entry]
  rfl

end Cert.Reference5Ideal.Out

end
-- ==== Proof.ClaimsFfn.lean ====
/- Kernel against reference, for the second half step, the first half step's first block row and its later ones, and for the
   output projection. -/
module

public import proofs.«01_k».proof.Defs
public import proofs.«01_k».proof.Proof.Gen.Kernel2.Frame
public import proofs.«01_k».proof.Proof.Ffn.Two
public import proofs.«01_k».proof.Proof.Ffn.Head
public import proofs.«01_k».proof.Proof.Cast.Value
public import proofs.«01_k».proof.Proof.Cast.Reference
public import proofs.«01_k».proof.Proof.Out.Value
public import proofs.«01_k».proof.Proof.Out.Reference
public import Idealize.ShloMosaic.Lib.Claim

@[expose] public section

set_option maxRecDepth 16384

noncomputable section

namespace Cert.Proof

open Idealize.ShloMosaic Idealize.ShloMosaic.TcCoe Idealize.SL.Sem

theorem algebraic2 : Cert.algebraic_Kernel2Ideal_Reference2Ideal := by
  pair_intro
  · run_from Cert.Kernel2Ideal.Gen.run_main m g
  · run_from Cert.Reference2Ideal.Ffn.run m' g'
    exact (Cert.Kernel2Ideal.Ffn.final m c).symm

theorem algebraic3 : Cert.algebraic_Kernel3Ideal_Reference3Ideal := by
  pair_intro
  · run_from Cert.Kernel3Ideal.Gen.run_main m g
  · run_from Cert.Reference3Ideal.Ffn.run m' g'
    · exact (Cert.Kernel3Ideal.Ffn.final m c).symm
    · exact (Cert.Kernel3Ideal.Ffn.final_wg m c).symm
    · exact (Cert.Kernel3Ideal.Ffn.final_wu m c).symm
    · exact (Cert.Kernel3Ideal.Ffn.final_wd m c).symm

theorem algebraic4 : Cert.algebraic_Kernel4Ideal_Reference4Ideal := by
  intro m g m' g' _ h
  refine ⟨_, _, _, _, Cert.Kernel4Ideal.Hand.run m g, ?_⟩
  refine (θ_run _ _ _).mono (fun r hr c => ?_) (Cert.Reference4Ideal.Ffn.run m' g')
  obtain ⟨h0, h1, h2, h3, h4, h5, h6, h7, h8⟩ := h c
  have hc := hr c
  rw [h0, h1, h2, h3, h4, h5, h6, h7, h8] at hc
  rw [h0, h1, h2, h3, h4, h5, h6, h7, h8]
  exact hc

theorem algebraic5 : Cert.algebraic_Kernel5Ideal_Reference5Ideal := by
  pair_intro
  · run_from Cert.Kernel5Ideal.Gen.run_main m g
  · run_from Cert.Reference5Ideal.Out.run m' g'
    exact (Cert.Kernel5Ideal.Out.final m c).symm

end Cert.Proof

end
-- ==== Proof.Fox.Rows.lean ====
/- Rows of one member of a stack, read back after the member was stored whole. -/
module

public import Idealize.ShloMosaic.Lib.Pipeline.ValueKit
public import Idealize.ShloMosaic.Lib.Pipeline.ReadBack

@[expose] public section

noncomputable section

open Idealize.ShloMosaic

namespace Cert.Fox

/-- The rows' bounds inside the member, from their bounds inside the stack. -/
theorem member_inb {G R C g o n : ℕ} (inb' : ∀ a, (![g, o, 0] : Fin 3 → ℕ) a + (![1, n, C] : Fin 3 → ℕ) a ≤ (⟨3, ![G, R, C]⟩ : Shape).size a) :
    ∀ a, (![0, o, 0] : Fin 3 → ℕ) a + (![1, n, C] : Fin 3 → ℕ) a ≤ (⟨3, ![1, R, C]⟩ : Shape).size a := by
  intro a
  have h : o + n ≤ R := inb' 1
  fin_cases a
  · exact le_refl 1
  · exact h
  · exact (Nat.zero_add C).le

/-- A load of rows of member `g` of a stack, after that member was stored whole, reads the stored rows. -/
theorem readCov_member {sig : RefSig} {κ : Kind} {sp : Space} {e : EltTy} {Val : EltTy → Type} [∀ e, Nonempty (Val e)] {G R C : ℕ}
    (v : View sig κ sp ⟨3, ![G, R, C]⟩ e) (g o n : ℕ) (inb : ∀ a, (![g, 0, 0] : Fin 3 → ℕ) a + (![1, R, C] : Fin 3 → ℕ) a ≤ (⟨3, ![G, R, C]⟩ : Shape).size a)
    (inb' : ∀ a, (![g, o, 0] : Fin 3 → ℕ) a + (![1, n, C] : Fin 3 → ℕ) a ≤ (⟨3, ![G, R, C]⟩ : Shape).size a)
    (w : (⟨3, ![1, R, C]⟩ : Shape).Idx → Val e) (L : List (View.Piece Val ⟨3, ![G, R, C]⟩ e)) :
    v.readCov (⟨Rect.unit ![g, 0, 0] ![1, R, C] inb, w⟩ :: L) (Rect.unit ![g, o, 0] ![1, n, C] inb').toLoadRect
      = View.ld (Val := Val) (e' := e) (S := ⟨3, ![1, R, C]⟩) w (Rect.unit (s := ⟨3, ![1, R, C]⟩) ![0, o, 0] ![1, n, C] (member_inb inb')) := by
  rw [View.readCov_eq_canon']
  funext j
  have e1 : (Rect.unit (s := ⟨3, ![G, R, C]⟩) ![g, o, 0] ![1, n, C] inb').toLoadRect.idx j
      = (Rect.unit (s := ⟨3, ![G, R, C]⟩) ![g, 0, 0] ![1, R, C] inb).emb
          ((Rect.unit (s := ⟨3, ![1, R, C]⟩) ![0, o, 0] ![1, n, C] (member_inb inb')).idx j) := by
    funext a
    apply Fin.ext
    show ((Rect.unit (s := ⟨3, ![G, R, C]⟩) ![g, o, 0] ![1, n, C] inb').idx j a : ℕ) = ((Rect.unit (s := ⟨3, ![G, R, C]⟩) ![g, 0, 0] ![1, R, C] inb).idx _ a : ℕ)
    rw [Rect.idx_unit_val, Rect.idx_unit_val, Rect.idx_unit_val]
    fin_cases a
    · exact congrArg (g + ·) (Nat.zero_add _).symm
    · exact (Nat.zero_add _).symm
    · exact (Nat.zero_add _).symm
  rw [e1, View.canon_cons_emb]

end Cert.Fox

end
-- ==== Proof.Fox.Math.lean ====
/- One row of attention over the extended reals: the weights are powers of two, or of e, of the scores less their greatest,
   and the result is the weighted mean of the values. -/
module

public import Idealize.ShloMosaic.Lib.Pipeline.ValueKit

@[expose] public section

set_option maxRecDepth 16384

noncomputable section

open Idealize.ShloMosaic

namespace Cert.Fox

/-- The greatest of finitely many scores, none being minus infinity. -/
def top {n : ℕ} (s : Fin n → EReal) : EReal := Finset.fold max ⊥ s Finset.univ

theorem top_eq_sup {n : ℕ} (s : Fin n → EReal) : top s = Finset.univ.sup s := rfl

/-- The weighted mean of the values `v`, the weights being powers of two of the scores `s`. -/
def att {n : ℕ} (s v : Fin n → EReal) : EReal :=
  Ideal.div (∑ j, Ideal.exp2 (s j - top s) * v j) (∑ j, Ideal.exp2 (s j - top s))

theorem negInf : Ideal.ofBits .f32 0xFF800000#32 = ⊥ := by
  simp [Ideal.ofBits, Ideal.ieee]

theorem bot_sub (x : EReal) : (⊥ : EReal) - x = ⊥ := by rw [sub_eq_add_neg]; exact EReal.bot_add _

/-- Keys hidden by a score of minus infinity may be left out. -/
theorem att_widen {w n : ℕ} (h : w ≤ n) (s v : Fin w → EReal) (S V : Fin n → EReal) (hs : ∀ j, s j = S (Fin.castLE h j))
    (hv : ∀ j, v j = V (Fin.castLE h j)) (hb : ∀ j : Fin n, w ≤ j.val → S j = ⊥) : att s v = att S V := by
  have ht : top s = top S := by
    rw [top_eq_sup, top_eq_sup]
    apply le_antisymm
    · exact Finset.sup_le fun j _ => by rw [hs]; exact Finset.le_sup (f := S) (Finset.mem_univ _)
    · refine Finset.sup_le fun j _ => ?_
      by_cases hj : j.val < w
      · have := Finset.le_sup (f := s) (Finset.mem_univ (⟨j.val, hj⟩ : Fin w))
        rw [hs] at this; exact this
      · rw [hb j (by omega)]; exact bot_le
  have hsum : ∀ (f : Fin w → EReal) (F : Fin n → EReal), (∀ j, f j = F (Fin.castLE h j)) → (∀ j : Fin n, w ≤ j.val → F j = 0) →
      ∑ j, f j = ∑ j, F j := by
    intro f F hf hF
    obtain ⟨d, rfl⟩ := Nat.exists_eq_add_of_le h
    rw [Fin.sum_univ_add, Finset.sum_eq_zero (s := Finset.univ) (f := fun i : Fin d => F (Fin.natAdd w i)), add_zero]
    · exact Finset.sum_congr rfl fun j _ => hf j
    · exact fun i _ => hF _ (by simp)
  unfold att
  rw [ht, hsum _ (fun j => Ideal.exp2 (S j - top S) * V j) (fun j => by rw [hs, hv]) (fun j hj => by
      rw [hb j hj, bot_sub, Ideal.exp2_bot, zero_mul]),
    hsum _ (fun j => Ideal.exp2 (S j - top S)) (fun j => by rw [hs]) (fun j hj => by rw [hb j hj, bot_sub, Ideal.exp2_bot])]

/-- The kernel's spelling: the keys before the diagonal block, then the `d` keys of the block. -/
theorem att_split {e d w n : ℕ} (hw : w = e + d) (h : w ≤ n) (s1 v1 : Fin e → EReal) (s2 v2 : Fin d → EReal) (s : Fin w → EReal)
    (S V : Fin n → EReal) (h1 : ∀ j : Fin e, s1 j = S ⟨j.val, by omega⟩) (h2 : ∀ j : Fin d, s2 j = S ⟨e + j.val, by omega⟩)
    (hv1 : ∀ j : Fin e, v1 j = V ⟨j.val, by omega⟩) (hv2 : ∀ j : Fin d, v2 j = V ⟨e + j.val, by omega⟩)
    (hs : ∀ j : Fin w, s j = S ⟨j.val, by omega⟩) (hb : ∀ j : Fin n, w ≤ j.val → S j = ⊥) :
    Ideal.div ((∑ j, Ideal.exp2 (s1 j - top s) * v1 j) + ∑ j, Ideal.exp2 (s2 j - top s) * v2 j)
      ((∑ j, Ideal.exp2 (s1 j - top s)) + ∑ j, Ideal.exp2 (s2 j - top s)) = att S V := by
  subst hw
  rw [← att_widen h s (fun j => V (Fin.castLE h j)) S V hs (fun _ => rfl) hb]
  unfold att
  rw [Fin.sum_univ_add, Fin.sum_univ_add]
  have e1 : ∀ j : Fin e, s1 j = s (Fin.castAdd d j) := fun j => by rw [h1, hs]; rfl
  have e2 : ∀ j : Fin d, s2 j = s (Fin.natAdd e j) := fun j => by rw [h2, hs]; rfl
  congr 1 <;> congr 1 <;> refine Finset.sum_congr rfl fun j _ => ?_
  · rw [e1, hv1]; rfl
  · rw [e2, hv2]; rfl
  · rw [e1]
  · rw [e2]

/-- Scores in base two and weights divided one by one in base e: the same mean. `R` are the scores where `p` allows the key. -/
theorem att_exp {n : ℕ} (p : Fin n → Prop) [DecidablePred p] (r : Fin n → ℝ) (v : Fin n → EReal) (i : Fin n) (hi : p i)
    (S R : Fin n → EReal) (hS : ∀ j, S j = if p j then ((r j * (Real.log 2)⁻¹ : ℝ) : EReal) else ⊥)
    (hR : ∀ j, R j = if p j then ((r j : ℝ) : EReal) else ⊥) :
    att S v = ∑ j, Ideal.div (Ideal.exp (R j - top R)) (∑ j, Ideal.exp (R j - top R)) * v j := by
  have hl : (0 : ℝ) < Real.log 2 := Real.log_pos (by norm_num)
  obtain ⟨k, hk, hmax⟩ := Finset.exists_max_image (Finset.univ.filter p) r ⟨i, by simp [hi]⟩
  have hkp : p k := (Finset.mem_filter.mp hk).2
  have hle : ∀ j, p j → r j ≤ r k := fun j hj => hmax j (by simp [hj])
  have tR : top R = ((r k : ℝ) : EReal) := by
    rw [top_eq_sup]
    apply le_antisymm
    · refine Finset.sup_le fun j _ => ?_
      rw [hR]; split
      · next h => exact_mod_cast hle j h
      · exact bot_le
    · have := Finset.le_sup (f := R) (Finset.mem_univ k)
      rwa [hR k, if_pos hkp] at this
  have tS : top S = ((r k * (Real.log 2)⁻¹ : ℝ) : EReal) := by
    rw [top_eq_sup]
    apply le_antisymm
    · refine Finset.sup_le fun j _ => ?_
      rw [hS]; split
      · next h => exact_mod_cast mul_le_mul_of_nonneg_right (hle j h) (inv_nonneg.mpr hl.le)
      · exact bot_le
    · have := Finset.le_sup (f := S) (Finset.mem_univ k)
      rwa [hS k, if_pos hkp] at this
  let e : Fin n → ℝ := fun j => if p j then Real.exp (r j - r k) else 0
  have he0 : ∀ j, 0 ≤ e j := fun j => by simp only [e]; split; exacts [(Real.exp_pos _).le, le_rfl]
  have eR : ∀ j, Ideal.exp (R j - top R) = (e j : EReal) := by
    intro j
    rw [hR, tR]
    simp only [e]
    split
    · rw [← EReal.coe_sub, Ideal.exp_coe]
    · rw [bot_sub, Ideal.exp_bot]; rfl
  have eS : ∀ j, Ideal.exp2 (S j - top S) = (e j : EReal) := by
    intro j
    rw [hS, tS]
    simp only [e]
    split
    · rw [← EReal.coe_sub, Ideal.exp2_coe]
      congr 1
      show (2 : ℝ) ^ (r j * (Real.log 2)⁻¹ - r k * (Real.log 2)⁻¹) = _
      rw [Real.rpow_def_of_pos (by norm_num)]
      congr 1
      field_simp
    · rw [bot_sub, Ideal.exp2_bot]; rfl
  have hsum : ∑ j, ((e j : ℝ) : EReal) = ((∑ j, e j : ℝ) : EReal) := (map_sum (⟨⟨Real.toEReal, rfl⟩, EReal.coe_add⟩ : ℝ →+ EReal) _ _).symm
  have hpos : 0 < ∑ j, e j := by
    refine lt_of_lt_of_le ?_ (Finset.single_le_sum (fun j _ => he0 j) (Finset.mem_univ k))
    simp [e, hkp]
  unfold att
  simp only [eS, eR, hsum]
  generalize hL : (∑ j, e j) = L at hpos
  have hL0 : ((L : ℝ) : EReal) ≠ 0 := by exact_mod_cast hpos.ne'
  have hd : ∀ x : EReal, Ideal.div x (L : EReal) = x * ((L⁻¹ : ℝ) : EReal) := fun x => by
    unfold Ideal.div; rw [if_neg hL0, EReal.coe_inv]
  rw [hd]
  have h0 : (0 : EReal) ≤ ((L⁻¹ : ℝ) : EReal) := by exact_mod_cast (inv_pos.mpr hpos).le
  have hm : ∀ s : Finset (Fin n), (∑ j ∈ s, (e j : EReal) * v j) * ((L⁻¹ : ℝ) : EReal) = ∑ j ∈ s, (e j : EReal) * v j * ((L⁻¹ : ℝ) : EReal) := by
    intro s
    induction s using Finset.induction_on with
    | empty => simp
    | insert a s ha ih =>
      rw [Finset.sum_insert ha, Finset.sum_insert ha, EReal.right_distrib_of_nonneg_of_ne_top h0 (EReal.coe_ne_top _), ih]
  rw [hm]
  refine Finset.sum_congr rfl fun j _ => ?_
  rw [hd, mul_assoc, mul_assoc, mul_comm (v j)]

end Cert.Fox

end
-- ==== Proof.Fox.Attend.lean ====
module

public import proofs.«01_k».proof.Proof.Gen.KernelIdeal.Frame
public import Idealize.ShloMosaic.Lib.Pipeline.ValueKit
public import proofs.«01_k».proof.Proof.Fox.Rows
public import proofs.«01_k».proof.Proof.Fox.Math

@[expose] public section

set_option maxRecDepth 16384

noncomputable section

open Idealize.ShloMosaic Idealize.ShloMosaic.TcCoe Idealize.SL.Sem
open Idealize.ShloMosaic.Pipeline (Dat)

namespace Cert.KernelIdeal.Fox
open Cert.KernelIdeal Cert.KernelIdeal.Gen Cert.Fox

variable (V : (c : Dev nD) → (b : Ref sig .tc) → Buf (Elt Ideal) ((c : Thread nD τ).loc b))

/-- The score of query row `r` and key row `j` for the head that owns column `b` of the block: over the 128 lanes of its
    tile, the lanes of the head hold the query and the key, the others the split gates. -/
def score (q k aq ak : FVec Ideal S2048x256 .bf16) (b : Fin 256) (r j : Fin 2048) : EReal :=
  ∑ l : Fin 128, (if l.val / 64 = b.val % 128 / 64 then q (ix2 r ⟨b.val / 128 * 128 + l.val, by omega⟩) else aq (ix2 r ⟨b.val / 128 * 128 + l.val, by omega⟩))
    * (if l.val / 64 = b.val % 128 / 64 then k (ix2 j ⟨b.val / 128 * 128 + l.val, by omega⟩) else ak (ix2 j ⟨b.val / 128 * 128 + l.val, by omega⟩))

/-- One entry of the block that a grid point writes. -/
def entry (q k v aq ak : FVec Ideal S2048x256 .bf16) (r : Fin 2048) (b : Fin 256) : EReal :=
  att (fun j : Fin 2048 => if j.val ≤ r.val then score q k aq ak b r j else ⊥) fun j => v (ix2 j b)

/-- A choice by a decided bit. -/
theorem select_decide (p : Prop) [Decidable p] (x y : EReal) : Scalar.select (BitVec.ofBool (decide p)) x y = if p then x else y := by
  by_cases h : p <;> simp [h, Scalar.select]

/-- Powers of two of the extended reals. -/
theorem exp2_eq (x : EReal) : FloatOps.exp2 (F := Ideal) (φ := .f32) x = Ideal.exp2 x := rfl

/-- The kernel's greatest score of a row. -/
theorem fold_top {n : ℕ} (f : Fin n → EReal) : Finset.fold max (⊥ : EReal) f Finset.univ = top f := rfl

/-- A choice by a comparison of two small words. -/
theorem select_sle {a b : ℕ} (ha : a < 2048) (hb : b < 2048) (x y : EReal) :
    Scalar.select (IntOp.cmpi .sle (BitVec.ofNat 32 a) (BitVec.ofNat 32 b)) x y = if a ≤ b then x else y := by
  rw [WordCmp.cmpi_sle_ofNat (by omega) (by omega)]
  exact select_decide _ _ _

theorem select_slt {a b : ℕ} (ha : a < 2048) (hb : b < 2048) (x y : EReal) :
    Scalar.select (IntOp.cmpi .slt (BitVec.ofNat 32 a) (BitVec.ofNat 32 b)) x y = if a < b then x else y := by
  rw [WordCmp.cmpi_slt_ofNat (by omega) (by omega)]
  exact select_decide _ _ _

/-- The score of two rows of one head, both prepared in scratch. -/
def dot (Q K : FVec Ideal S1x2048x128 .bf16) (r j : Fin 2048) : EReal := ∑ l : Fin 128, Q (ix3 0 r l) * K (ix3 0 j l)

/-- One entry of one head's result: the keys up to the query's own row count. -/
def head (Q K : FVec Ideal S1x2048x128 .bf16) (X : FVec Ideal S2048x256 .bf16) (r : Fin 2048) (b : Fin 256) : EReal :=
  att (fun j : Fin 2048 => if j.val ≤ r.val then dot Q K r j else ⊥) fun j => X (ix2 j b)

/-- A row of a block with keys before its diagonal block. -/
theorem head_split {e w : ℕ} (hw : w = e + 256) (hn : w ≤ 2048) (Q K : FVec Ideal S1x2048x128 .bf16) (X : FVec Ideal S2048x256 .bf16)
    (r : Fin 2048) (a : Fin 256) (b : Fin 256) (hr : r.val = e + a.val) :
    Ideal.div
      ((∑ j : Fin e, Ideal.exp2 ((∑ l : Fin 128, Q (ix3 0 r l) * K (ix3 0 ⟨j.val, by omega⟩ l))
            - top (fun j : Fin w =>
                if h : j.val < e then ∑ l : Fin 128, Q (ix3 0 r l) * K (ix3 0 ⟨j.val, by omega⟩ l)
                else Scalar.select (IntOp.cmpi .sle (BitVec.ofNat 32 (j.val - e)) (BitVec.ofNat 32 a.val))
                  (∑ l : Fin 128, Q (ix3 0 r l) * K (ix3 0 ⟨e + (j.val - e), by omega⟩ l)) ⊥))
          * X (ix2 ⟨j.val, by omega⟩ b))
        + ∑ j : Fin 256, Ideal.exp2 (Scalar.select (IntOp.cmpi .sle (BitVec.ofNat 32 j.val) (BitVec.ofNat 32 a.val))
              (∑ l : Fin 128, Q (ix3 0 r l) * K (ix3 0 ⟨e + j.val, by omega⟩ l)) ⊥
            - top (fun j : Fin w =>
                if h : j.val < e then ∑ l : Fin 128, Q (ix3 0 r l) * K (ix3 0 ⟨j.val, by omega⟩ l)
                else Scalar.select (IntOp.cmpi .sle (BitVec.ofNat 32 (j.val - e)) (BitVec.ofNat 32 a.val))
                  (∑ l : Fin 128, Q (ix3 0 r l) * K (ix3 0 ⟨e + (j.val - e), by omega⟩ l)) ⊥))
          * X (ix2 ⟨e + j.val, by omega⟩ b))
      ((∑ j : Fin e, Ideal.exp2 ((∑ l : Fin 128, Q (ix3 0 r l) * K (ix3 0 ⟨j.val, by omega⟩ l))
            - top (fun j : Fin w =>
                if h : j.val < e then ∑ l : Fin 128, Q (ix3 0 r l) * K (ix3 0 ⟨j.val, by omega⟩ l)
                else Scalar.select (IntOp.cmpi .sle (BitVec.ofNat 32 (j.val - e)) (BitVec.ofNat 32 a.val))
                  (∑ l : Fin 128, Q (ix3 0 r l) * K (ix3 0 ⟨e + (j.val - e), by omega⟩ l)) ⊥)))
        + ∑ j : Fin 256, Ideal.exp2 (Scalar.select (IntOp.cmpi .sle (BitVec.ofNat 32 j.val) (BitVec.ofNat 32 a.val))
              (∑ l : Fin 128, Q (ix3 0 r l) * K (ix3 0 ⟨e + j.val, by omega⟩ l)) ⊥
            - top (fun j : Fin w =>
                if h : j.val < e then ∑ l : Fin 128, Q (ix3 0 r l) * K (ix3 0 ⟨j.val, by omega⟩ l)
                else Scalar.select (IntOp.cmpi .sle (BitVec.ofNat 32 (j.val - e)) (BitVec.ofNat 32 a.val))
                  (∑ l : Fin 128, Q (ix3 0 r l) * K (ix3 0 ⟨e + (j.val - e), by omega⟩ l)) ⊥)))
      = head Q K X r b := by
  refine att_split (d := 256) hw hn _ (fun j => X (ix2 ⟨j.val, by omega⟩ b)) _ (fun j => X (ix2 ⟨e + j.val, by omega⟩ b)) _
    (fun j : Fin 2048 => if j.val ≤ r.val then dot Q K r j else ⊥) _ (fun j => ?_) (fun j => ?_) (fun j => rfl) (fun j => rfl) (fun j => ?_) (fun j hj => ?_)
  · rw [if_pos (by show j.val ≤ r.val; omega)]; rfl
  · rw [select_sle (by omega) (by omega)]
    by_cases h : j.val ≤ a.val
    · rw [if_pos h, if_pos (by show e + j.val ≤ r.val; omega)]; rfl
    · rw [if_neg h, if_neg (by show ¬ e + j.val ≤ r.val; omega)]
  · by_cases h : j.val < e
    · rw [dif_pos h, if_pos (by show j.val ≤ r.val; omega)]; rfl
    · rw [dif_neg h, select_sle (by omega) (by omega)]
      have hj : (⟨e + (j.val - e), by omega⟩ : Fin 2048) = ⟨j.val, by omega⟩ := Fin.ext (by show e + (j.val - e) = j.val; omega)
      by_cases h' : j.val - e ≤ a.val
      · rw [if_pos h', if_pos (by show j.val ≤ r.val; omega), hj]; rfl
      · rw [if_neg h', if_neg (by show ¬ j.val ≤ r.val; omega)]
  · exact if_neg (by omega)

/-- A row of the first block, all of whose keys are in its diagonal block. -/
theorem head_first (Q K : FVec Ideal S1x2048x128 .bf16) (X : FVec Ideal S2048x256 .bf16) (r : Fin 2048) (a : Fin 256) (b : Fin 256) (hr : r.val = a.val) :
    Ideal.div
      (∑ j : Fin 256, Ideal.exp2 (Scalar.select (IntOp.cmpi .sle (BitVec.ofNat 32 j.val) (BitVec.ofNat 32 a.val))
              (∑ l : Fin 128, Q (ix3 0 r l) * K (ix3 0 ⟨j.val, by omega⟩ l)) ⊥
            - top (fun j : Fin 256 =>
                Scalar.select (IntOp.cmpi .sle (BitVec.ofNat 32 j.val) (BitVec.ofNat 32 a.val))
                  (∑ l : Fin 128, Q (ix3 0 r l) * K (ix3 0 ⟨j.val, by omega⟩ l)) ⊥))
          * X (ix2 ⟨j.val, by omega⟩ b))
      (∑ j : Fin 256, Ideal.exp2 (Scalar.select (IntOp.cmpi .sle (BitVec.ofNat 32 j.val) (BitVec.ofNat 32 a.val))
              (∑ l : Fin 128, Q (ix3 0 r l) * K (ix3 0 ⟨j.val, by omega⟩ l)) ⊥
            - top (fun j : Fin 256 =>
                Scalar.select (IntOp.cmpi .sle (BitVec.ofNat 32 j.val) (BitVec.ofNat 32 a.val))
                  (∑ l : Fin 128, Q (ix3 0 r l) * K (ix3 0 ⟨j.val, by omega⟩ l)) ⊥)))
      = head Q K X r b := by
  refine att_widen (by norm_num) _ (fun j => X (ix2 ⟨j.val, by omega⟩ b)) (fun j : Fin 2048 => if j.val ≤ r.val then dot Q K r j else ⊥) _
    (fun j => ?_) (fun j => rfl) (fun j hj => ?_)
  · rw [select_sle (by omega) (by omega)]
    by_cases h : j.val ≤ a.val
    · rw [if_pos h, if_pos (by show j.val ≤ r.val; omega)]; rfl
    · rw [if_neg h, if_neg (by show ¬ j.val ≤ r.val; omega)]
  · exact if_neg (by omega)

/-- Which head owns a column of a block: two tiles of two heads. -/
def pick (h0 h1 h2 h3 : EReal) (b : ℕ) : EReal := if b < 128 then if b < 64 then h0 else h1 else if b < 192 then h2 else h3

theorem pick_lo {h0 h1 h2 h3 : EReal} {b a : ℕ} (h : b = a) (ha : a < 128) : pick h0 h1 h2 h3 b = if a < 64 then h0 else h1 := by
  subst h; unfold pick; rw [if_pos ha]

theorem pick_hi {h0 h1 h2 h3 : EReal} {b a : ℕ} (h : b = 128 + a) (ha : a < 128) : pick h0 h1 h2 h3 b = if a < 64 then h2 else h3 := by
  subst h; unfold pick; rw [if_neg (by omega)]; by_cases h' : a < 64
  · rw [if_pos h', if_pos (by omega)]
  · rw [if_neg h', if_neg (by omega)]

/-- The scores of a head whose rows in scratch hold query or key lanes where the head's column has them, and gate lanes elsewhere. -/
theorem head_eq {Q K : FVec Ideal S1x2048x128 .bf16} {x0 x1 x2 x3 x4 : FVec Ideal S2048x256 .bf16} {b : Fin 256}
    (hQ : ∀ (r : Fin 2048) (l : Fin 128), Q (ix3 0 r l) = if l.val / 64 = b.val % 128 / 64 then x0 (ix2 r ⟨b.val / 128 * 128 + l.val, by omega⟩)
      else x3 (ix2 r ⟨b.val / 128 * 128 + l.val, by omega⟩))
    (hK : ∀ (r : Fin 2048) (l : Fin 128), K (ix3 0 r l) = if l.val / 64 = b.val % 128 / 64 then x1 (ix2 r ⟨b.val / 128 * 128 + l.val, by omega⟩)
      else x4 (ix2 r ⟨b.val / 128 * 128 + l.val, by omega⟩)) (r : Fin 2048) :
    head Q K x2 r b = entry x0 x1 x2 x3 x4 r b := by
  unfold head entry dot score
  simp only [hQ, hK]

/-- The lanes of a head in the low half of its tile: its own lanes below 64, the gate's above. -/
theorem lane_lo (X Z : FVec Ideal S2048x256 .bf16) (r : Fin 2048) (l : Fin 128) (c b : Fin 256) (hc : c.val = b.val / 128 * 128 + l.val)
    (hb : b.val % 128 < 64) :
    Scalar.select (k1_pay2 (ix2 0 l)) (X (ix2 r c)) (Z (ix2 r c))
      = if l.val / 64 = b.val % 128 / 64 then X (ix2 r ⟨b.val / 128 * 128 + l.val, by omega⟩) else Z (ix2 r ⟨b.val / 128 * 128 + l.val, by omega⟩) := by
  rw [show (⟨b.val / 128 * 128 + l.val, by omega⟩ : Fin 256) = c from Fin.ext hc.symm]
  pointwise [k1_pay2]
  rw [select_slt (by omega) (by omega)]
  by_cases h : l.val < 64
  · rw [if_pos h, if_pos (by omega)]
  · rw [if_neg h, if_neg (by omega)]

/-- The lanes of a head in the high half of its tile. -/
theorem lane_hi (X Z : FVec Ideal S2048x256 .bf16) (r : Fin 2048) (l : Fin 128) (c b : Fin 256) (hc : c.val = b.val / 128 * 128 + l.val)
    (hb : ¬ b.val % 128 < 64) :
    Scalar.select (k1_pay2 (ix2 0 l)) (Z (ix2 r c)) (X (ix2 r c))
      = if l.val / 64 = b.val % 128 / 64 then X (ix2 r ⟨b.val / 128 * 128 + l.val, by omega⟩) else Z (ix2 r ⟨b.val / 128 * 128 + l.val, by omega⟩) := by
  rw [show (⟨b.val / 128 * 128 + l.val, by omega⟩ : Fin 256) = c from Fin.ext hc.symm]
  pointwise [k1_pay2]
  rw [select_slt (by omega) (by omega)]
  by_cases h : l.val < 64
  · rw [if_pos h, if_neg (by omega)]
  · rw [if_neg h, if_pos (by omega)]

/-- The four heads of a block of columns, each read from its members of the scratch stacks. -/
theorem heads_eq (x0 x1 x2 x3 x4 : FVec Ideal S2048x256 .bf16) (a : Fin 2048) (b : Fin 256) :
    pick
      (head (k1_pay5 (F := Ideal) (View.ld (Val := Elt Ideal) (e' := .bf16) x0 (Rect.unit ![0, 0] ![2048, 128] inb_S2048x256_S2048x128_0_0)) (View.ld (Val := Elt Ideal) (e' := .bf16) x3 (Rect.unit ![0, 0] ![2048, 128] inb_S2048x256_S2048x128_0_0)))
        (k1_pay7 (F := Ideal) (View.ld (Val := Elt Ideal) (e' := .bf16) x1 (Rect.unit ![0, 0] ![2048, 128] inb_S2048x256_S2048x128_0_0)) (View.ld (Val := Elt Ideal) (e' := .bf16) x4 (Rect.unit ![0, 0] ![2048, 128] inb_S2048x256_S2048x128_0_0))) x2 a b)
      (head (k1_pay6 (F := Ideal) (View.ld (Val := Elt Ideal) (e' := .bf16) x0 (Rect.unit ![0, 0] ![2048, 128] inb_S2048x256_S2048x128_0_0)) (View.ld (Val := Elt Ideal) (e' := .bf16) x3 (Rect.unit ![0, 0] ![2048, 128] inb_S2048x256_S2048x128_0_0)))
        (k1_pay8 (F := Ideal) (View.ld (Val := Elt Ideal) (e' := .bf16) x1 (Rect.unit ![0, 0] ![2048, 128] inb_S2048x256_S2048x128_0_0)) (View.ld (Val := Elt Ideal) (e' := .bf16) x4 (Rect.unit ![0, 0] ![2048, 128] inb_S2048x256_S2048x128_0_0))) x2 a b)
      (head (k1_pay11 (F := Ideal) k1_pay2 (View.ld (Val := Elt Ideal) (e' := .bf16) x0 (Rect.unit ![0, 128] ![2048, 128] inb_S2048x256_S2048x128_0_128)) (View.ld (Val := Elt Ideal) (e' := .bf16) x3 (Rect.unit ![0, 128] ![2048, 128] inb_S2048x256_S2048x128_0_128)))
        (k1_pay13 (F := Ideal) k1_pay2 (View.ld (Val := Elt Ideal) (e' := .bf16) x1 (Rect.unit ![0, 128] ![2048, 128] inb_S2048x256_S2048x128_0_128)) (View.ld (Val := Elt Ideal) (e' := .bf16) x4 (Rect.unit ![0, 128] ![2048, 128] inb_S2048x256_S2048x128_0_128))) x2 a b)
      (head (k1_pay12 (F := Ideal) k1_pay2 (View.ld (Val := Elt Ideal) (e' := .bf16) x0 (Rect.unit ![0, 128] ![2048, 128] inb_S2048x256_S2048x128_0_128)) (View.ld (Val := Elt Ideal) (e' := .bf16) x3 (Rect.unit ![0, 128] ![2048, 128] inb_S2048x256_S2048x128_0_128)))
        (k1_pay14 (F := Ideal) k1_pay2 (View.ld (Val := Elt Ideal) (e' := .bf16) x1 (Rect.unit ![0, 128] ![2048, 128] inb_S2048x256_S2048x128_0_128)) (View.ld (Val := Elt Ideal) (e' := .bf16) x4 (Rect.unit ![0, 128] ![2048, 128] inb_S2048x256_S2048x128_0_128))) x2 a b) b.val
      = entry x0 x1 x2 x3 x4 a b := by
  unfold pick
  have hb := b.isLt
  split_ifs with p1 p2 p3
  · refine head_eq (fun r l => ?_) (fun r l => ?_) a
    · pointwise [k1_pay5, k1_pay3]; refine lane_lo x0 x3 r l _ b ?_ (by omega); show l.val = _; omega
    · pointwise [k1_pay7, k1_pay4]; refine lane_lo x1 x4 r l _ b ?_ (by omega); show l.val = _; omega
  · refine head_eq (fun r l => ?_) (fun r l => ?_) a
    · pointwise [k1_pay6, k1_pay3]; refine lane_hi x0 x3 r l _ b ?_ (by omega); show l.val = _; omega
    · pointwise [k1_pay8, k1_pay4]; refine lane_hi x1 x4 r l _ b ?_ (by omega); show l.val = _; omega
  · refine head_eq (fun r l => ?_) (fun r l => ?_) a
    · pointwise [k1_pay11, k1_pay9]; refine lane_lo x0 x3 r l _ b ?_ (by omega); show 128 + l.val = _; omega
    · pointwise [k1_pay13, k1_pay10]; refine lane_lo x1 x4 r l _ b ?_ (by omega); show 128 + l.val = _; omega
  · refine head_eq (fun r l => ?_) (fun r l => ?_) a
    · pointwise [k1_pay12, k1_pay9]; refine lane_hi x0 x3 r l _ b ?_ (by omega); show 128 + l.val = _; omega
    · pointwise [k1_pay14, k1_pay10]; refine lane_hi x1 x4 r l _ b ?_ (by omega); show 128 + l.val = _; omega

set_option maxHeartbeats 2000000 in
theorem out1_at (c : Dev nD) (i : grid1.Coords) (m0 : Memref sig .tc .vmem S2048x256 .bf16) (w0 : m0.IsWhole)
    (m1 : Memref sig .tc .vmem S2048x256 .bf16) (w1 : m1.IsWhole) (m2 : Memref sig .tc .vmem S2048x256 .bf16) (w2 : m2.IsWhole)
    (m3 : Memref sig .tc .vmem S2048x256 .bf16) (w3 : m3.IsWhole) (m4 : Memref sig .tc .vmem S2048x256 .bf16) (w4 : m4.IsWhole)
    (m5 : Memref sig .tc .vmem S2048x256 .bf16) (w5 : m5.IsWhole) (s0 : Memref sig .tc .vmem S4x2048x128 .bf16) (u0 : s0.IsWhole)
    (s1 : Memref sig .tc .vmem S4x2048x128 .bf16) (u1 : s1.IsWhole) (x0 x1 x2 x3 x4 : FVec Ideal S2048x256 .bf16) (y : S2048x256.Idx) :
    out1_A_5 (F := Ideal) c i m0 w0 m1 w1 m2 w2 m3 w3 m4 w4 m5 w5 s0 u0 s1 u1 x0 x1 x2 x3 x4 y = entry x0 x1 x2 x3 x4 (y 0) (y 1) := by
  unfold out1_A_5
  frame_open
  simp (disch := decide) only [↓ View.readCov_skip, ↓ readCov_member]
  frame_out
  generalize eq0 : k1_pay5 (F := Ideal) _ _ = Q0
  generalize eq1 : k1_pay6 (F := Ideal) _ _ = Q1
  generalize ek0 : k1_pay7 (F := Ideal) _ _ = K0
  generalize ek1 : k1_pay8 (F := Ideal) _ _ = K1
  generalize eq2 : k1_pay11 (F := Ideal) _ _ _ = Q2
  generalize eq3 : k1_pay12 (F := Ideal) _ _ _ = Q3
  generalize ek2 : k1_pay13 (F := Ideal) _ _ _ = K2
  generalize ek3 : k1_pay14 (F := Ideal) _ _ _ = K3
  trans pick (head Q0 K0 x2 (y 0) (y 1)) (head Q1 K1 x2 (y 0) (y 1)) (head Q2 K2 x2 (y 0) (y 1))
      (head Q3 K3 x2 (y 0) (y 1)) (y 1).val
  · canon_tiles x g
    all_goals
      open_payloads; pointwise
      rw [select_slt (by omega) (by omega)]
      simp only [exp2_eq, negInf, fold_top]
      first | rw [pick_hi g1 x1_lt] | rw [pick_lo g1 x1_lt]
      rw [show y 0 = ⟨_, lt_of_eq_of_lt g0.symm (y 0).isLt⟩ from Fin.ext g0, show y 1 = ⟨_, lt_of_eq_of_lt g1.symm (y 1).isLt⟩ from Fin.ext g1]
    case piece0 | piece1 => exact congrArg₂ (fun u v : EReal => if (x 1).val < 64 then u else v) (head_first _ _ x2 _ (x 0) _ rfl) (head_first _ _ x2 _ (x 0) _ rfl)
    case piece2 | piece3 => exact congrArg₂ (fun u v : EReal => if (x 1).val < 64 then u else v) (head_split (e := 256) (w := 512) rfl (by norm_num) _ _ x2 _ (x 0) _ rfl) (head_split (e := 256) (w := 512) rfl (by norm_num) _ _ x2 _ (x 0) _ rfl)
    case piece4 | piece5 => exact congrArg₂ (fun u v : EReal => if (x 1).val < 64 then u else v) (head_split (e := 512) (w := 768) rfl (by norm_num) _ _ x2 _ (x 0) _ rfl) (head_split (e := 512) (w := 768) rfl (by norm_num) _ _ x2 _ (x 0) _ rfl)
    case piece6 | piece7 => exact congrArg₂ (fun u v : EReal => if (x 1).val < 64 then u else v) (head_split (e := 768) (w := 1024) rfl (by norm_num) _ _ x2 _ (x 0) _ rfl) (head_split (e := 768) (w := 1024) rfl (by norm_num) _ _ x2 _ (x 0) _ rfl)
    case piece8 | piece9 => exact congrArg₂ (fun u v : EReal => if (x 1).val < 64 then u else v) (head_split (e := 1024) (w := 1280) rfl (by norm_num) _ _ x2 _ (x 0) _ rfl) (head_split (e := 1024) (w := 1280) rfl (by norm_num) _ _ x2 _ (x 0) _ rfl)
    case piece10 | piece11 => exact congrArg₂ (fun u v : EReal => if (x 1).val < 64 then u else v) (head_split (e := 1280) (w := 1536) rfl (by norm_num) _ _ x2 _ (x 0) _ rfl) (head_split (e := 1280) (w := 1536) rfl (by norm_num) _ _ x2 _ (x 0) _ rfl)
    case piece12 | piece13 => exact congrArg₂ (fun u v : EReal => if (x 1).val < 64 then u else v) (head_split (e := 1536) (w := 1792) rfl (by norm_num) _ _ x2 _ (x 0) _ rfl) (head_split (e := 1536) (w := 1792) rfl (by norm_num) _ _ x2 _ (x 0) _ rfl)
    case piece14 | piece15 => exact congrArg₂ (fun u v : EReal => if (x 1).val < 64 then u else v) (head_split (e := 1792) (w := 2048) rfl (by norm_num) _ _ x2 _ (x 0) _ rfl) (head_split (e := 1792) (w := 2048) rfl (by norm_num) _ _ x2 _ (x 0) _ rfl)
  · subst eq0 eq1 ek0 ek1 eq2 eq3 ek2 ek3
    exact heads_eq x0 x1 x2 x3 x4 (y 0) (y 1)

/-- The blocks of the attention: row block by batch, columns by groups of four heads. -/
theorem idx : ∀ t : Fin cfg1.N,
    win1_5.index t = ![t.val / 4, t.val % 4] ∧ win1_0.index t = ![t.val / 4, t.val % 4] ∧ win1_1.index t = ![t.val / 4, t.val % 4]
      ∧ win1_2.index t = ![t.val / 4, t.val % 4] ∧ win1_3.index t = ![t.val / 4, t.val % 4] ∧ win1_4.index t = ![t.val / 4, t.val % 4] :=
  (by decide +kernel : ∀ t : Fin grid1.N, _)

/-- Row `r` of the rows of a sequence, and column `b` of the columns of a group of heads, of the whole arrays. -/
abbrev row (t : Fin cfg1.N) (r : Fin 2048) : Fin 16384 := ⟨t.val / 4 * 2048 + r.val, by have := t.isLt; have : cfg1.N = 32 := rfl; omega⟩
abbrev col (t : Fin cfg1.N) (b : Fin 256) : Fin 1024 := ⟨t.val % 4 * 256 + b.val, by omega⟩

/-- Entry `(i, b)` of the attention over the whole arrays: row `i` attends the rows of its own sequence. -/
def whole (q k v aq ak : FVec Ideal S16384x1024 .bf16) (i : Fin 16384) (b : Fin 1024) : EReal :=
  att (fun j : Fin 2048 => if j.val ≤ i.val % 2048 then
      ∑ l : Fin 128,
        (if l.val / 64 = b.val % 128 / 64 then q (ix2 i ⟨b.val / 128 * 128 + l.val, by omega⟩) else aq (ix2 i ⟨b.val / 128 * 128 + l.val, by omega⟩))
        * (if l.val / 64 = b.val % 128 / 64 then k (ix2 ⟨i.val / 2048 * 2048 + j.val, by omega⟩ ⟨b.val / 128 * 128 + l.val, by omega⟩)
            else ak (ix2 ⟨i.val / 2048 * 2048 + j.val, by omega⟩ ⟨b.val / 128 * 128 + l.val, by omega⟩))
    else ⊥) fun j => v (ix2 ⟨i.val / 2048 * 2048 + j.val, by omega⟩ b)

variable (V : (c : Dev nD) → (b : Ref sig .tc) → b.ty.Contents (Elt Ideal))

theorem q_at (c : Dev nD) (t : Fin cfg1.N) (r : Fin 2048) (b : Fin 256) :
    (show FVec Ideal S2048x256 .bf16 from iblk1 V c 0 t) (ix2 r b)
      = (show FVec Ideal S16384x1024 .bf16 from V c (Pipeline.arrRef spec1 0)) (ix2 (row t r) (col t b)) := by
  blk_ext [iblk1, idx t]

theorem k_at (c : Dev nD) (t : Fin cfg1.N) (r : Fin 2048) (b : Fin 256) :
    (show FVec Ideal S2048x256 .bf16 from iblk1 V c 1 t) (ix2 r b)
      = (show FVec Ideal S16384x1024 .bf16 from V c (Pipeline.arrRef spec1 1)) (ix2 (row t r) (col t b)) := by
  blk_ext [iblk1, idx t]

theorem v_at (c : Dev nD) (t : Fin cfg1.N) (r : Fin 2048) (b : Fin 256) :
    (show FVec Ideal S2048x256 .bf16 from iblk1 V c 2 t) (ix2 r b)
      = (show FVec Ideal S16384x1024 .bf16 from V c (Pipeline.arrRef spec1 2)) (ix2 (row t r) (col t b)) := by
  blk_ext [iblk1, idx t]

theorem aq_at (c : Dev nD) (t : Fin cfg1.N) (r : Fin 2048) (b : Fin 256) :
    (show FVec Ideal S2048x256 .bf16 from iblk1 V c 3 t) (ix2 r b)
      = (show FVec Ideal S16384x1024 .bf16 from V c (Pipeline.arrRef spec1 3)) (ix2 (row t r) (col t b)) := by
  blk_ext [iblk1, idx t]

theorem ak_at (c : Dev nD) (t : Fin cfg1.N) (r : Fin 2048) (b : Fin 256) :
    (show FVec Ideal S2048x256 .bf16 from iblk1 V c 4 t) (ix2 r b)
      = (show FVec Ideal S16384x1024 .bf16 from V c (Pipeline.arrRef spec1 4)) (ix2 (row t r) (col t b)) := by
  blk_ext [iblk1, idx t]

/-- An entry of a block is that entry of the whole arrays. -/
theorem entry_whole {x0 x1 x2 x3 x4 : FVec Ideal S2048x256 .bf16} {q k v aq ak : FVec Ideal S16384x1024 .bf16} (t : Fin cfg1.N)
    (h0 : ∀ r b, x0 (ix2 r b) = q (ix2 (row t r) (col t b))) (h1 : ∀ r b, x1 (ix2 r b) = k (ix2 (row t r) (col t b)))
    (h2 : ∀ r b, x2 (ix2 r b) = v (ix2 (row t r) (col t b))) (h3 : ∀ r b, x3 (ix2 r b) = aq (ix2 (row t r) (col t b)))
    (h4 : ∀ r b, x4 (ix2 r b) = ak (ix2 (row t r) (col t b))) (r : Fin 2048) (b : Fin 256) :
    entry x0 x1 x2 x3 x4 r b = whole q k v aq ak (row t r) (col t b) := by
  have er : (row t r).val % 2048 = r.val := by simp only [row]; omega
  have eb : (col t b).val % 128 = b.val % 128 := by simp only [col]; omega
  have ej : ∀ j : Fin 2048, row t j = ⟨(row t r).val / 2048 * 2048 + j.val, by omega⟩ := fun j => Fin.ext (by simp only [row]; omega)
  have ec : ∀ l : Fin 128, col t ⟨b.val / 128 * 128 + l.val, by omega⟩ = ⟨(col t b).val / 128 * 128 + l.val, by omega⟩ :=
    fun l => Fin.ext (by simp only [col]; omega)
  unfold entry whole score
  simp only [h0, h1, h2, h3, h4, er, eb, ← ej, ec]

/-- What the attention leaves in its result array. -/
theorem final1 (c : Dev nD) : (dat1 V c).arrAt 5 cfg1.N = fun i : S16384x1024.Idx =>
    whole (V c (Pipeline.arrRef spec1 0)) (V c (Pipeline.arrRef spec1 1)) (V c (Pipeline.arrRef spec1 2))
      (V c (Pipeline.arrRef spec1 3)) (V c (Pipeline.arrRef spec1 4)) (i 0) (i 1) := by
  refine (dat1 V c).arrAt_eq_of_covers 5 _ (by decide +kernel) fun t hf y => ?_
  blk_simp
  rw [after1_5]
  obtain ⟨a, b, rfl⟩ : ∃ (a : Fin 2048) (b : Fin 256), y = ix2 a b := ⟨y 0, y 1, by pointwise⟩
  unfold outsAt1
  refine (out1_at _ _ _ _ _ _ _ _ _ _ _ _ _ _ _ _ _ _ _ _ _ _ _ _).trans ?_
  refine (entry_whole t (q_at V c t) (k_at V c t) (v_at V c t) (aq_at V c t) (ak_at V c t) a b).trans ?_
  refine congrArg₂ (whole _ _ _ _ _) (Fin.ext ?_) (Fin.ext ?_)
  · blk_simp [idx t, row]
  · blk_simp [idx t, col]

end Cert.KernelIdeal.Fox

end
-- ==== Proof.Fox.Map.lean ====
module

public import proofs.«01_k».proof.Proof.Gen.KernelIdeal.Frame
public import Idealize.ShloMosaic.Lib.Pipeline.ValueKit
public import Idealize.ShloMosaic.Lib.StableHlo.ReadAt
public import proofs.«01_k».proof.Proof.Fox.Math

/-! # The placement of the gates in the columns: which lane each column takes, and with which sign -/

@[expose] public section

set_option maxRecDepth 16384

noncomputable section

open Idealize.ShloMosaic Idealize.ShloMosaic.TcCoe Idealize.SL.Sem

namespace Cert.KernelIdeal.Map
open Cert.KernelIdeal Cert.KernelIdeal.Gen

/-- The lane that column `b` takes: key columns, the first half, take the three parts of their head's gate and then the
    lane of ones; query columns the lane of ones three times and then the gate. A column past the fourth of its head takes none. -/
def lane (b : ℕ) : ℕ :=
  if b % 64 < 3 then (if b < 1024 then b % 64 * 16 + (b / 64 % 16).xor 1 else 48)
  else if b % 64 = 3 then (if b < 1024 then 48 else (b / 64 % 16).xor 1) else 128

/-- The sign it takes it with. -/
def sign (b : ℕ) : ℝ := if b < 1024 ∧ b % 64 < 3 then -1 else 1

/-- The lane as the program computes it, column by column. -/
theorem word_lane : ∀ b : Fin 2048,
    Scalar.select (IntOp.cmpi CmpIPredicate.sle (IntOp.andi (BitVec.ofNat 32 b.val) 63#32) 3#32)
      (Scalar.select
        (IntOp.cmpi CmpIPredicate.eq (IntOp.cmpi CmpIPredicate.slt (IntOp.andi (BitVec.ofNat 32 b.val) 63#32) 3#32)
          (IntOp.cmpi CmpIPredicate.slt (BitVec.ofNat 32 b.val) 1024#32))
        (Scalar.select (IntOp.cmpi CmpIPredicate.slt (BitVec.ofNat 32 b.val) 1024#32)
          (IntOp.addi (IntOp.muli (IntOp.andi (BitVec.ofNat 32 b.val) 63#32) 16#32)
            (IntOp.xori (IntOp.andi (IntOp.shrui ArithUnit.host (BitVec.ofNat 32 b.val) 6#32) 15#32) 1#32))
          (IntOp.xori (IntOp.andi (IntOp.shrui ArithUnit.host (BitVec.ofNat 32 b.val) 6#32) 15#32) 1#32))
        48#32) 128#32 = BitVec.ofNat 32 (lane b.val) := by
  decide +kernel

theorem word_sign : ∀ b : Fin 2048,
    IntOp.andi (IntOp.cmpi CmpIPredicate.slt (IntOp.andi (BitVec.ofNat 32 b.val) 63#32) 3#32) (IntOp.cmpi CmpIPredicate.slt (BitVec.ofNat 32 b.val) 1024#32)
      = BitVec.ofBool (decide (b.val < 1024 ∧ b.val % 64 < 3)) := by
  decide +kernel

/-- The sign of the first halves' columns. -/
theorem minus_one : Ideal.ofBits .f32 0xBF800000#32 = ((-1 : ℝ) : EReal) := by
  simp [Ideal.ofBits, Ideal.ieee, -EReal.coe_mul, -EReal.coe_neg]; norm_num

theorem lane_le : ∀ b : Fin 2048, lane b.val ≤ 128 := by decide +kernel

theorem select_if (p : Prop) [Decidable p] (x y : EReal) : Scalar.select (BitVec.ofBool (decide p)) x y = if p then x else y := by
  by_cases h : p <;> simp [h, Scalar.select]

variable (m : (ℓ : Loc nD τ sig) → Buf (Elt Ideal) ℓ) (ρ : Dev nD → PrngReg)

theorem map_at (c : Dev nD) (l : Fin 128) (b : Fin 2048) :
    (show FVec Ideal S128x2048 .bf16 from V11 m ρ c main_v28) (ix2 l b) = if l.val = lane b.val then (sign b.val : EReal) else 0 := by
  show (W11 m ρ c (Proc.devRef .tc main_v28) : FVec Ideal S128x2048 .bf16) (ix2 l b) = _
  unfold W11 W10 W9 W8 W7 W6 W5 W4 W3 W2 W1
  after_reads_at
  simp only [id_eq]
  have hl := lane_le b
  rw [show constantI S_ 32 48#32 ix0 = 48#32 from rfl, show constantI S_ 32 128#32 ix0 = 128#32 from rfl, word_lane b, word_sign b,
    WordCmp.cmpi_eq_ofNat (by omega) (by omega), select_if, select_if]
  unfold sign
  refine ite_congr rfl (fun _ => ?_) fun _ => rfl
  split_ifs
  · exact minus_one
  · rfl

end Cert.KernelIdeal.Map

end
-- ==== Proof.Fox.Gate.lean ====
module

public import proofs.«01_k».proof.Proof.Gen.KernelIdeal.Frame
public import Idealize.ShloMosaic.Lib.Pipeline.ValueKit
public import proofs.«01_k».proof.Proof.Fox.Math

/-! # The gates of the forgetting attention: what the running sums of the forget gates leave in their two arrays -/

@[expose] public section

set_option maxRecDepth 16384

noncomputable section

open Idealize.ShloMosaic Idealize.ShloMosaic.TcCoe Idealize.SL.Sem
open Idealize.ShloMosaic.Pipeline (Dat)

namespace Cert.KernelIdeal.Gate
open Cert.KernelIdeal Cert.KernelIdeal.Gen Cert.Fox

theorem select_if (p : Prop) [Decidable p] (x y : EReal) : Scalar.select (BitVec.ofBool (decide p)) x y = if p then x else y := by
  by_cases h : p <;> simp [h, Scalar.select]

theorem coe_sum {ι : Type} (s : Finset ι) (f : ι → ℝ) : ((∑ i ∈ s, f i : ℝ) : EReal) = ∑ i ∈ s, (f i : EReal) := by
  classical
  induction s using Finset.induction with
  | empty => simp
  | insert a s h ih => rw [Finset.sum_insert h, Finset.sum_insert h, EReal.coe_add, ih]

theorem coe_sub_self (x : ℝ) : (x : EReal) - (x : EReal) = 0 := by rw [← EReal.coe_sub, sub_self, EReal.coe_zero]

/-- A running sum over whole blocks and the first `a + 1` entries of the next one. -/
theorem sum_block (g : ℕ → ℝ) (n a : ℕ) (ha : a < 256) :
    (∑ j : Fin 256, if j.val ≤ a then g (n + j.val) else 0) + ∑ j ∈ Finset.range n, g j = ∑ j ∈ Finset.range (n + a + 1), g j := by
  rw [Fin.sum_univ_eq_sum_range (fun j => if j ≤ a then g (n + j) else 0) 256, add_assoc n, Finset.sum_range_add, add_comm, ← Finset.sum_filter]
  congr 2
  ext j
  simp only [Finset.mem_filter, Finset.mem_range]
  omega

/-- The lower triangular product adds up the first rows of a block. -/
theorem local_at (x : FVec Ideal S256x128 .f32) (a : Fin 256) (l : Fin 128) (g : Fin 256 → ℝ) (hx : ∀ j, x (ix2 j l) = (g j : EReal)) :
    k0_pay7 (F := Ideal) x (ix2 a l) = ((∑ j : Fin 256, if j.val ≤ a.val then g j else 0 : ℝ) : EReal) := by
  pointwise [k0_pay7, k0_pay4]
  have ha := a.isLt
  have h : ∀ (j : Fin 256) (u v : EReal), Scalar.select (IntOp.cmpi .sge (BitVec.ofNat 32 a.val) (BitVec.ofNat 32 j.val)) u v = if j.val ≤ a.val then u else v := fun j u v => by
    rw [WordCmp.cmpi_sge_ofNat (by omega) (by omega), select_if]
  simp only [h, hx, coe_sub_self, sub_zero, ite_self, Finset.sum_const_zero, add_zero]
  rw [coe_sum]
  refine Finset.sum_congr rfl fun j _ => ?_
  split_ifs <;> rfl

/-- The sum over everything before row `a + 1` of a block, the sum over the blocks before it being carried in. -/
theorem sum_at (x : FVec Ideal S256x128 .f32) (v : FVec Ideal S1x128 .f32) (a : Fin 256) (l : Fin 128) (g : ℕ → ℝ) (n : ℕ)
    (hx : ∀ j : Fin 256, x (ix2 j l) = (g (n + j.val) : EReal)) (hv : v (ix2 0 l) = ((∑ j ∈ Finset.range n, g j : ℝ) : EReal)) :
    k0_pay7 (F := Ideal) x (ix2 a l) + v (ix2 0 l) = ((∑ j ∈ Finset.range (n + a.val + 1), g j : ℝ) : EReal) := by
  rw [local_at x a l (fun j => g (n + j.val)) hx, hv, ← EReal.coe_add, sum_block g n a.val a.isLt]

theorem next_at (u : FVec Ideal S256x128 .f32) (v : FVec Ideal S1x128 .f32) (l : Fin 128) :
    k0_pay30 (F := Ideal) u v (ix2 0 l) = u (ix2 255 l) + v (ix2 0 l) := by
  pointwise [k0_pay30, k0_pay29]

/-- The first part of the split holds the scaled sum itself. -/
theorem first_at (u : FVec Ideal S256x128 .f32) (v : FVec Ideal S1x128 .f32) (a : Fin 256) (l : Fin 128) (x : ℝ)
    (h : u (ix2 a l) + v (ix2 0 l) = (x : EReal)) :
    k0_pay36 (F := Ideal) u v (ix2 a l) = ((x * (Real.log 2)⁻¹ : ℝ) : EReal) := by
  pointwise [k0_pay36, k0_pay32, k0_pay31, k0_pay29]
  rw [h, IdealRules.named_const.ideal_named_scalar _ _ _ _ rfl, EReal.coe_mul]

theorem second_eq (u : FVec Ideal S256x128 .f32) (v : FVec Ideal S1x128 .f32) (a : Fin 256) (l : Fin 128) :
    k0_pay34 (F := Ideal) u v (ix2 a l) = k0_pay36 (F := Ideal) u v (ix2 a l) - k0_pay36 (F := Ideal) u v (ix2 a l) := by
  pointwise [k0_pay34, k0_pay33, k0_pay36, k0_pay32]

theorem third_eq (u : FVec Ideal S256x128 .f32) (v : FVec Ideal S1x128 .f32) (a : Fin 256) (l : Fin 128) :
    k0_pay35 (F := Ideal) u v (ix2 a l) = k0_pay34 (F := Ideal) u v (ix2 a l) - k0_pay34 (F := Ideal) u v (ix2 a l) := by
  pointwise [k0_pay35, k0_pay34, k0_pay33]

/-- The second and third parts of the split of a real number are zero. -/
theorem second_at (u : FVec Ideal S256x128 .f32) (v : FVec Ideal S1x128 .f32) (a : Fin 256) (l : Fin 128) (x : ℝ)
    (h : u (ix2 a l) + v (ix2 0 l) = (x : EReal)) : k0_pay34 (F := Ideal) u v (ix2 a l) = 0 := by
  rw [second_eq, first_at u v a l x h, coe_sub_self]

theorem third_at (u : FVec Ideal S256x128 .f32) (v : FVec Ideal S1x128 .f32) (a : Fin 256) (l : Fin 128) (x : ℝ)
    (h : u (ix2 a l) + v (ix2 0 l) = (x : EReal)) : k0_pay35 (F := Ideal) u v (ix2 a l) = 0 := by
  rw [third_eq, second_at u v a l x h, sub_zero]

/-- What a column of the placement, which takes lane `L` with sign `s`, picks from the packed lanes. -/
def picked (x : ℕ → ℝ) (L : ℕ) (s : ℝ) : ℝ := if L = 48 then s else if L < 16 then x L * (Real.log 2)⁻¹ * s else 0

theorem placed_at (u : FVec Ideal S256x128 .f32) (v : FVec Ideal S1x128 .f32) (pm : FVec Ideal S128x2048 .bf16) (a : Fin 256) (b : Fin 2048)
    (x : ℕ → ℝ) (L : ℕ) (s : ℝ) (hpm : ∀ l : Fin 128, pm (ix2 l b) = if l.val = L then (s : EReal) else 0)
    (h : ∀ l : Fin 128, l.val < 16 → u (ix2 a l) + v (ix2 0 l) = (x l.val : EReal)) :
    k0_pay37 (F := Ideal) k0_pay5 k0_pay6 (k0_pay34 u v) (k0_pay35 u v) (k0_pay36 u v) pm (ix2 a b) = (picked x L s : EReal) := by
  have e1 : ∀ l : Fin 128, l.val < 16 → k0_pay36 (F := Ideal) u v (ix2 a l) = ((x l.val * (Real.log 2)⁻¹ : ℝ) : EReal) :=
    fun l hl => first_at u v a l _ (h l hl)
  have e2 : ∀ l : Fin 128, l.val < 16 → k0_pay34 (F := Ideal) u v (ix2 a l) = 0 := fun l hl => second_at u v a l _ (h l hl)
  have e3 : ∀ l : Fin 128, l.val < 16 → k0_pay35 (F := Ideal) u v (ix2 a l) = 0 := fun l hl => third_at u v a l _ (h l hl)
  generalize k0_pay36 (F := Ideal) u v = r at e1 ⊢
  generalize k0_pay34 (F := Ideal) u v = p at e2 ⊢
  generalize k0_pay35 (F := Ideal) u v = q at e3 ⊢
  pointwise [k0_pay37, k0_pay5, k0_pay6]
  have lt : ∀ (l : ℕ) (y z : EReal), l < 128 → Scalar.select (IntOp.cmpi .slt (BitVec.ofNat 32 l) 16#32) y z = if l < 16 then y else z := fun l y z hl => by
    rw [WordCmp.cmpi_slt_ofNat (by omega) (by omega), select_if]
  have eq : ∀ (l : ℕ) (y z : EReal), l < 128 → Scalar.select (IntOp.cmpi .eq (BitVec.ofNat 32 l) 48#32) y z = if l = 48 then y else z := fun l y z hl => by
    rw [WordCmp.cmpi_eq_ofNat (by omega) (by omega), select_if]
  have term : ∀ l : Fin 128, (Scalar.select (IntOp.cmpi .eq (BitVec.ofNat 32 l.val) 48#32) (1 : EReal) 0
        + Scalar.select (IntOp.cmpi .slt (BitVec.ofNat 32 l.val) 16#32) (r (ix2 a l)) 0
        + Scalar.select (IntOp.cmpi .slt (BitVec.ofNat 32 ((l.val + 128 - 16) % 128)) 16#32) (p (ix2 a ⟨(l.val + 128 - 16) % 128, by omega⟩)) 0
        + Scalar.select (IntOp.cmpi .slt (BitVec.ofNat 32 ((l.val + 128 - 32) % 128)) 16#32) (q (ix2 a ⟨(l.val + 128 - 32) % 128, by omega⟩)) 0)
        * pm (ix2 l b) = if l.val = L then (picked x L s : EReal) else 0 := by
    intro l
    have hl := l.isLt
    rw [lt _ _ _ hl, eq _ _ _ hl, lt _ _ _ (by omega), lt _ _ _ (by omega), hpm]
    have c2 : (if (l.val + 128 - 16) % 128 < 16 then p (ix2 a ⟨(l.val + 128 - 16) % 128, by omega⟩) else 0) = (0 : EReal) := by
      split_ifs with g
      · exact e2 _ g
      · rfl
    have c3 : (if (l.val + 128 - 32) % 128 < 16 then q (ix2 a ⟨(l.val + 128 - 32) % 128, by omega⟩) else 0) = (0 : EReal) := by
      split_ifs with g
      · exact e3 _ g
      · rfl
    rw [c2, c3, add_zero, add_zero]
    by_cases hL : l.val = L
    · subst hL
      rw [if_pos rfl, if_pos rfl]
      unfold picked
      by_cases h1 : l.val = 48
      · rw [if_pos h1, if_pos h1, if_neg (by omega), add_zero, one_mul]
      · rw [if_neg h1, if_neg h1, zero_add]
        by_cases h2 : l.val < 16
        · rw [if_pos h2, if_pos h2, e1 l h2, ← EReal.coe_mul]
        · rw [if_neg h2, if_neg h2, zero_mul, EReal.coe_zero]
    · rw [if_neg hL, if_neg hL, mul_zero]
  refine (Finset.sum_congr rfl fun l _ => term l).trans ?_
  by_cases hL : L < 128
  · rw [Finset.sum_eq_single (⟨L, hL⟩ : Fin 128) (fun l _ hl => if_neg fun e => hl (Fin.ext e)) (fun hn => absurd (Finset.mem_univ _) hn)]
    exact if_pos rfl
  · rw [Finset.sum_eq_zero fun l _ => if_neg (by omega)]
    unfold picked
    rw [if_neg (by omega), if_neg (by omega), EReal.coe_zero]

/-- The eight blocks of 256 rows of a sequence. -/
def block (x : FVec Ideal S2048x128 .f32) : ℕ → FVec Ideal S256x128 .f32
  | 0 => View.ld (Val := Elt Ideal) (e' := .f32) x r0_0
  | 1 => View.ld (Val := Elt Ideal) (e' := .f32) x r0_1
  | 2 => View.ld (Val := Elt Ideal) (e' := .f32) x r0_2
  | 3 => View.ld (Val := Elt Ideal) (e' := .f32) x r0_3
  | 4 => View.ld (Val := Elt Ideal) (e' := .f32) x r0_4
  | 5 => View.ld (Val := Elt Ideal) (e' := .f32) x r0_5
  | 6 => View.ld (Val := Elt Ideal) (e' := .f32) x r0_6
  | _ => View.ld (Val := Elt Ideal) (e' := .f32) x r0_7

theorem block_at (x : FVec Ideal S2048x128 .f32) (n : ℕ) (hn : n < 8) (a : Fin 256) (l : Fin 128) :
    block x n (ix2 a l) = x (ix2 ⟨256 * n + a.val, by omega⟩ l) := by
  interval_cases n <;> pointwise [block]

/-- The sums carried into the blocks. -/
def carry (x : FVec Ideal S2048x128 .f32) : ℕ → FVec Ideal S1x128 .f32
  | 0 => broadcast S1x128 (Scalar.ofBits (F := Ideal) .f32 0x00000000#32)
  | n + 1 => k0_pay30 (F := Ideal) (k0_pay7 (block x n)) (carry x n)

theorem carry_at (x : FVec Ideal S2048x128 .f32) (l : Fin 128) (g : ℕ → ℝ) (hx : ∀ r : Fin 2048, x (ix2 r l) = (g r.val : EReal)) (n : ℕ) (hn : n ≤ 8) :
    carry x n (ix2 0 l) = ((∑ j ∈ Finset.range (256 * n), g j : ℝ) : EReal) := by
  induction n with
  | zero => pointwise [carry]; simp
  | succ n ih =>
    unfold carry
    rw [next_at, sum_at (block x n) (carry x n) 255 l g (256 * n) (fun j => (block_at x n (by omega) j l).trans (hx _)) (ih (by omega))]
    rfl

/-- The gates placed in the columns, for the rows of a block. -/
def place (x : FVec Ideal S2048x128 .f32) (pm : FVec Ideal S128x2048 .bf16) (n : ℕ) : FVec Ideal S256x2048 .f32 :=
  k0_pay37 (F := Ideal) k0_pay5 k0_pay6 (k0_pay34 (k0_pay7 (block x n)) (carry x n)) (k0_pay35 (k0_pay7 (block x n)) (carry x n))
    (k0_pay36 (k0_pay7 (block x n)) (carry x n)) (View.ld (Val := Elt Ideal) (e' := .bf16) pm r0_8)

def keys (x : FVec Ideal S2048x128 .f32) (pm : FVec Ideal S128x2048 .bf16) (n : ℕ) : FVec Ideal S256x1024 .bf16 :=
  k0_pay38 (F := Ideal) k0_pay5 k0_pay6 (k0_pay34 (k0_pay7 (block x n)) (carry x n)) (k0_pay35 (k0_pay7 (block x n)) (carry x n))
    (k0_pay36 (k0_pay7 (block x n)) (carry x n)) (View.ld (Val := Elt Ideal) (e' := .bf16) pm r0_8)

def queries (x : FVec Ideal S2048x128 .f32) (pm : FVec Ideal S128x2048 .bf16) (n : ℕ) : FVec Ideal S256x1024 .bf16 :=
  k0_pay39 (F := Ideal) k0_pay5 k0_pay6 (k0_pay34 (k0_pay7 (block x n)) (carry x n)) (k0_pay35 (k0_pay7 (block x n)) (carry x n))
    (k0_pay36 (k0_pay7 (block x n)) (carry x n)) (View.ld (Val := Elt Ideal) (e' := .bf16) pm r0_8)

theorem keys_place (x : FVec Ideal S2048x128 .f32) (pm : FVec Ideal S128x2048 .bf16) (n : ℕ) (a : Fin 256) (b : Fin 1024) :
    keys x pm n (ix2 a b) = place x pm n (ix2 a ⟨b.val, by omega⟩) := by
  unfold keys place
  pointwise [k0_pay38]

theorem queries_place (x : FVec Ideal S2048x128 .f32) (pm : FVec Ideal S128x2048 .bf16) (n : ℕ) (a : Fin 256) (b : Fin 1024) :
    queries x pm n (ix2 a b) = place x pm n (ix2 a ⟨1024 + b.val, by omega⟩) := by
  unfold queries place
  pointwise [k0_pay39]

/-- The placed gates of row `r`: the running sum of the gates up to that row, in the columns that take it. -/
theorem place_at (x : FVec Ideal S2048x128 .f32) (pm : FVec Ideal S128x2048 .bf16) (g : ℕ → ℕ → ℝ)
    (hx : ∀ (r : Fin 2048) (l : Fin 128), l.val < 16 → x (ix2 r l) = (g r.val l.val : EReal)) (L : ℕ → ℕ) (s : ℕ → ℝ)
    (hpm : ∀ (l : Fin 128) (b : Fin 2048), pm (ix2 l b) = if l.val = L b.val then (s b.val : EReal) else 0) (n : ℕ) (hn : n < 8)
    (a : Fin 256) (b : Fin 2048) :
    place x pm n (ix2 a b) = (picked (fun l => ∑ j ∈ Finset.range (256 * n + a.val + 1), g j l) (L b.val) (s b.val) : EReal) := by
  refine placed_at _ _ _ a b _ _ _ (fun l => ?_) fun l hl => ?_
  · refine Eq.trans ?_ (hpm l b)
    pointwise
  · exact sum_at (block x n) (carry x n) a l (fun j => g j l.val) (256 * n) (fun j => (block_at x n hn j l).trans (hx _ _ hl))
      (carry_at x l (fun j => g j l.val) (fun r => hx r l hl) n (by omega))

section
variable (x : FVec Ideal S2048x128 .f32) (pm : FVec Ideal S128x2048 .bf16) (g : ℕ → ℕ → ℝ)
    (hx : ∀ (r : Fin 2048) (l : Fin 128), l.val < 16 → x (ix2 r l) = (g r.val l.val : EReal)) (L : ℕ → ℕ) (s : ℕ → ℝ)
    (hpm : ∀ (l : Fin 128) (b : Fin 2048), pm (ix2 l b) = if l.val = L b.val then (s b.val : EReal) else 0)
include hx hpm

theorem keys_at (n : ℕ) (hn : n < 8) (p : S256x1024.Idx) (y : S2048x1024.Idx) (g0 : (y 0).val = 256 * n + (p 0).val) (g1 : (y 1).val = (p 1).val) :
    keys x pm n p = (picked (fun l => ∑ j ∈ Finset.range ((y 0).val + 1), g j l) (L (y 1).val) (s (y 1).val) : EReal) := by
  obtain ⟨a, b, rfl⟩ : ∃ (a : Fin 256) (b : Fin 1024), p = ix2 a b := ⟨p 0, p 1, by pointwise⟩
  rw [keys_place, place_at x pm g hx L s hpm n hn, g0, g1]
  rfl

theorem queries_at (n : ℕ) (hn : n < 8) (p : S256x1024.Idx) (y : S2048x1024.Idx) (g0 : (y 0).val = 256 * n + (p 0).val) (g1 : (y 1).val = (p 1).val) :
    queries x pm n p = (picked (fun l => ∑ j ∈ Finset.range ((y 0).val + 1), g j l) (L (1024 + (y 1).val)) (s (1024 + (y 1).val)) : EReal) := by
  obtain ⟨a, b, rfl⟩ : ∃ (a : Fin 256) (b : Fin 1024), p = ix2 a b := ⟨p 0, p 1, by pointwise⟩
  rw [queries_place, place_at x pm g hx L s hpm n hn, g0, g1]
  rfl

theorem out2_at (y : S2048x1024.Idx) : out0_2 (F := Ideal) x pm y
    = (picked (fun l => ∑ j ∈ Finset.range ((y 0).val + 1), g j l) (L (y 1).val) (s (y 1).val) : EReal) := by
  unfold out0_2
  refine Eq.trans ?_ (show (fun y : S2048x1024.Idx => (picked (fun l => ∑ j ∈ Finset.range ((y 0).val + 1), g j l) (L (y 1).val) (s (y 1).val) : EReal)) y = _ from rfl)
  canon_tiles p g
  case piece0 => exact keys_at x pm g hx L s hpm 7 (by omega) p y g0 g1
  case piece1 => exact keys_at x pm g hx L s hpm 6 (by omega) p y g0 g1
  case piece2 => exact keys_at x pm g hx L s hpm 5 (by omega) p y g0 g1
  case piece3 => exact keys_at x pm g hx L s hpm 4 (by omega) p y g0 g1
  case piece4 => exact keys_at x pm g hx L s hpm 3 (by omega) p y g0 g1
  case piece5 => exact keys_at x pm g hx L s hpm 2 (by omega) p y g0 g1
  case piece6 => exact keys_at x pm g hx L s hpm 1 (by omega) p y g0 g1
  case piece7 => exact keys_at x pm g hx L s hpm 0 (by omega) p y (g0.trans (Nat.zero_add _).symm) g1

theorem out3_at (y : S2048x1024.Idx) : out0_3 (F := Ideal) x pm y
    = (picked (fun l => ∑ j ∈ Finset.range ((y 0).val + 1), g j l) (L (1024 + (y 1).val)) (s (1024 + (y 1).val)) : EReal) := by
  unfold out0_3
  refine Eq.trans ?_ (show (fun y : S2048x1024.Idx => (picked (fun l => ∑ j ∈ Finset.range ((y 0).val + 1), g j l) (L (1024 + (y 1).val)) (s (1024 + (y 1).val)) : EReal)) y = _ from rfl)
  canon_tiles p g
  case piece0 => exact queries_at x pm g hx L s hpm 7 (by omega) p y g0 g1
  case piece1 => exact queries_at x pm g hx L s hpm 6 (by omega) p y g0 g1
  case piece2 => exact queries_at x pm g hx L s hpm 5 (by omega) p y g0 g1
  case piece3 => exact queries_at x pm g hx L s hpm 4 (by omega) p y g0 g1
  case piece4 => exact queries_at x pm g hx L s hpm 3 (by omega) p y g0 g1
  case piece5 => exact queries_at x pm g hx L s hpm 2 (by omega) p y g0 g1
  case piece6 => exact queries_at x pm g hx L s hpm 1 (by omega) p y g0 g1
  case piece7 => exact queries_at x pm g hx L s hpm 0 (by omega) p y (g0.trans (Nat.zero_add _).symm) g1
end

end Cert.KernelIdeal.Gate

end
-- ==== Proof.Fox.Score.lean ====
module

public import proofs.«01_k».proof.Proof.Fox.Attend
public import proofs.«01_k».proof.Proof.Fox.Map
public import proofs.«01_k».proof.Proof.Fox.Gate

/-! # The scores of the forgetting attention

    A tile of the kernel holds two heads. A row's product over the tile is the product of the head's own queries and keys, plus a
    product of two gate lanes that are kept in the columns of the other head: the difference of the running sums of the gates. -/

@[expose] public section

set_option maxRecDepth 16384

noncomputable section

open Idealize.ShloMosaic

namespace Cert.Fox
open Cert.KernelIdeal.Gate Cert.KernelIdeal.Map

/-- A sum over the tile is the sum over the head's own half and over the other half. -/
theorem sum_halves (f : ℕ → EReal) (e : ℕ) (he : e < 2) :
    ∑ l : Fin 128, f l.val = (∑ d : Fin 64, f (e * 64 + d.val)) + ∑ d : Fin 64, f ((1 - e) * 64 + d.val) := by
  have h : ∑ l : Fin 128, f l.val = (∑ d : Fin 64, f d.val) + ∑ d : Fin 64, f (64 + d.val) :=
    Fin.sum_univ_add (a := 64) (b := 64) (fun l : Fin (64 + 64) => f l.val)
  have h0 : ∑ d : Fin 64, f (0 * 64 + d.val) = ∑ d : Fin 64, f d.val := Finset.sum_congr rfl fun d _ => by rw [Nat.zero_mul, Nat.zero_add]
  have h1 : ∑ d : Fin 64, f (1 * 64 + d.val) = ∑ d : Fin 64, f (64 + d.val) := rfl
  rw [h]
  rcases (by omega : e = 0 ∨ e = 1) with rfl | rfl
  · exact congrArg₂ (· + ·) h0.symm h1.symm
  · rw [add_comm]
    exact congrArg₂ (· + ·) h1.symm h0.symm

theorem partner : ∀ (t : Fin 8) (e : Fin 2), (t.val * 2 + (1 - e.val)).xor 1 = t.val * 2 + e.val := by decide

/-- The gate lanes of the keys, in the columns of the other head: minus the running sum, twice nothing, one, nothing more. -/
theorem key_lane (x : ℕ → ℝ) (t : Fin 8) (e : Fin 2) (d : Fin 64) :
    picked x (lane (t.val * 128 + ((1 - e.val) * 64 + d.val))) (sign (t.val * 128 + ((1 - e.val) * 64 + d.val)))
      = if d.val = 0 then -(x (t.val * 2 + e.val) * (Real.log 2)⁻¹) else if d.val = 3 then 1 else 0 := by
  have hd := d.isLt
  have ht := t.isLt
  have he := e.isLt
  have e1 : (t.val * 128 + ((1 - e.val) * 64 + d.val)) % 64 = d.val := by omega
  have e2 : (t.val * 128 + ((1 - e.val) * 64 + d.val)) / 64 % 16 = t.val * 2 + (1 - e.val) := by omega
  have e3 : t.val * 128 + ((1 - e.val) * 64 + d.val) < 1024 := by omega
  have hl : lane (t.val * 128 + ((1 - e.val) * 64 + d.val))
      = if d.val < 3 then d.val * 16 + (t.val * 2 + e.val) else if d.val = 3 then 48 else 128 := by
    unfold lane
    rw [e1, e2, partner]
    simp only [if_pos e3]
  have hs : sign (t.val * 128 + ((1 - e.val) * 64 + d.val)) = if d.val < 3 then -1 else 1 := by
    unfold sign
    rw [e1]
    simp only [e3, true_and]
  rw [hl, hs]
  by_cases h3 : d.val < 3
  · simp only [if_pos h3]
    unfold picked
    have a : ¬ d.val * 16 + (t.val * 2 + e.val) = 48 := by omega
    by_cases h0 : d.val = 0
    · have b : d.val * 16 + (t.val * 2 + e.val) = t.val * 2 + e.val := by omega
      rw [b] at a ⊢
      rw [if_neg a, if_pos (show t.val * 2 + e.val < 16 by omega), if_pos h0]
      ring
    · rw [if_neg a, if_neg (show ¬ d.val * 16 + (t.val * 2 + e.val) < 16 by omega), if_neg h0, if_neg (show ¬ d.val = 3 by omega)]
  · simp only [if_neg h3]
    unfold picked
    by_cases h4 : d.val = 3
    · simp [h4]
    · simp [h4, show ¬ d.val = 0 by omega]

/-- The gate lanes of the queries: three times one, the running sum, nothing more. -/
theorem query_lane (x : ℕ → ℝ) (t : Fin 8) (e : Fin 2) (d : Fin 64) :
    picked x (lane (1024 + (t.val * 128 + ((1 - e.val) * 64 + d.val)))) (sign (1024 + (t.val * 128 + ((1 - e.val) * 64 + d.val))))
      = if d.val < 3 then 1 else if d.val = 3 then x (t.val * 2 + e.val) * (Real.log 2)⁻¹ else 0 := by
  have hd := d.isLt
  have ht := t.isLt
  have he := e.isLt
  have e1 : (1024 + (t.val * 128 + ((1 - e.val) * 64 + d.val))) % 64 = d.val := by omega
  have e2 : (1024 + (t.val * 128 + ((1 - e.val) * 64 + d.val))) / 64 % 16 = t.val * 2 + (1 - e.val) := by omega
  have e3 : ¬ 1024 + (t.val * 128 + ((1 - e.val) * 64 + d.val)) < 1024 := by omega
  have hl : lane (1024 + (t.val * 128 + ((1 - e.val) * 64 + d.val)))
      = if d.val < 3 then 48 else if d.val = 3 then t.val * 2 + e.val else 128 := by
    unfold lane
    rw [e1, e2, partner]
    simp only [if_neg e3]
  have hs : sign (1024 + (t.val * 128 + ((1 - e.val) * 64 + d.val))) = 1 := by
    unfold sign
    rw [if_neg fun h => e3 h.1]
  rw [hl, hs]
  by_cases h3 : d.val < 3
  · simp only [if_pos h3]
    simp [picked]
  · simp only [if_neg h3]
    by_cases h4 : d.val = 3
    · simp only [if_pos h4]
      unfold picked
      rw [if_neg (show ¬ t.val * 2 + e.val = 48 by omega), if_pos (show t.val * 2 + e.val < 16 by omega), mul_one]
    · simp [picked, h4]

/-- The product of the gate lanes is the difference of the running sums. -/
theorem gates (x y : ℕ → ℝ) (t : Fin 8) (e : Fin 2) :
    ∑ d : Fin 64, (picked x (lane (1024 + (t.val * 128 + ((1 - e.val) * 64 + d.val)))) (sign (1024 + (t.val * 128 + ((1 - e.val) * 64 + d.val)))) : EReal)
        * (picked y (lane (t.val * 128 + ((1 - e.val) * 64 + d.val))) (sign (t.val * 128 + ((1 - e.val) * 64 + d.val))) : EReal)
      = (((x (t.val * 2 + e.val) - y (t.val * 2 + e.val)) * (Real.log 2)⁻¹ : ℝ) : EReal) := by
  have h : ∀ d : Fin 64, (picked x (lane (1024 + (t.val * 128 + ((1 - e.val) * 64 + d.val)))) (sign (1024 + (t.val * 128 + ((1 - e.val) * 64 + d.val)))) : EReal)
        * (picked y (lane (t.val * 128 + ((1 - e.val) * 64 + d.val))) (sign (t.val * 128 + ((1 - e.val) * 64 + d.val))) : EReal)
      = (((if d = 0 then -(y (t.val * 2 + e.val) * (Real.log 2)⁻¹) else 0) + (if d = 3 then x (t.val * 2 + e.val) * (Real.log 2)⁻¹ else 0) : ℝ) : EReal) := by
    intro d
    rw [key_lane, query_lane, ← EReal.coe_mul]
    congr 1
    have h0 : d = 0 ↔ d.val = 0 := ⟨fun h => by rw [h]; rfl, fun h => Fin.ext h⟩
    have h3 : d = 3 ↔ d.val = 3 := ⟨fun h => by rw [h]; rfl, fun h => Fin.ext h⟩
    simp only [h0, h3]
    by_cases a : d.val = 0
    · simp [a]
    · by_cases b : d.val = 3
      · simp [b]
      · simp [a, b]
  rw [Finset.sum_congr rfl fun d _ => h d, ← coe_sum, Finset.sum_add_distrib, Finset.sum_ite_eq' Finset.univ, Finset.sum_ite_eq' Finset.univ,
    if_pos (Finset.mem_univ _), if_pos (Finset.mem_univ _)]
  congr 1
  ring

open Cert.KernelIdeal Cert.KernelIdeal.Fox in
/-- One row of the kernel is the reference's row of softmax, where the numbers are finite. -/
theorem whole_exp (q k v aq ak : FVec Ideal S16384x1024 .bf16) (Q K : ℕ → ℕ → ℝ) (g : ℕ → ℕ → ℕ → ℝ)
    (hq : ∀ i b, q (ix2 i b) = (Q i.val b.val : EReal)) (hk : ∀ i b, k (ix2 i b) = (K i.val b.val : EReal))
    (haq : ∀ i b, aq (ix2 i b) = (picked (g (i.val / 2048) (i.val % 2048)) (lane (1024 + b.val)) (sign (1024 + b.val)) : EReal))
    (hak : ∀ i b, ak (ix2 i b) = (picked (g (i.val / 2048) (i.val % 2048)) (lane b.val) (sign b.val) : EReal))
    (i : Fin 16384) (b : Fin 1024) (R : Fin 2048 → EReal)
    (hR : ∀ j : Fin 2048, R j = if j.val ≤ i.val % 2048 then
      (((∑ d : Fin 64, Q i.val (b.val / 64 * 64 + d.val) * K (i.val / 2048 * 2048 + j.val) (b.val / 64 * 64 + d.val)) * Real.log 2
        + g (i.val / 2048) (i.val % 2048) (b.val / 64) - g (i.val / 2048) j.val (b.val / 64) : ℝ) : EReal) else ⊥) :
    whole q k v aq ak i b
      = ∑ j : Fin 2048, Ideal.div (Ideal.exp (R j - top R)) (∑ j, Ideal.exp (R j - top R)) * v (ix2 ⟨i.val / 2048 * 2048 + j.val, by omega⟩ b) := by
  have hi := i.isLt
  have hb := b.isLt
  unfold whole
  refine att_exp (fun j : Fin 2048 => j.val ≤ i.val % 2048) _ _ ⟨0, by omega⟩ (Nat.zero_le _) _ R (fun j => ?_) hR
  refine ite_congr rfl (fun _ => ?_) fun _ => rfl
  have hj := j.isLt
  let t : Fin 8 := ⟨b.val / 128, by omega⟩
  let e : Fin 2 := ⟨b.val % 128 / 64, by omega⟩
  have hh : b.val / 64 = t.val * 2 + e.val := by show b.val / 64 = b.val / 128 * 2 + b.val % 128 / 64; omega
  have hm : (i.val / 2048 * 2048 + j.val) / 2048 = i.val / 2048 := by omega
  have hm' : (i.val / 2048 * 2048 + j.val) % 2048 = j.val := by omega
  refine (Finset.sum_congr rfl fun l _ => ?_).trans ((sum_halves (fun l =>
    if l / 64 = b.val % 128 / 64 then ((Q i.val (b.val / 128 * 128 + l) * K (i.val / 2048 * 2048 + j.val) (b.val / 128 * 128 + l) : ℝ) : EReal)
    else (picked (g (i.val / 2048) (i.val % 2048)) (lane (1024 + (b.val / 128 * 128 + l))) (sign (1024 + (b.val / 128 * 128 + l))) : EReal)
      * (picked (g (i.val / 2048) j.val) (lane (b.val / 128 * 128 + l)) (sign (b.val / 128 * 128 + l)) : EReal)) e.val e.isLt).trans ?_)
  · by_cases h : l.val / 64 = b.val % 128 / 64
    · simp only [if_pos h]
      rw [hq, hk, EReal.coe_mul]
    · simp only [if_neg h]
      rw [haq, hak]
      simp only [hm, hm']
  · have hown : ∀ d : Fin 64, (e.val * 64 + d.val) / 64 = b.val % 128 / 64 := fun d => by
      show (b.val % 128 / 64 * 64 + d.val) / 64 = b.val % 128 / 64; omega
    have hother : ∀ d : Fin 64, ¬ ((1 - e.val) * 64 + d.val) / 64 = b.val % 128 / 64 := fun d => by
      show ¬ ((1 - b.val % 128 / 64) * 64 + d.val) / 64 = b.val % 128 / 64; omega
    simp only [hown, hother, if_true, if_false]
    refine (congrArg₂ (· + ·) (coe_sum _ _).symm (gates (g (i.val / 2048) (i.val % 2048)) (g (i.val / 2048) j.val) t e)).trans ?_
    rw [← EReal.coe_add, ← hh]
    congr 1
    have hl : Real.log 2 ≠ 0 := (Real.log_pos one_lt_two).ne'
    have hc : ∀ d : Fin 64, b.val / 128 * 128 + (e.val * 64 + d.val) = b.val / 64 * 64 + d.val := fun d => by
      show b.val / 128 * 128 + (b.val % 128 / 64 * 64 + d.val) = b.val / 64 * 64 + d.val; omega
    simp only [hc]
    field_simp
    ring

end Cert.Fox

end
-- ==== Proof.Fox.Main.lean ====
module

public import proofs.«01_k».proof.Proof.Fox.Score

/-! # The kernel's run: both regions, and the result -/

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Main
open Cert.KernelIdeal Cert.KernelIdeal.Gen Cert.Fox Cert.KernelIdeal.Gate Cert.KernelIdeal.Map

section Gates

variable (V : (c : Dev nD) → (b : Ref sig .tc) → b.ty.Contents (Elt Ideal)) (c : Dev nD)
variable (G : ℕ → ℕ → ℝ)
  (hlf : ∀ (i : Fin 16384) (l : Fin 128), l.val < 16 → (show FVec Ideal S16384x128 .f32 from V c (Pipeline.arrRef spec0 0)) (ix2 i l) = (G i.val l.val : EReal))
  (hpm : ∀ (l : Fin 128) (b : Fin 2048), (show FVec Ideal S128x2048 .bf16 from V c (Pipeline.arrRef spec0 1)) (ix2 l b)
    = if l.val = lane b.val then (sign b.val : EReal) else 0)

theorem idx0 : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

include hlf in
theorem lf_at (t : Fin cfg0.N) (r : Fin 2048) (l : Fin 128) (hl : l.val < 16) :
    (show FVec Ideal S2048x128 .f32 from iblk0 V c 0 t) (ix2 r l) = (G (t.val * 2048 + r.val) l.val : EReal) := by
  have ht := t.isLt
  have hN : cfg0.N = 8 := rfl
  refine Eq.trans ?_ (hlf ⟨t.val * 2048 + r.val, by omega⟩ l hl)
  blk_ext [iblk0, idx0 t]

include hpm in
theorem pm_at (t : Fin cfg0.N) (l : Fin 128) (b : Fin 2048) :
    (show FVec Ideal S128x2048 .bf16 from iblk0 V c 1 t) (ix2 l b) = if l.val = lane b.val then (sign b.val : EReal) else 0 := by
  refine Eq.trans ?_ (hpm l b)
  blk_ext [iblk0, idx0 t]

include hlf hpm in
/-- The first result of the running sums: the gate lanes of the keys. -/
theorem keys_final : (dat0 V c).arrAt 2 cfg0.N = fun i : S16384x1024.Idx =>
    (picked (fun l => ∑ j ∈ Finset.range ((i 0).val % 2048 + 1), G ((i 0).val / 2048 * 2048 + j) l) (lane (i 1).val) (sign (i 1).val) : EReal) := by
  refine (dat0 V c).arrAt_eq_of_covers 2 _ (by decide +kernel) fun t hf y => ?_
  blk_simp
  rw [after0_2]
  obtain ⟨a, b, rfl⟩ : ∃ (a : Fin 2048) (b : Fin 1024), y = ix2 a b := ⟨y 0, y 1, by pointwise⟩
  refine (out2_at (iblk0 V c 0 t) (iblk0 V c 1 t) (fun r l => G (t.val * 2048 + r) l) (lf_at V c G hlf t) lane sign (pm_at V c hpm t) (ix2 a b)).trans ?_
  obtain ⟨-, -, h2, h3⟩ := idx0 t
  have ha := a.isLt
  simp only [h2, h3, ix2_0, ix2_1, Matrix.cons_val_zero, Matrix.cons_val_one, Nat.zero_mul, Nat.zero_add]
  rw [show (t.val * 2048 + a.val) % 2048 = a.val by omega, show (t.val * 2048 + a.val) / 2048 = t.val by omega]

include hlf hpm in
/-- The second: the gate lanes of the queries. -/
theorem queries_final : (dat0 V c).arrAt 3 cfg0.N = fun i : S16384x1024.Idx =>
    (picked (fun l => ∑ j ∈ Finset.range ((i 0).val % 2048 + 1), G ((i 0).val / 2048 * 2048 + j) l) (lane (1024 + (i 1).val)) (sign (1024 + (i 1).val)) : EReal) := by
  refine (dat0 V c).arrAt_eq_of_covers 3 _ (by decide +kernel) fun t hf y => ?_
  blk_simp
  rw [after0_3]
  obtain ⟨a, b, rfl⟩ : ∃ (a : Fin 2048) (b : Fin 1024), y = ix2 a b := ⟨y 0, y 1, by pointwise⟩
  refine (out3_at (iblk0 V c 0 t) (iblk0 V c 1 t) (fun r l => G (t.val * 2048 + r) l) (lf_at V c G hlf t) lane sign (pm_at V c hpm t) (ix2 a b)).trans ?_
  obtain ⟨-, -, h2, h3⟩ := idx0 t
  have ha := a.isLt
  simp only [h2, h3, ix2_0, ix2_1, Matrix.cons_val_zero, Matrix.cons_val_one, Nat.zero_mul, Nat.zero_add]
  rw [show (t.val * 2048 + a.val) % 2048 = a.val by omega, show (t.val * 2048 + a.val) / 2048 = t.val by omega]

end Gates

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run: the result array holds what the second region leaves in it. -/
theorem run : θ_run defs (onTc (τ := τ) (main (F := Ideal))) ⟨m, fun _ => 0, ρ⟩ (fun r => ∀ c : Dev nD,
      r.2.mem ((c.tc : Thread nD τ).loc main_v30) = (dat1 (V12 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨(h c _ (mem_uc main_v30 (by decide))).trans (W13_arr m ρ c 5),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c)⟩)

theorem at_q (c : Dev nD) : V12 m ρ c (Pipeline.arrRef spec1 0) = m ((c.tc : Thread nD τ).loc main_arg0) := W12_args m ρ c main_arg0 (by decide)
theorem at_k (c : Dev nD) : V12 m ρ c (Pipeline.arrRef spec1 1) = m ((c.tc : Thread nD τ).loc main_arg1) := W12_args m ρ c main_arg1 (by decide)
theorem at_v (c : Dev nD) : V12 m ρ c (Pipeline.arrRef spec1 2) = m ((c.tc : Thread nD τ).loc main_arg2) := W12_args m ρ c main_arg2 (by decide)
theorem at_aq (c : Dev nD) : V12 m ρ c (Pipeline.arrRef spec1 3) = (dat0 (V11 m ρ) c).arrAt 3 cfg0.N := W12_arr m ρ c 3
theorem at_ak (c : Dev nD) : V12 m ρ c (Pipeline.arrRef spec1 4) = (dat0 (V11 m ρ) c).arrAt 2 cfg0.N := W12_arr m ρ c 2
theorem at_lf (c : Dev nD) : V11 m ρ c (Pipeline.arrRef spec0 0) = m ((c.tc : Thread nD τ).loc main_arg3) := W11_args m ρ c main_arg3 (by decide)

/-- The result of the run at an entry, where the queries, the keys and the log forget gates are finite. -/
theorem result (c : Dev nD) (Q K G : ℕ → ℕ → ℝ)
    (hq : ∀ i b, (m ((c.tc : Thread nD τ).loc main_arg0) : FVec Ideal S16384x1024 .bf16) (ix2 i b) = (Q i.val b.val : EReal))
    (hk : ∀ i b, (m ((c.tc : Thread nD τ).loc main_arg1) : FVec Ideal S16384x1024 .bf16) (ix2 i b) = (K i.val b.val : EReal))
    (hg : ∀ (i : Fin 16384) (l : Fin 128), l.val < 16 → (m ((c.tc : Thread nD τ).loc main_arg3) : FVec Ideal S16384x128 .f32) (ix2 i l) = (G i.val l.val : EReal))
    (i : Fin 16384) (b : Fin 1024) (R : Fin 2048 → EReal)
    (hR : ∀ j : Fin 2048, R j = if j.val ≤ i.val % 2048 then
      (((∑ d : Fin 64, Q i.val (b.val / 64 * 64 + d.val) * K (i.val / 2048 * 2048 + j.val) (b.val / 64 * 64 + d.val)) * Real.log 2
        + (∑ u ∈ Finset.range (i.val % 2048 + 1), G (i.val / 2048 * 2048 + u) (b.val / 64))
        - (∑ u ∈ Finset.range (j.val + 1), G (i.val / 2048 * 2048 + u) (b.val / 64)) : ℝ) : EReal) else ⊥) :
    ((dat1 (V12 m ρ) c).arrAt 5 cfg1.N : FVec Ideal S16384x1024 .bf16) (ix2 i b)
      = ∑ j : Fin 2048, Ideal.div (Ideal.exp (R j - top R)) (∑ j, Ideal.exp (R j - top R))
          * (m ((c.tc : Thread nD τ).loc main_arg2) : FVec Ideal S16384x1024 .bf16) (ix2 ⟨i.val / 2048 * 2048 + j.val, by omega⟩ b) := by
  have hlf : ∀ (i : Fin 16384) (l : Fin 128), l.val < 16 →
      (show FVec Ideal S16384x128 .f32 from V11 m ρ c (Pipeline.arrRef spec0 0)) (ix2 i l) = (G i.val l.val : EReal) := by
    rw [at_lf]; exact hg
  have hpm : ∀ (l : Fin 128) (b : Fin 2048), (show FVec Ideal S128x2048 .bf16 from V11 m ρ c (Pipeline.arrRef spec0 1)) (ix2 l b)
      = if l.val = lane b.val then (sign b.val : EReal) else 0 := map_at m ρ c
  rw [Cert.KernelIdeal.Fox.final1]
  show Cert.KernelIdeal.Fox.whole _ _ _ _ _ i b = _
  rw [at_q, at_k, at_v, at_aq, at_ak]
  refine whole_exp _ _ _ _ _ Q K (fun s r l => ∑ u ∈ Finset.range (r + 1), G (s * 2048 + u) l) hq hk (fun i b => ?_) (fun i b => ?_) i b R hR
  · exact congrFun (queries_final (V11 m ρ) c G hlf hpm) (ix2 i b)
  · exact congrFun (keys_final (V11 m ρ) c G hlf hpm) (ix2 i b)

end Cert.KernelIdeal.Main

end
-- ==== Proof.Fox.Sums.lean ====
module

public import Idealize.ShloMosaic.Lib.Pipeline.ValueKit

/-! # Running sums and row maxima on the host, at an entry

    The sizes are variables here: the host's window sum along the middle axis of three is the sum of the entries so far, and its
    maximum over the last axis of four is a fold. -/

@[expose] public section

set_option maxRecDepth 16384

noncomputable section

open Idealize.ShloMosaic

namespace Cert.Fox

/-- Folding a sum adds it to the start. -/
theorem foldl_sum {ι : Type} (l : List ι) (t : ι → EReal) (v : EReal) : l.foldl (fun r n => r + t n) v = v + (l.map t).sum := by
  induction l generalizing v with
  | nil => simp
  | cons a l ih => rw [List.foldl_cons, ih, List.map_cons, List.sum_cons, add_assoc]

/-- A window of length `M + 1` that ends at `j` sees the entries up to `j`. -/
theorem window_sum (f : ℕ → EReal) (M j : ℕ) (hj : j ≤ M) :
    ∑ n ∈ Finset.range (M + 1), (if M ≤ j + n then f (j + n - M) else 0) = ∑ i ∈ Finset.range (j + 1), f i := by
  obtain ⟨d, rfl⟩ := Nat.exists_eq_add_of_le hj
  rw [show j + d + 1 = d + (j + 1) by omega, Finset.sum_range_add,
    Finset.sum_eq_zero fun n hn => if_neg (by have := Finset.mem_range.1 hn; omega), zero_add]
  exact Finset.sum_congr rfl fun n _ => by rw [if_pos (by omega)]; congr 1; omega

/-- A listed sum is a sum over a range. -/
theorem finRange_sum (g : ℕ → EReal) {N' : ℕ} (N : ℕ) (h : N' = N) :
    ((List.finRange N').map fun n => g n.val).sum = ∑ n ∈ Finset.range N, g n := by
  subst h
  rw [← Fin.sum_univ_def, Fin.sum_univ_eq_sum_range]

/-- The running sum along the middle axis. -/
theorem running {A B M : ℕ} (x : (⟨3, ![A, M + 1, B]⟩ : Shape).Idx → EReal) (init : (⟨0, ![]⟩ : Shape).Idx → EReal)
    (hu : 0 < (⟨0, ![]⟩ : Shape).numel)
    (h0 : init (Shape.Idx.first hu) = 0) (h : (⟨3, ![A, M + 1, B]⟩ : Shape).ReduceWindows (![1, M + 1, 1] : Fin 3 → ℕ) ![1, 1, 1] ![0, M, 0] ![0, 0, 0] ⟨3, ![A, M + 1, B]⟩)
    (a : Fin A) (j : Fin (M + 1)) (b : Fin B) (f : ℕ → EReal) (hf : ∀ i : Fin (M + 1), x (ix3 a i b) = f i.val) :
    Host.reduceWindowAdd (F := Ideal) (φ := .f32) ![1, M + 1, 1] ![1, 1, 1] ![0, M, 0] ![0, 0, 0] x init h hu (ix3 a j b)
      = ∑ i ∈ Finset.range (j.val + 1), f i := by
  have hj := j.isLt
  have hN : (⟨3, ![1, M + 1, 1]⟩ : Shape).numel = M + 1 := by simp [Shape.numel, Fin.prod_univ_succ]
  have hy : ∀ n : Fin (⟨3, ![1, M + 1, 1]⟩ : Shape).numel, (((⟨3, ![1, M + 1, 1]⟩ : Shape).rowMajor.symm n) 0).val = 0
      ∧ (((⟨3, ![1, M + 1, 1]⟩ : Shape).rowMajor.symm n) 1).val = n.val ∧ (((⟨3, ![1, M + 1, 1]⟩ : Shape).rowMajor.symm n) 2).val = 0 := by
    intro n
    have e := rowMajor_val3 ((⟨3, ![1, M + 1, 1]⟩ : Shape).rowMajor.symm n) _ _ rfl rfl
    rw [Equiv.apply_symm_apply] at e
    have h0 : (((⟨3, ![1, M + 1, 1]⟩ : Shape).rowMajor.symm n) 0).val < 1 := (((⟨3, ![1, M + 1, 1]⟩ : Shape).rowMajor.symm n) 0).isLt
    have h2 : (((⟨3, ![1, M + 1, 1]⟩ : Shape).rowMajor.symm n) 2).val < 1 := (((⟨3, ![1, M + 1, 1]⟩ : Shape).rowMajor.symm n) 2).isLt
    have h0' := Nat.lt_one_iff.1 h0
    have h2' := Nat.lt_one_iff.1 h2
    refine ⟨h0', ?_, h2'⟩
    rw [h0', h2'] at e
    have e1 : (![1, M + 1, 1] : Fin 3 → ℕ) 2 = 1 := rfl
    rw [e1] at e
    omega
  show Host.reduceWindow (· + ·) _ _ _ _ x (fun _ : (⟨0, ![]⟩ : Shape).Idx => init (Shape.Idx.first hu)) h hu (ix3 a j b) = _
  unfold Host.reduceWindow
  rw [h0]
  refine (foldl_sum _ _ _).trans ?_
  rw [zero_add, ← window_sum f M j.val (by omega), ← finRange_sum _ _ hN]
  refine congrArg List.sum (List.map_congr_left fun n _ => ?_)
  obtain ⟨y0, y1, y2⟩ := hy n
  have hn : n.val < M + 1 := by have := n.isLt; omega
  dsimp only
  split
  · next hin =>
    have h1 := hin 1
    change M ≤ j.val * 1 + ((⟨3, ![1, M + 1, 1]⟩ : Shape).rowMajor.symm n 1).val
      ∧ j.val * 1 + ((⟨3, ![1, M + 1, 1]⟩ : Shape).rowMajor.symm n 1).val - M < M + 1 at h1
    rw [y1] at h1
    rw [if_pos (by omega)]
    refine (congrArg x (funext fun k => Fin.ext ?_)).trans (hf ⟨j.val + n.val - M, by omega⟩)
    match k with
    | ⟨0, _⟩ =>
      show a.val * 1 + ((⟨3, ![1, M + 1, 1]⟩ : Shape).rowMajor.symm n 0).val - 0 = a.val
      omega
    | ⟨1, _⟩ =>
      show j.val * 1 + ((⟨3, ![1, M + 1, 1]⟩ : Shape).rowMajor.symm n 1).val - M = j.val + n.val - M
      omega
    | ⟨2, _⟩ =>
      show b.val * 1 + ((⟨3, ![1, M + 1, 1]⟩ : Shape).rowMajor.symm n 2).val - 0 = b.val
      omega
  · next hin =>
    rw [if_neg fun hle => hin fun k => by
      match k with
      | ⟨0, _⟩ =>
        show 0 ≤ a.val * 1 + ((⟨3, ![1, M + 1, 1]⟩ : Shape).rowMajor.symm n 0).val
          ∧ a.val * 1 + ((⟨3, ![1, M + 1, 1]⟩ : Shape).rowMajor.symm n 0).val - 0 < A
        have := a.isLt
        omega
      | ⟨1, _⟩ =>
        show M ≤ j.val * 1 + ((⟨3, ![1, M + 1, 1]⟩ : Shape).rowMajor.symm n 1).val
          ∧ j.val * 1 + ((⟨3, ![1, M + 1, 1]⟩ : Shape).rowMajor.symm n 1).val - M < M + 1
        omega
      | ⟨2, _⟩ =>
        show 0 ≤ b.val * 1 + ((⟨3, ![1, M + 1, 1]⟩ : Shape).rowMajor.symm n 2).val
          ∧ b.val * 1 + ((⟨3, ![1, M + 1, 1]⟩ : Shape).rowMajor.symm n 2).val - 0 < B
        have := b.isLt
        omega]

/-- The maximum over the last axis. -/
theorem peak {A B C D : ℕ} (s : FVec Ideal ⟨4, ![A, B, C, D]⟩ .f32) (init : FVec Ideal ⟨0, ![]⟩ .f32)
    (h : (⟨4, ![A, B, C, D]⟩ : Shape).ReducesTo [3] ⟨3, ![A, B, C]⟩) (hu : 0 < (⟨0, ![]⟩ : Shape).numel) (a : Fin A) (b : Fin B) (c : Fin C) :
    Host.reduce FloatOps.maximumf s init h hu (ix3 a b c)
      = Finset.fold max (init (Shape.Idx.first hu)) (fun d : Fin D => s (ix4 a b c d)) Finset.univ := by
  pointwise

end Cert.Fox

end
-- ==== Proof.Fox.Ref.lean ====
module

public import proofs.«01_k».proof.Proof.Gen.ReferenceIdeal.Run
public import Idealize.ShloMosaic.Lib.Pipeline.ValueKit
public import Idealize.ShloMosaic.Lib.WordCmp
public import proofs.«01_k».proof.Proof.Fox.Math
public import proofs.«01_k».proof.Proof.Fox.Sums

/-! # The reference at an entry -/

@[expose] public section

set_option maxRecDepth 16384

noncomputable section

open Idealize.ShloMosaic Idealize.ShloMosaic.TcCoe Idealize.SL.Sem

namespace Cert.ReferenceIdeal.Fox
open Cert.ReferenceIdeal Cert.ReferenceIdeal.Gen Cert.Fox

theorem select_if {α : Type} (p : Prop) [Decidable p] (x y : α) : Scalar.select (BitVec.ofBool (decide p)) x y = if p then x else y := by
  by_cases h : p <;> simp [h, Scalar.select]

/-- The running sums of the log forget gates. -/
def sums (lf : FVec Ideal S16384x128 .f32) : FVec Ideal S8x16x2048 .f32 :=
  transpose S8x16x2048 [0, 2, 1] (Host.reduceWindowAdd ![1, 2048, 1] ![1, 1, 1] ![0, 2047, 0] ![0, 0, 0] (extractStridedSlice S8x2048x16 ![0, 0, 0] (shapeCast _ lf shapeCasts_S16384x128_S8x2048x128) slices_S8x2048x128_S8x2048x16_0_0_0) (broadcastInDim S_ ![] bcast_S_S_ (constant S_ .f32 0x00000000#32)) reduceWindows_S8x2048x16_S8x2048x16_w1s1p0_0_w2048s1p2047_0_w1s1p0_0 h_S_) transposes_S8x2048x16_S8x16x2048_0_2_1

/-- The heads of an array of rows. -/
def heads (x : FVec Ideal S16384x1024 .bf16) : FVec Ideal S8x16x2048x64 .f32 :=
  transpose S8x16x2048x64 [0, 2, 1, 3] (shapeCast _ (extf .f32 x bitsLt_bf16_f32) shapeCasts_S16384x1024_S8x2048x16x64) transposes_S8x2048x16x64_S8x16x2048x64_0_2_1_3

/-- The masked scores. -/
def scores (q k : FVec Ideal S8x16x2048x64 .f32) (g : FVec Ideal S8x16x2048 .f32) : FVec Ideal S8x16x2048x2048 .f32 :=
  select (broadcastInDim S8x16x2048x2048 ![2, 3] bcast_S2048x2048_S8x16x2048x2048_2_3 (cmpi .sge (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))))
    (subf (addf (mulf (Host.dotGeneral dot_S8x16x2048x64_S8x16x2048x64_S8x16x2048x2048_3_3_2_2_01_01 none q k) (broadcastInDim S8x16x2048x2048 ![] bcast_S_S8x16x2048x2048 (id (Host.log (constant S_ .f32 0x40000000#32)))))
      (broadcastInDim S8x16x2048x2048 ![0, 1, 2, 3] bcast_S8x16x2048x1_S8x16x2048x2048_0_1_2_3 (broadcastInDim S8x16x2048x1 ![0, 1, 2] bcast_S8x16x2048_S8x16x2048x1_0_1_2 g)))
      (broadcastInDim S8x16x2048x2048 ![0, 1, 2, 3] bcast_S8x16x1x2048_S8x16x2048x2048_0_1_2_3 (broadcastInDim S8x16x1x2048 ![0, 1, 3] bcast_S8x16x2048_S8x16x1x2048_0_1_3 g)))
    (broadcastInDim S8x16x2048x2048 ![] bcast_S_S8x16x2048x2048 (id (constant S_ .f32 0xFF800000#32)))

/-- The greatest score of each row. -/
def peaks (s : FVec Ideal S8x16x2048x2048 .f32) : FVec Ideal S8x16x2048 .f32 :=
  Host.reduce FloatOps.maximumf s (constant S_ .f32 0xFF800000#32) reducesTo_S8x16x2048x2048_S8x16x2048_d3 h_S_

/-- One number for each row, repeated along it. -/
def along (m : FVec Ideal S8x16x2048 .f32) : FVec Ideal S8x16x2048x2048 .f32 :=
  broadcastInDim S8x16x2048x2048 ![0, 1, 2, 3] bcast_S8x16x2048x1_S8x16x2048x2048_0_1_2_3 (broadcastInDim S8x16x2048x1 ![0, 1, 2] bcast_S8x16x2048_S8x16x2048x1_0_1_2 m)

/-- The exponentials of the scores less a number for each row. -/
def lowered (s : FVec Ideal S8x16x2048x2048 .f32) (m : FVec Ideal S8x16x2048 .f32) : FVec Ideal S8x16x2048x2048 .f32 :=
  Host.exp (subf s (along (maximumf (broadcastInDim S8x16x2048 ![] bcast_S_S8x16x2048 (constant S_ .f32 0xFF800000#32)) m)))

/-- The exponentials of the scores less the greatest of their row. -/
def powers (s : FVec Ideal S8x16x2048x2048 .f32) : FVec Ideal S8x16x2048x2048 .f32 := lowered s (peaks s)

/-- The values averaged under the normalised powers. -/
def mean (p : FVec Ideal S8x16x2048x2048 .f32) (v : FVec Ideal S8x16x2048x64 .f32) : FVec Ideal S8x16x2048x64 .f32 :=
  Host.dotGeneral dot_S8x16x2048x2048_S8x16x2048x64_S8x16x2048x64_3_2_2_3_01_01 none (Host.divf p (broadcastInDim S8x16x2048x2048 ![0, 1, 2, 3] bcast_S8x16x2048x1_S8x16x2048x2048_0_1_2_3 (broadcastInDim S8x16x2048x1 ![0, 1, 2] bcast_S8x16x2048_S8x16x2048x1_0_1_2 (Host.reduceAdd p (constant S_ .f32 0x00000000#32) reducesTo_S8x16x2048x2048_S8x16x2048_d3 h_S_)))) v

/-- The heads side by side in rows again. -/
def rows (o : FVec Ideal S8x16x2048x64 .f32) : FVec Ideal S16384x1024 .bf16 :=
  truncf .bf16 (shapeCast _ (transpose S8x2048x16x64 [0, 2, 1, 3] o transposes_S8x16x2048x64_S8x2048x16x64_0_2_1_3) shapeCasts_S8x2048x16x64_S16384x1024) bitsLt_bf16_f32

theorem res_eq (m : (ℓ : Loc nD τ sig) → Buf (Elt Ideal) ℓ) (c : Dev nD) :
    Value.res_main_v45 m c = rows (mean (powers (scores (heads (m ((c.tc : Thread nD τ).loc main_arg0))) (heads (m ((c.tc : Thread nD τ).loc main_arg1))) (sums (m ((c.tc : Thread nD τ).loc main_arg3))))) (heads (m ((c.tc : Thread nD τ).loc main_arg2)))) := by
  rfl

theorem rows_at (o : FVec Ideal S8x16x2048x64 .f32) (i : Fin 16384) (b : Fin 1024) :
    rows o (ix2 i b) = o (ix4 ⟨i.val / 2048, by omega⟩ ⟨b.val / 64, by omega⟩ ⟨i.val % 2048, by omega⟩ ⟨b.val % 64, by omega⟩) := by
  pointwise [rows]

theorem mean_at (p : FVec Ideal S8x16x2048x2048 .f32) (v : FVec Ideal S8x16x2048x64 .f32) (n : Fin 8) (h : Fin 16) (r : Fin 2048) (d : Fin 64) :
    mean p v (ix4 n h r d) = ∑ j : Fin 2048, Ideal.div (p (ix4 n h r j)) (∑ j : Fin 2048, p (ix4 n h r j)) * v (ix4 n h j d) := by
  pointwise [mean]

theorem peaks_at (s : FVec Ideal S8x16x2048x2048 .f32) (n : Fin 8) (h : Fin 16) (r : Fin 2048) :
    peaks s (ix3 n h r) = top (fun j : Fin 2048 => s (ix4 n h r j)) := by
  refine (peak s (constant S_ .f32 0xFF800000#32) reducesTo_S8x16x2048x2048_S8x16x2048_d3 h_S_ n h r).trans ?_
  show Finset.fold max (Ideal.ofBits .f32 0xFF800000#32) _ _ = _
  rw [negInf]
  rfl

theorem along_at (m : FVec Ideal S8x16x2048 .f32) (n : Fin 8) (h : Fin 16) (r : Fin 2048) (j : Fin 2048) :
    along m (ix4 n h r j) = m (ix3 n h r) := by
  pointwise [along]

theorem floor_at (m : FVec Ideal S8x16x2048 .f32) (n : Fin 8) (h : Fin 16) (r : Fin 2048) :
    maximumf (broadcastInDim S8x16x2048 ![] bcast_S_S8x16x2048 (constant S_ .f32 0xFF800000#32)) m (ix3 n h r) = m (ix3 n h r) := by
  show max (Ideal.ofBits .f32 0xFF800000#32) (m (ix3 n h r)) = _
  rw [negInf, max_eq_right bot_le]

theorem lowered_at (s : FVec Ideal S8x16x2048x2048 .f32) (m : FVec Ideal S8x16x2048 .f32) (n : Fin 8) (h : Fin 16) (r : Fin 2048) (j : Fin 2048) :
    lowered s m (ix4 n h r j) = Ideal.exp (s (ix4 n h r j) - m (ix3 n h r)) := by
  show Ideal.exp (s (ix4 n h r j) - along (maximumf (broadcastInDim S8x16x2048 ![] bcast_S_S8x16x2048 (constant S_ .f32 0xFF800000#32)) m) (ix4 n h r j)) = _
  rw [along_at, floor_at]

theorem powers_at (s : FVec Ideal S8x16x2048x2048 .f32) (n : Fin 8) (h : Fin 16) (r : Fin 2048) (j : Fin 2048) :
    powers s (ix4 n h r j) = Ideal.exp (s (ix4 n h r j) - top (fun j : Fin 2048 => s (ix4 n h r j))) := by
  unfold powers
  rw [lowered_at, peaks_at]

theorem log_two : Host.log (F := Ideal) (constant S_ .f32 0x40000000#32) ix0 = ((Real.log 2 : ℝ) : EReal) := by
  show Ideal.log (Ideal.ofBits .f32 0x40000000#32) = _
  have e : Ideal.ofBits .f32 0x40000000#32 = ((2 : ℝ) : EReal) := by
    simp [Ideal.ofBits, Ideal.ieee]
    norm_cast
    norm_num
  rw [e]
  show (if (2 : ℝ) ≤ 0 then ⊥ else ((Real.log 2 : ℝ) : EReal)) = _
  rw [if_neg (by norm_num)]

theorem scores_at (q k : FVec Ideal S8x16x2048x64 .f32) (g : FVec Ideal S8x16x2048 .f32) (n : Fin 8) (h : Fin 16) (r : Fin 2048) (j : Fin 2048) :
    scores q k g (ix4 n h r j) = if j.val ≤ r.val then
      (∑ d : Fin 64, q (ix4 n h r d) * k (ix4 n h j d)) * ((Real.log 2 : ℝ) : EReal) + g (ix3 n h r) - g (ix3 n h j) else ⊥ := by
  pointwise [scores]
  rw [WordCmp.cmpi_sge_ofNat (by omega) (by omega), select_if]
  show (if _ then (_ * Host.log (F := Ideal) (constant S_ .f32 0x40000000#32) ix0 + _ - _ : EReal) else Ideal.ofBits .f32 0xFF800000#32) = _
  rw [log_two, negInf]

theorem heads_at (x : FVec Ideal S16384x1024 .bf16) (n : Fin 8) (h : Fin 16) (r : Fin 2048) (d : Fin 64) :
    heads x (ix4 n h r d) = x (ix2 ⟨n.val * 2048 + r.val, by omega⟩ ⟨h.val * 64 + d.val, by omega⟩) := by
  pointwise [heads]

theorem sums_at (lf : FVec Ideal S16384x128 .f32) (n : Fin 8) (h : Fin 16) (r : Fin 2048) (f : ℕ → EReal)
    (hf : ∀ i : Fin 2048, lf (ix2 ⟨n.val * 2048 + i.val, by omega⟩ ⟨h.val, by omega⟩) = f i.val) :
    sums lf (ix3 n h r) = ∑ i ∈ Finset.range (r.val + 1), f i := by
  pointwise [sums]
  refine running (M := 2047) _ _ _ ?_ _ n r h f fun i => ?_
  · show Ideal.ofBits .f32 0x00000000#32 = 0
    simp [Ideal.ofBits, Ideal.ieee]
  · rw [← hf i]
    pointwise

end Cert.ReferenceIdeal.Fox

end
-- ==== Proof.ClaimsFox.lean ====
/- The claim about the forgetting attention: kernel against reference, where the numbers are finite. -/
module

public import proofs.«01_k».proof.Defs
public import proofs.«01_k».proof.Proof.Fox.Main
public import proofs.«01_k».proof.Proof.Fox.Ref
public import proofs.«01_k».proof.Proof.Gen.Pre_finite
public import Idealize.ShloMosaic.Lib.Claim

@[expose] public section

set_option maxRecDepth 16384

noncomputable section

namespace Cert.Proof

open Idealize.ShloMosaic Idealize.ShloMosaic.TcCoe Idealize.SL.Sem

/-- A number below plus infinity in absolute value is real. -/
theorem real_of_abs (x : Ideal .f32)
    (h : BitVec.ofBool (decide ((FloatOps.absf x : EReal) < Ideal.ofBits .f32 0x7F800000#32)) = 1#1) : (x : EReal) = ((EReal.toReal x : ℝ) : EReal) := by
  have ht : Ideal.ofBits .f32 0x7F800000#32 = ⊤ := by simp [Ideal.ofBits, Ideal.ieee]
  have hlt : (max x (-x) : EReal) < ⊤ := by
    by_contra hn
    rw [ht, show (FloatOps.absf x : EReal) = max x (-x) from rfl, decide_eq_false hn] at h
    exact absurd h (by decide)
  refine (EReal.coe_toReal (fun e => ?_) fun e => ?_).symm
  · rw [e] at hlt; simp at hlt
  · rw [e] at hlt; simp at hlt

open Cert.Pre_finite in
theorem pre_q (q k v : FVec Ideal Cert.Pre_finite.S16384x1024 .bf16) (lf : FVec Ideal Cert.Pre_finite.S16384x128 .f32)
    (h : Cert.Pre_finite.fn (F := Ideal) q k v lf = fun _ => 1#1) (i : Fin 16384) (b : Fin 1024) : q (ix2 i b) = ((q (ix2 i b)).toReal : EReal) := by
  have e := congrFun h (ix2 i ⟨b.val, by omega⟩)
  refine real_of_abs _ (Eq.trans ?_ e)
  pointwise [Cert.Pre_finite.fn]

open Cert.Pre_finite in
theorem pre_k (q k v : FVec Ideal Cert.Pre_finite.S16384x1024 .bf16) (lf : FVec Ideal Cert.Pre_finite.S16384x128 .f32)
    (h : Cert.Pre_finite.fn (F := Ideal) q k v lf = fun _ => 1#1) (i : Fin 16384) (b : Fin 1024) : k (ix2 i b) = ((k (ix2 i b)).toReal : EReal) := by
  have e := congrFun h (ix2 i ⟨1024 + b.val, by omega⟩)
  refine real_of_abs _ (Eq.trans ?_ e)
  pointwise [Cert.Pre_finite.fn]

open Cert.Pre_finite in
theorem pre_g (q k v : FVec Ideal Cert.Pre_finite.S16384x1024 .bf16) (lf : FVec Ideal Cert.Pre_finite.S16384x128 .f32)
    (h : Cert.Pre_finite.fn (F := Ideal) q k v lf = fun _ => 1#1) (i : Fin 16384) (l : Fin 128) (hl : l.val < 16) : lf (ix2 i l) = ((lf (ix2 i l)).toReal : EReal) := by
  have e := congrFun h (ix2 i ⟨2048 + l.val, by omega⟩)
  refine real_of_abs _ (Eq.trans ?_ e)
  pointwise [Cert.Pre_finite.fn]
  rw [dif_neg (show ¬ 2048 + l.val < 1024 by omega), dif_neg (show ¬ 2048 + l.val - 1024 < 1024 by omega)]
  congr 5
  refine congrArg (ix2 i) (Fin.ext ?_)
  show l.val = 2048 + l.val - 1024 - 1024
  omega

open Cert.ReferenceIdeal Cert.ReferenceIdeal.Fox Cert.Fox in
/-- The reference at an entry, where the queries, the keys and the log forget gates are finite. -/
theorem reference_at (m : (ℓ : Loc nD τ sig) → Buf (Elt Ideal) ℓ) (c : Dev nD) (Q K G : ℕ → ℕ → ℝ)
    (hq : ∀ i b, (m ((c.tc : Thread nD τ).loc main_arg0) : FVec Ideal S16384x1024 .bf16) (ix2 i b) = (Q i.val b.val : EReal))
    (hk : ∀ i b, (m ((c.tc : Thread nD τ).loc main_arg1) : FVec Ideal S16384x1024 .bf16) (ix2 i b) = (K i.val b.val : EReal))
    (hg : ∀ (i : Fin 16384) (l : Fin 128), l.val < 16 → (m ((c.tc : Thread nD τ).loc main_arg3) : FVec Ideal S16384x128 .f32) (ix2 i l) = (G i.val l.val : EReal))
    (i : Fin 16384) (b : Fin 1024) :
    ∃ R : Fin 2048 → EReal, (∀ j : Fin 2048, R j = if j.val ≤ i.val % 2048 then
      (((∑ d : Fin 64, Q i.val (b.val / 64 * 64 + d.val) * K (i.val / 2048 * 2048 + j.val) (b.val / 64 * 64 + d.val)) * Real.log 2
        + (∑ u ∈ Finset.range (i.val % 2048 + 1), G (i.val / 2048 * 2048 + u) (b.val / 64))
        - (∑ u ∈ Finset.range (j.val + 1), G (i.val / 2048 * 2048 + u) (b.val / 64)) : ℝ) : EReal) else ⊥)
    ∧ (Value.res_main_v45 m c : FVec Ideal S16384x1024 .bf16) (ix2 i b)
      = ∑ j : Fin 2048, Ideal.div (Ideal.exp (R j - top R)) (∑ j, Ideal.exp (R j - top R))
          * (m ((c.tc : Thread nD τ).loc main_arg2) : FVec Ideal S16384x1024 .bf16) (ix2 ⟨i.val / 2048 * 2048 + j.val, by omega⟩ b) := by
  have hi := i.isLt
  have hb := b.isLt
  rw [res_eq]
  generalize (m ((c.tc : Thread nD τ).loc main_arg0) : FVec Ideal S16384x1024 .bf16) = q at hq ⊢
  generalize (m ((c.tc : Thread nD τ).loc main_arg1) : FVec Ideal S16384x1024 .bf16) = k at hk ⊢
  generalize (m ((c.tc : Thread nD τ).loc main_arg2) : FVec Ideal S16384x1024 .bf16) = v
  generalize (m ((c.tc : Thread nD τ).loc main_arg3) : FVec Ideal S16384x128 .f32) = lf at hg ⊢
  let n : Fin 8 := ⟨i.val / 2048, by omega⟩
  let h : Fin 16 := ⟨b.val / 64, by omega⟩
  let r : Fin 2048 := ⟨i.val % 2048, by omega⟩
  have hs : ∀ j : Fin 2048, sums lf (ix3 n h j) = ((∑ u ∈ Finset.range (j.val + 1), G (i.val / 2048 * 2048 + u) (b.val / 64) : ℝ) : EReal) := fun j =>
    (sums_at lf n h j (fun u => (G (i.val / 2048 * 2048 + u) (b.val / 64) : EReal)) fun u =>
      hg ⟨i.val / 2048 * 2048 + u.val, by omega⟩ ⟨b.val / 64, by omega⟩ (by show b.val / 64 < 16; omega)).trans (Cert.KernelIdeal.Gate.coe_sum _ _).symm
  refine ⟨fun j => scores (heads q) (heads k) (sums lf) (ix4 n h r j), fun j => ?_, ?_⟩
  · refine (scores_at _ _ _ n h r j).trans ?_
    refine ite_congr rfl (fun _ => ?_) fun _ => rfl
    rw [hs, hs, EReal.coe_sub, EReal.coe_add, EReal.coe_mul]
    refine congrArg₂ (· - ·) (congrArg₂ (· + ·) (congrArg (· * _) ((Finset.sum_congr rfl fun d _ => ?_).trans (Cert.KernelIdeal.Gate.coe_sum _ _).symm)) rfl) rfl
    rw [heads_at, heads_at, hq, hk, EReal.coe_mul]
    have e : i.val / 2048 * 2048 + i.val % 2048 = i.val := by omega
    show (Q (i.val / 2048 * 2048 + i.val % 2048) _ : EReal) * _ = _
    rw [e]
  · refine (show (_ : EReal) = _ from rows_at _ i b).trans ((mean_at _ _ n h r ⟨b.val % 64, by omega⟩).trans ?_)
    refine Finset.sum_congr rfl fun j _ => ?_
    simp only [powers_at]
    refine congrArg₂ (fun x y : EReal => x * y) rfl ((heads_at v n h j _).trans ?_)
    refine congrArg (fun k => v (ix2 _ k)) (Fin.ext ?_)
    show b.val / 64 * 64 + b.val % 64 = b.val
    omega

/-- Kernel and reference agree. -/
theorem agree (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hpre : Pre_KernelIdeal_finite m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (Cert.ReferenceIdeal.Value.res_main_v45 m' c : FVec Ideal Cert.ReferenceIdeal.S16384x1024 .bf16)
      = (Cert.KernelIdeal.Gen.dat1 (Cert.KernelIdeal.Gen.V12 m ρ) c).arrAt 5 Cert.KernelIdeal.cfg1.N := by
  have hp := hpre c
  let q : FVec Ideal Cert.KernelIdeal.S16384x1024 .bf16 := m ((c.tc : Thread Cert.KernelIdeal.nD Cert.KernelIdeal.τ).loc Cert.KernelIdeal.main_arg0)
  let k : FVec Ideal Cert.KernelIdeal.S16384x1024 .bf16 := m ((c.tc : Thread Cert.KernelIdeal.nD Cert.KernelIdeal.τ).loc Cert.KernelIdeal.main_arg1)
  let lf : FVec Ideal Cert.KernelIdeal.S16384x128 .f32 := m ((c.tc : Thread Cert.KernelIdeal.nD Cert.KernelIdeal.τ).loc Cert.KernelIdeal.main_arg3)
  let Q : ℕ → ℕ → ℝ := fun i b => if h : i < 16384 ∧ b < 1024 then (q (ix2 ⟨i, h.1⟩ ⟨b, h.2⟩)).toReal else 0
  let K : ℕ → ℕ → ℝ := fun i b => if h : i < 16384 ∧ b < 1024 then (k (ix2 ⟨i, h.1⟩ ⟨b, h.2⟩)).toReal else 0
  let G : ℕ → ℕ → ℝ := fun i b => if h : i < 16384 ∧ b < 128 then (lf (ix2 ⟨i, h.1⟩ ⟨b, h.2⟩)).toReal else 0
  have hq : ∀ (i : Fin 16384) (b : Fin 1024), q (ix2 i b) = (Q i.val b.val : EReal) := fun i b => by
    show _ = ((dite _ _ _ : ℝ) : EReal)
    rw [dif_pos ⟨i.isLt, b.isLt⟩]
    exact pre_q _ _ _ _ hp i b
  have hk : ∀ (i : Fin 16384) (b : Fin 1024), k (ix2 i b) = (K i.val b.val : EReal) := fun i b => by
    show _ = ((dite _ _ _ : ℝ) : EReal)
    rw [dif_pos ⟨i.isLt, b.isLt⟩]
    exact pre_k _ _ _ _ hp i b
  have hg : ∀ (i : Fin 16384) (l : Fin 128), l.val < 16 → lf (ix2 i l) = (G i.val l.val : EReal) := fun i l hl => by
    show _ = ((dite _ _ _ : ℝ) : EReal)
    rw [dif_pos ⟨i.isLt, l.isLt⟩]
    exact pre_g _ _ _ _ hp i l hl
  funext x
  obtain ⟨i, b, rfl⟩ : ∃ (i : Fin 16384) (b : Fin 1024), x = ix2 i b := ⟨x 0, x 1, by pointwise⟩
  obtain ⟨R, hR, e⟩ := reference_at m' c Q K G (by rw [h0]; exact hq) (by rw [h1]; exact hk) (by rw [h3]; exact hg) i b
  rw [e, h2]
  exact (Cert.KernelIdeal.Main.result m ρ c Q K G hq hk hg i b R hR).symm

theorem algebraic : Cert.algebraic_KernelIdeal_ReferenceIdeal_pre_finite := by
  pair_intro
  · run_from Cert.KernelIdeal.Main.run m g
  · run_from Cert.ReferenceIdeal.Value.run m' g'
    exact agree m g m' c hpre (hagree c).1 (hagree c).2.1 (hagree c).2.2.1 (hagree c).2.2.2

end Cert.Proof

end
-- ==== Proof.In.Math.lean ====
/- The arithmetic of the input projection over the extended reals: one projected entry, the row norm of one head, the rotary
   embedding of one head, the gate, and the laws that join the kernel's forms of them with these. -/
module

public import proofs.«01_k».proof.Proof.Ffn.Math

@[expose] public section

set_option maxRecDepth 16384

noncomputable section

open Idealize.ShloMosaic

namespace Cert.In

/-- One projected entry: the normalised row `x` with gain `g`, times one weight column. -/
def proj (x g w : Fin 2048 → EReal) : EReal := ∑ k, Ffn.rms x g k * w k

/-- Entry `j` of one normalised head: `y j / sqrt (mean of y² + eps) * g j`. -/
def norm (y g : Fin 64 → EReal) (j : Fin 64) : EReal :=
  y j * Ideal.rsqrt (Ideal.div (∑ l, y l * y l) (Ideal.ofBits .f32 1115684864#32) + Ideal.ofBits .f32 897988541#32) * g j

/-- Entry `j` of one head turned by the angles `a`: the two halves of the head are the two coordinates. -/
def turn (y : Fin 64 → EReal) (a : Fin 32 → EReal) (j : Fin 64) : EReal :=
  if h : j.val < 32 then y j * Ideal.cos (a ⟨j.val, h⟩) - y ⟨j.val + 32, by omega⟩ * Ideal.sin (a ⟨j.val, h⟩)
  else y j * Ideal.cos (a ⟨j.val - 32, by omega⟩) + y ⟨j.val - 32, by omega⟩ * Ideal.sin (a ⟨j.val - 32, by omega⟩)

/-- The logarithm of the logistic function, as minus the softplus of minus `z`. -/
def gate (z : EReal) : EReal := -(max (-z) 0 + Ideal.log1p (Ideal.exp (-max (-z) (- -z))))

/-- The head that column `c` belongs to: its lane `l`. -/
def lane {n : ℕ} (hn : n % 64 = 0) (c : Fin n) (l : Fin 64) : Fin n := ⟨c.val / 64 * 64 + l.val, by omega⟩

/-- The lane of column `c` in its head. -/
def at64 {n : ℕ} (c : Fin n) : Fin 64 := ⟨c.val % 64, by omega⟩

/-- Row `r` and column `j` of the projection. -/
def P (h : Fin 16384 → Fin 2048 → EReal) (g : Fin 2048 → EReal) (w : Fin 2048 → Fin 4736 → EReal) (r : Fin 16384) (j : ℕ) (hj : j < 4736) : EReal :=
  proj (h r) g fun k => w k ⟨j, hj⟩

/-- The columns `y` normalised head by head, the gain `g` the same in every head. -/
def heads {n : ℕ} (hn : n % 64 = 0) (y : Fin n → EReal) (g : Fin 64 → EReal) (b : Fin n) : EReal :=
  norm (fun l => y (lane hn b l)) g (at64 b)

/-- The normalised columns, each head turned by the angles `a`. -/
def turnedHeads {n : ℕ} (hn : n % 64 = 0) (y : Fin n → EReal) (g : Fin 64 → EReal) (a : Fin 32 → EReal) (b : Fin n) : EReal :=
  turn (norm (fun l => y (lane hn b l)) g) a (at64 b)

/-- The sixteen biases, zero in the other lanes. -/
def bias (b : Fin 16 → EReal) (l : Fin 128) : EReal := if h : l.val < 16 then b ⟨l.val, h⟩ else 0

theorem lane_at64 {n : ℕ} (hn : n % 64 = 0) (c : Fin n) : lane hn c (at64 c) = c := by
  refine Fin.ext ?_
  simp only [lane, at64]
  omega

theorem lane_lane {n : ℕ} (hn : n % 64 = 0) (c : Fin n) (l l' : Fin 64) : lane hn (lane hn c l) l' = lane hn c l' := by
  refine Fin.ext ?_
  simp only [lane]
  omega

theorem at64_lane {n : ℕ} (hn : n % 64 = 0) (c : Fin n) (l : Fin 64) : at64 (lane hn c l) = l := by
  refine Fin.ext ?_
  simp only [lane, at64]
  omega

/-- A column of a chunk that starts at a head, as a column of the whole: the same head. -/
theorem lane_shift {n n' : ℕ} (hn : n % 64 = 0) (hn' : n' % 64 = 0) {s : ℕ} (hs : s % 64 = 0) {b : Fin n} {b' : Fin n'}
    (hb : b.val = s + b'.val) (l : Fin 64) (h : s + (lane hn' b' l).val < n) : (⟨s + (lane hn' b' l).val, h⟩ : Fin n) = lane hn b l := by
  refine Fin.ext ?_
  simp only [lane]
  omega

theorem at64_shift {n n' : ℕ} {s : ℕ} (hs : s % 64 = 0) {b : Fin n} {b' : Fin n'} (hb : b.val = s + b'.val) : at64 b' = at64 b := by
  refine Fin.ext ?_
  simp only [at64]
  omega

/-- One head of a chunk is one head of the whole. -/
theorem head_shift {n n' : ℕ} (hn : n % 64 = 0) (hn' : n' % 64 = 0) {s : ℕ} (hs : s % 64 = 0) {b : Fin n} {b' : Fin n'}
    (hb : b.val = s + b'.val) (y : Fin n → EReal) (z : Fin n' → EReal) (hz : ∀ (l : Fin n') (h : s + l.val < n), z l = y ⟨s + l.val, h⟩) :
    (fun l => z (lane hn' b' l)) = fun l => y (lane hn b l) := by
  funext l
  have h : s + (lane hn' b' l).val < n := by
    have := b.isLt
    simp only [lane]
    omega
  rw [hz _ h, lane_shift hn hn' hs hb l h]

/-- The kernel's form of the turn, on two heads side by side: each lane meets its partner by a rotation of the 128 lanes, and
    the sine carries the sign. -/
theorem turn_lane (y : Fin 128 → EReal) (p : EReal) (e : Fin 32 → EReal) (b : Fin 128) :
    y b * Ideal.cos (p * e ⟨b.val % 32, by omega⟩)
        + Scalar.select (if b.val % 64 < 32 then 1#1 else 0#1) (y ⟨(b.val + 128 - 96) % 128, by omega⟩) (y ⟨(b.val + 128 - 32) % 128, by omega⟩)
          * Scalar.select (if b.val % 64 < 32 then 1#1 else 0#1) (0 - Ideal.sin (p * e ⟨b.val % 32, by omega⟩)) (Ideal.sin (p * e ⟨b.val % 32, by omega⟩))
      = turn (fun l => y (lane (by rfl) b l)) (fun l => p * e l) (at64 b) := by
  unfold turn
  simp only [lane_at64]
  by_cases h : b.val % 64 < 32
  · have e1 : (⟨(b.val + 128 - 96) % 128, by omega⟩ : Fin 128) = lane (by rfl) b ⟨(at64 b).val + 32, by simp only [at64]; omega⟩ :=
      Fin.ext (by simp only [lane, at64]; omega)
    have e2 : (⟨b.val % 32, by omega⟩ : Fin 32) = ⟨(at64 b).val, h⟩ := Fin.ext (by simp only [at64]; omega)
    rw [if_pos h, dif_pos (show (at64 b).val < 32 from h), ← e1, e2, zero_sub, sub_eq_add_neg, ← mul_neg]
    rfl
  · have e1 : (⟨(b.val + 128 - 32) % 128, by omega⟩ : Fin 128) = lane (by rfl) b ⟨(at64 b).val - 32, by simp only [at64]; omega⟩ :=
      Fin.ext (by simp only [lane, at64]; omega)
    have e2 : (⟨b.val % 32, by omega⟩ : Fin 32) = ⟨(at64 b).val - 32, by simp only [at64]; omega⟩ :=
      Fin.ext (by simp only [at64]; omega)
    rw [if_neg h, dif_neg (show ¬(at64 b).val < 32 from h), ← e1, e2]
    rfl

/-- The sum against a column of the block diagonal table is the sum over the column's head. -/
theorem sum_diag (f : Fin 256 → EReal) (b : Fin 256) :
    (∑ k, f k * (if k.val / 64 = b.val / 64 then 1 else 0)) = ∑ l, f (lane (by rfl) b l) := by
  simp only [mul_ite, mul_one, mul_zero]
  rw [← Finset.sum_filter]
  symm
  refine Finset.sum_bij (fun l _ => lane (by rfl) b l) ?_ ?_ ?_ ?_
  · intro l _
    simp only [Finset.mem_filter, Finset.mem_univ, true_and, lane]
    omega
  · intro l _ l' _ h
    have := congrArg Fin.val h
    simp only [lane] at this
    exact Fin.ext (by omega)
  · intro k hk
    simp only [Finset.mem_filter, Finset.mem_univ, true_and] at hk
    exact ⟨⟨k.val % 64, by omega⟩, Finset.mem_univ _, Fin.ext (by simp only [lane]; omega)⟩
  · intro l _
    rfl

/-- Times one sixty-fourth is the quotient by sixty-four. -/
theorem mul_inv64 (s : EReal) : s * Ideal.ofBits .f32 1015021568#32 = Ideal.div s (Ideal.ofBits .f32 1115684864#32) := by
  have h : Ideal.ofBits .f32 1115684864#32 = ((64 : ℝ) : EReal) := by
    simp [Ideal.ofBits, Ideal.ieee]
    rw [← EReal.coe_mul]
    norm_num
  have h' : Ideal.ofBits .f32 1015021568#32 = ((1 / 64 : ℝ) : EReal) := by
    simp [Ideal.ofBits, Ideal.ieee]
    rw [← EReal.coe_mul]
    norm_num
  rw [h, h', Ideal.div, if_neg (by exact_mod_cast (by norm_num : (64 : ℝ) ≠ 0)), ← EReal.coe_inv]
  norm_num

/-- The kernel's form of the gate. -/
theorem gate_eq (z : EReal) : min z 0 - Ideal.log1p (Ideal.exp (0 - max z (-z))) = gate z := by
  have hm : min z 0 = -max (-z) 0 := by
    rcases le_total z 0 with h | h
    · rw [min_eq_left h, max_eq_left (by simpa using EReal.neg_le_neg_iff.mpr h), neg_neg]
    · rw [min_eq_right h, max_eq_right (by simpa using EReal.neg_le_neg_iff.mpr h), neg_zero]
  have hp : ∀ x : EReal, 0 ≤ Ideal.exp x := by
    intro x
    induction x with
    | bot => exact le_rfl
    | top => exact le_top
    | coe r => exact EReal.coe_nonneg.mpr (Real.exp_pos r).le
  unfold gate
  rw [neg_neg, max_comm (-z) z, zero_sub, hm, sub_eq_add_neg]
  have hl : Ideal.log1p (Ideal.exp (-max z (-z))) ≠ ⊥ := by
    generalize Ideal.exp (-max z (-z)) = e, hp (-max z (-z)) = he
    induction e with
    | bot => exact absurd he (by simp)
    | top =>
      have h : (1 : EReal) + ⊤ = ⊤ := EReal.coe_add_top 1
      rw [Ideal.log1p, h]
      exact top_ne_bot
    | coe r =>
      have hr : 0 ≤ r := EReal.coe_nonneg.mp he
      have h : Ideal.log ((1 + r : ℝ) : EReal) = if 1 + r ≤ 0 then ⊥ else (Real.log (1 + r) : EReal) := rfl
      rw [Ideal.log1p, ← EReal.coe_one, ← EReal.coe_add, h, if_neg (by linarith)]
      exact EReal.coe_ne_bot _
  have hb : max (-z) 0 ≠ ⊥ := fun h => by
    have := le_max_right (-z) 0
    rw [h] at this
    simp at this
  rw [EReal.neg_add (Or.inl hb) (Or.inr hl), sub_eq_add_neg]

end Cert.In

end
-- ==== Proof.In.Value.lean ====
/- The input projection: thirty-two blocks of 512 rows, the projected columns in chunks of 512. -/
module

public import proofs.«01_k».proof.Proof.Gen.Kernel6Ideal.Frame
public import proofs.«01_k».proof.Proof.In.Math
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.Kernel6Ideal.In
open Cert.Kernel6Ideal Cert.Kernel6Ideal.Gen

/-- The block diagonal table: one where row and column lie in the same head. -/
def table : FVec Ideal S256x256 .bf16 :=
  k0_pay10 (F := Ideal) (k0_pay6 (iota .tc S256x256 32 [0] iota_S256x256_d0_w32) 64#32 k0_pay5) k0_pay7 k0_pay8 k0_pay9

/-- A lane's head, in the words the kernel computes it with: a quotient by 64 rounded down. -/
def quot (v : BitVec 32) : BitVec 32 :=
  Scalar.select
    (IntOp.andi
      (IntOp.cmpi CmpIPredicate.ne
        (IntOp.subi (BitVec.setWidth 32 (IntOp.cmpi CmpIPredicate.sgt v 0#32)) (BitVec.setWidth 32 (IntOp.cmpi CmpIPredicate.slt v 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector v 64#32) 0#32))
    (IntOp.subi (IntOp.divsi ArithUnit.vector v 64#32) 1#32)
    (IntOp.divsi ArithUnit.vector v 64#32)

theorem quot_at : ∀ a : Fin 256, quot (BitVec.ofNat 32 a.val) = BitVec.ofNat 32 (a.val / 64) := by decide +kernel

theorem same_head : ∀ p q : Fin 4, IntOp.cmpi CmpIPredicate.eq (BitVec.ofNat 32 p.val) (BitVec.ofNat 32 q.val) = if p.val = q.val then 1#1 else 0#1 := by
  decide +kernel

theorem table_at (a b : Fin 256) : table (ix2 a b) = if a.val / 64 = b.val / 64 then (1 : EReal) else 0 := by
  pointwise [table, k0_pay10, k0_pay6, k0_pay5, k0_pay7, k0_pay8, k0_pay9]
  show Scalar.select (IntOp.cmpi CmpIPredicate.eq (quot (BitVec.ofNat 32 a.val)) (quot (BitVec.ofNat 32 b.val))) (1 : EReal) 0 = _
  rw [quot_at, quot_at]
  refine (congrArg (fun p => Scalar.select p (1 : EReal) 0) (same_head ⟨a.val / 64, by omega⟩ ⟨b.val / 64, by omega⟩)).trans ?_
  simp only
  split
  · rfl
  · rfl

/-- The lanes of the first half of their head. -/
theorem half_at : ∀ b : Fin 128, k0_pay4 (ix2 (0 : Fin 1) b) = if b.val % 64 < 32 then 1#1 else 0#1 := by
  decide +kernel

theorem diag_sum (f : Fin 256 → EReal) (b : Fin 256) :
    ∑ x, f x * (table (ix2 x b) : EReal) = ∑ l, f (In.lane (by rfl) b l) := by
  rw [← In.sum_diag]
  exact Finset.sum_congr rfl fun x _ => by rw [table_at]

theorem pay1_at (x : FVec Ideal S512x128 .f32) (a : Fin 512) (b : Fin 128) :
    k0_pay1 x (Scalar.ofBits .f32 0x00000000#32) (ix2 a b) = In.gate (x (ix2 a b)) := by
  pointwise [k0_pay1]
  exact In.gate_eq _

/-- A chunk of eight heads, every head normalised. -/
def normed (y : FVec Ideal S512x512 .f32) (g : FVec Ideal S1x512 .f32) : FVec Ideal S512x512 .f32 := fun i =>
  In.norm (fun l => y (ix2 (i 0) (In.lane (by rfl) (i 1 : Fin 512) l))) (fun l => g (ix2 0 (In.lane (by rfl) (i 1 : Fin 512) l))) (In.at64 (i 1 : Fin 512))

theorem pay32_eq (y : FVec Ideal S512x512 .f32) (g : FVec Ideal S1x512 .f32) : k0_pay32 table y g = normed y g := by
  funext i
  obtain ⟨a, b, rfl⟩ : ∃ (a : Fin 512) (b : Fin 512), i = ix2 a b := ⟨i 0, i 1, by pointwise⟩
  pointwise [k0_pay32, normed, In.norm]
  rw [In.lane_at64, In.mul_inv64]
  refine congrArg (fun s => y (ix2 a b) * Ideal.rsqrt (Ideal.div s _ + _) * g (ix2 0 b)) ?_
  split
  case isTrue h =>
    refine (diag_sum (fun x => y (ix2 a (⟨x.val, by omega⟩ : Fin 512)) * y (ix2 a (⟨x.val, by omega⟩ : Fin 512))) ⟨b.val, h⟩).trans ?_
    rfl
  case isFalse h =>
    refine (diag_sum (fun x => y (ix2 a (⟨256 + x.val, by omega⟩ : Fin 512)) * y (ix2 a (⟨256 + x.val, by omega⟩ : Fin 512))) ⟨b.val - 256, by omega⟩).trans ?_
    refine Finset.sum_congr rfl fun l _ => ?_
    have e : (⟨256 + (In.lane (n := 256) (by rfl) ⟨b.val - 256, by omega⟩ l).val, by omega⟩ : Fin 512) = In.lane (by rfl) b l :=
      Fin.ext (by simp only [In.lane]; omega)
    rw [e]

/-- The turn of one piece of two heads. -/
def turned (y cs sn : FVec Ideal S512x128 .f32) : FVec Ideal S512x128 .f32 :=
  addf (mulf y cs) (mulf (select (broadcastTo S512x128 (shapeCast S1x128 k0_pay4 shapeCasts_S1x128_S1x128) broadcasts_S1x128_S512x128)
    (dynamicRotate 1 96#32 none y rotates_S512x128_d1) (dynamicRotate 1 32#32 none y rotates_S512x128_d1)) sn)

theorem turned_at (y : FVec Ideal S512x128 .f32) (p : IVec S512x1 32) (f : FVec Ideal S1x128 .f32) (a : Fin 512) (b : Fin 128)
    (e : Fin 32 → EReal) (hf : ∀ l : Fin 128, f (ix2 0 l) = e ⟨l.val % 32, by omega⟩) :
    turned y (k0_pay23 p f) (k0_pay24 k0_pay4 p f) (ix2 a b)
      = In.turn (fun l => y (ix2 a (In.lane (by rfl) b l))) (fun l => (FloatOps.sitofp (F := Ideal) .f32 (p (ix2 a 0)) : EReal) * e l) (In.at64 b) := by
  pointwise [turned, k0_pay23, k0_pay24, k0_pay22]
  rw [half_at, hf b]
  exact In.turn_lane (fun l => y (ix2 a l)) (FloatOps.sitofp (F := Ideal) .f32 (p (ix2 a 0))) e b

/-- Four pieces of two heads side by side, each turned. -/
theorem turned4_at (y : FVec Ideal S512x512 .f32) (p : IVec S512x1 32) (f : FVec Ideal S1x128 .f32) (a b : Fin 512)
    (e : Fin 32 → EReal) (hf : ∀ l : Fin 128, f (ix2 0 l) = e ⟨l.val % 32, by omega⟩) :
    concatenate S512x512 1 [⟨S512x128, turned (extractStridedSlice S512x128 ![0, 0] y slices_S512x512_o0_0_S512x128) (k0_pay23 p f) (k0_pay24 k0_pay4 p f)⟩,
      ⟨S512x128, turned (extractStridedSlice S512x128 ![0, 128] y slices_S512x512_o0_128_S512x128) (k0_pay23 p f) (k0_pay24 k0_pay4 p f)⟩,
      ⟨S512x128, turned (extractStridedSlice S512x128 ![0, 256] y slices_S512x512_o0_256_S512x128) (k0_pay23 p f) (k0_pay24 k0_pay4 p f)⟩,
      ⟨S512x128, turned (extractStridedSlice S512x128 ![0, 384] y slices_S512x512_o0_384_S512x128) (k0_pay23 p f) (k0_pay24 k0_pay4 p f)⟩]
      concatenates_S512x128_S512x128_S512x128_S512x128_S512x512_d1 (ix2 a b)
      = In.turn (fun l => y (ix2 a (In.lane (by rfl) b l))) (fun l => (FloatOps.sitofp (F := Ideal) .f32 (p (ix2 a 0)) : EReal) * e l) (In.at64 b) := by
  have piece (z : FVec Ideal S512x128 .f32) (s : ℕ) (b' : Fin 128) (hs : s % 64 = 0) (hb : b.val = s + b'.val)
      (hz : ∀ (l : Fin 128) (h : s + l.val < 512), z (ix2 a l) = y (ix2 a (⟨s + l.val, h⟩ : Fin 512))) :
      turned z (k0_pay23 p f) (k0_pay24 k0_pay4 p f) (ix2 a b')
        = In.turn (fun l => y (ix2 a (In.lane (by rfl) b l))) (fun l => (FloatOps.sitofp (F := Ideal) .f32 (p (ix2 a 0)) : EReal) * e l) (In.at64 b) := by
    rw [turned_at z p f a b' e hf, In.at64_shift hs hb]
    exact congrArg (fun y => In.turn y _ _) (In.head_shift (n := 512) (n' := 128) (by rfl) (by rfl) hs hb (fun l => y (ix2 a l)) (fun l => z (ix2 a l)) hz)
  pointwise
  split
  · exact piece _ 0 _ (by rfl) (by simp only; omega) fun l h => by pointwise
  split
  · exact piece _ 128 _ (by rfl) (by simp only; omega) fun l h => by pointwise
  split
  · exact piece _ 256 _ (by rfl) (by simp only; omega) fun l h => by pointwise
  · exact piece _ 384 _ (by rfl) (by simp only; omega) fun l h => by pointwise

/-- The projected entries of one chunk, from the normalised rows and the weight columns. -/
theorem pay12_eq (u : FVec Ideal S512x2048 .bf16) (w : FVec Ideal S2048x512 .bf16) (g : FVec Ideal S1x512 .f32) :
    k0_pay12 u (k0_pay6 (iota .tc S256x256 32 [0] iota_S256x256_d0_w32) 64#32 k0_pay5) k0_pay7 k0_pay8 k0_pay9 w g
      = fun i => normed (k0_pay11 u w) g i * Ideal.ofBits .f32 0x3E38AA3B#32 := by
  rw [← pay32_eq]
  rfl

theorem pay16_eq (u : FVec Ideal S512x2048 .bf16) (w : FVec Ideal S2048x512 .bf16) (g : FVec Ideal S1x512 .f32) :
    k0_pay16 table (k0_pay11 u w) (k0_pay14 g) (k0_pay15 u w)
      = fun i => normed (k0_pay11 u w) g i * Ideal.ofBits .f32 0x3E38AA3B#32 := by
  rw [← pay32_eq]
  rfl

theorem pay18_eq (y : FVec Ideal S512x512 .f32) (g : FVec Ideal S1x512 .f32) : k0_pay18 table y g = normed y g := by
  rw [← pay32_eq]
  rfl

theorem pay19_eq (y : FVec Ideal S512x512 .f32) (g : FVec Ideal S1x512 .f32) : k0_pay19 table y g = normed y g := by
  rw [← pay32_eq]
  rfl

theorem pay27_eq (u : FVec Ideal S512x2048 .bf16) (w : FVec Ideal S2048x512 .bf16) (g : FVec Ideal S1x512 .f32) :
    k0_pay27 u table w g = normed (k0_pay11 u w) g := by
  rw [← pay32_eq]
  rfl

theorem pay30_at (u : FVec Ideal S512x2048 .bf16) (w : FVec Ideal S2048x512 .bf16) (g : FVec Ideal S1x512 .f32)
    (p : IVec S512x1 32) (f : FVec Ideal S1x128 .f32) (a b : Fin 512)
    (e : Fin 32 → EReal) (hf : ∀ l : Fin 128, f (ix2 0 l) = e ⟨l.val % 32, by omega⟩) :
    k0_pay30 k0_pay4 (k0_pay23 p f) (k0_pay24 k0_pay4 p f) (k0_pay27 u table w g)
      (k0_pay28 u k0_pay4 table (k0_pay23 p f) (k0_pay24 k0_pay4 p f) w g)
      (k0_pay29 u k0_pay4 table (k0_pay23 p f) (k0_pay24 k0_pay4 p f) w g) (ix2 a b)
      = In.turn (fun l => normed (k0_pay11 u w) g (ix2 a (In.lane (by rfl) b l)))
          (fun l => (FloatOps.sitofp (F := Ideal) .f32 (p (ix2 a 0)) : EReal) * e l) (In.at64 b) * Ideal.ofBits .f32 0x3E38AA3B#32 := by
  rw [← turned4_at _ p f a b e hf, ← pay27_eq]
  rfl

theorem pay34_at (y : FVec Ideal S512x512 .f32) (g : FVec Ideal S1x512 .f32)
    (p : IVec S512x1 32) (f : FVec Ideal S1x128 .f32) (a b : Fin 512)
    (e : Fin 32 → EReal) (hf : ∀ l : Fin 128, f (ix2 0 l) = e ⟨l.val % 32, by omega⟩) :
    k0_pay34 k0_pay4 (k0_pay23 p f) (k0_pay24 k0_pay4 p f) (k0_pay32 table y g) (k0_pay33 table y g) (ix2 a b)
      = In.turn (fun l => normed y g (ix2 a (In.lane (by rfl) b l)))
          (fun l => (FloatOps.sitofp (F := Ideal) .f32 (p (ix2 a 0)) : EReal) * e l) (In.at64 b) * Ideal.ofBits .f32 0x3E38AA3B#32 := by
  rw [← turned4_at _ p f a b e hf, ← pay32_eq]
  rfl

/-- A chunk of four heads, every head normalised. -/
def normed2 (y : FVec Ideal S512x256 .f32) (g : FVec Ideal S1x256 .f32) : FVec Ideal S512x256 .f32 := fun i =>
  In.norm (fun l => y (ix2 (i 0) (In.lane (by rfl) (i 1 : Fin 256) l))) (fun l => g (ix2 0 (In.lane (by rfl) (i 1 : Fin 256) l))) (In.at64 (i 1 : Fin 256))

theorem normed2_eq (y : FVec Ideal S512x256 .f32) (g : FVec Ideal S1x256 .f32) :
    mulf (mulf y (rsqrt (addf (mulf (matmul dot_S512x256_S256x256_S512x256_1_0_0_1_n_n none (truncf .bf16 (mulf y y) bitsLt_bf16_f32) table (constant S512x256 .f32 0x00000000#32))
      (broadcast S512x256 (Scalar.ofBits .f32 0x3C800000#32))) (broadcast S512x256 (Scalar.ofBits .f32 0x358637BD#32)))))
      (broadcastTo S512x256 (shapeCast S1x256 g shapeCasts_S1x256_S1x256) broadcasts_S1x256_S512x256) = normed2 y g := by
  funext i
  obtain ⟨a, b, rfl⟩ : ∃ (a : Fin 512) (b : Fin 256), i = ix2 a b := ⟨i 0, i 1, by pointwise⟩
  pointwise [normed2, In.norm]
  rw [In.lane_at64, In.mul_inv64]
  refine congrArg (fun s => y (ix2 a b) * Ideal.rsqrt (Ideal.div s _ + _) * g (ix2 0 b)) ?_
  exact diag_sum (fun x => y (ix2 a x) * y (ix2 a x)) b

theorem pay36_at (y : FVec Ideal S512x256 .f32) (g : FVec Ideal S1x256 .f32)
    (p : IVec S512x1 32) (f : FVec Ideal S1x128 .f32) (a : Fin 512) (b : Fin 256)
    (e : Fin 32 → EReal) (hf : ∀ l : Fin 128, f (ix2 0 l) = e ⟨l.val % 32, by omega⟩) :
    k0_pay36 k0_pay4 table (k0_pay23 p f) (k0_pay24 k0_pay4 p f) y g (ix2 a b)
      = In.turn (In.norm (fun l => y (ix2 a (In.lane (by rfl) b l))) (fun l => g (ix2 0 (In.lane (by rfl) b l))))
          (fun l => (FloatOps.sitofp (F := Ideal) .f32 (p (ix2 a 0)) : EReal) * e l) (In.at64 b) := by
  have piece (z : FVec Ideal S512x128 .f32) (s : ℕ) (b' : Fin 128) (hs : s % 64 = 0) (hb : b.val = s + b'.val)
      (hz : ∀ (l : Fin 128) (h : s + l.val < 256), z (ix2 a l) = normed2 y g (ix2 a (⟨s + l.val, h⟩ : Fin 256))) :
      turned z (k0_pay23 p f) (k0_pay24 k0_pay4 p f) (ix2 a b')
        = In.turn (In.norm (fun l => y (ix2 a (In.lane (by rfl) b l))) (fun l => g (ix2 0 (In.lane (by rfl) b l))))
          (fun l => (FloatOps.sitofp (F := Ideal) .f32 (p (ix2 a 0)) : EReal) * e l) (In.at64 b) := by
    rw [turned_at z p f a b' e hf, In.at64_shift hs hb]
    refine congrArg (fun y => In.turn y _ _) ((In.head_shift (n := 256) (n' := 128) (by rfl) (by rfl) hs hb (fun l => normed2 y g (ix2 a l)) (fun l => z (ix2 a l)) hz).trans ?_)
    funext l
    simp only [normed2, ix2_0, ix2_1, In.lane_lane]
    exact congrArg _ (In.at64_lane (n := 256) (by rfl) b l)
  have e : k0_pay36 k0_pay4 table (k0_pay23 p f) (k0_pay24 k0_pay4 p f) y g
      = concatenate S512x256 1 [⟨S512x128, turned (extractStridedSlice S512x128 ![0, 0] (normed2 y g) slices_S512x256_o0_0_S512x128) (k0_pay23 p f) (k0_pay24 k0_pay4 p f)⟩,
        ⟨S512x128, turned (extractStridedSlice S512x128 ![0, 128] (normed2 y g) slices_S512x256_o0_128_S512x128) (k0_pay23 p f) (k0_pay24 k0_pay4 p f)⟩]
        concatenates_S512x128_S512x128_S512x256_d1 := by
    rw [← normed2_eq]
    rfl
  rw [e]
  pointwise
  split
  · exact piece _ 0 _ (by rfl) (by simp only; omega) fun l h => by pointwise
  · exact piece _ 128 _ (by rfl) (by simp only; omega) fun l h => by pointwise

/-- A chunk of eight heads that starts at column `s` of a stretch of columns with entries `Y` and gains `G`. -/
theorem normed_at {n : ℕ} (hn : n % 64 = 0) (y : FVec Ideal S512x512 .f32) (g : FVec Ideal S1x512 .f32) (a b : Fin 512) (c : Fin n) (s : ℕ)
    (hs : s % 64 = 0) (hc : c.val = s + b.val) (Y G : Fin n → EReal)
    (hy : ∀ (l : Fin 512) (h : s + l.val < n), y (ix2 a l) = Y ⟨s + l.val, h⟩)
    (hg : ∀ (l : Fin 512) (h : s + l.val < n), g (ix2 0 l) = G ⟨s + l.val, h⟩) :
    normed y g (ix2 a b) = In.norm (fun l => Y (In.lane hn c l)) (fun l => G (In.lane hn c l)) (In.at64 c) := by
  rw [← In.head_shift hn (by rfl : 512 % 64 = 0) hs hc Y (fun l => y (ix2 a l)) hy,
    ← In.head_shift hn (by rfl : 512 % 64 = 0) hs hc G (fun l => g (ix2 0 l)) hg, ← In.at64_shift hs hc]
  rfl

/-- The same chunk turned. -/
theorem turned_normed_at {n : ℕ} (hn : n % 64 = 0) (y : FVec Ideal S512x512 .f32) (g : FVec Ideal S1x512 .f32) (a b : Fin 512) (c : Fin n) (s : ℕ)
    (hs : s % 64 = 0) (hc : c.val = s + b.val) (Y G : Fin n → EReal)
    (hy : ∀ (l : Fin 512) (h : s + l.val < n), y (ix2 a l) = Y ⟨s + l.val, h⟩)
    (hg : ∀ (l : Fin 512) (h : s + l.val < n), g (ix2 0 l) = G ⟨s + l.val, h⟩) (A : Fin 32 → EReal) :
    In.turn (fun l => normed y g (ix2 a (In.lane (by rfl) b l))) A (In.at64 b)
      = In.turn (In.norm (fun l => Y (In.lane hn c l)) (fun l => G (In.lane hn c l))) A (In.at64 c) := by
  rw [In.at64_shift hs hc]
  refine congrArg (fun y => In.turn y A _) (funext fun l => ?_)
  have h : s + (In.lane (n := 512) (by rfl) b l).val < n := by
    have := c.isLt
    simp only [In.lane]
    omega
  rw [normed_at hn y g a _ ⟨s + (In.lane (n := 512) (by rfl) b l).val, h⟩ s hs rfl Y G hy hg]
  simp only [In.lane_shift hn (by rfl : 512 % 64 = 0) hs hc l h, In.lane_lane, In.at64_lane]

section
variable (x0 : FVec Ideal S512x2048 .f32) (x1 : FVec Ideal S1x2048 .f32) (x2 : FVec Ideal S2048x4736 .bf16) (x3 : IVec S512x1 32) (x4 : FVec Ideal S1x128 .f32)
  (x5 x6 x7 : FVec Ideal S1x1024 .f32) (x8 : FVec Ideal S1x256 .f32) (x9 : FVec Ideal S1x128 .f32) (x10 : FVec Ideal S64x2048 .f32)

/-- The projected entry of row `a` and column `j` of a block. -/
def Y (a : Fin 512) (j : ℕ) (h : j < 4736) : EReal :=
  In.proj (fun k => x0 (ix2 a k)) (fun k => x1 (ix2 0 k)) (fun k => x2 (ix2 k (⟨j, h⟩ : Fin 4736)))

theorem out11_at (a : Fin 512) (c : Fin 1024) :
    (show FVec Ideal S512x1024 .bf16 from out0_11 (F := Ideal) x0 x1 x2 x3 x4 x5 x6 x7 x8 x9 x10) (ix2 a c)
      = In.norm (fun l => Y x0 x1 x2 a (0 + (In.lane (by rfl) c l).val) (by omega)) (fun l => x5 (ix2 0 (In.lane (by rfl) c l))) (In.at64 c)
        * Ideal.ofBits .f32 0x3E38AA3B#32 := by
  unfold out0_11
  generalize hy : (ix2 a c : S512x1024.Idx) = y
  canon_tiles x g
  all_goals
    subst hy
    obtain ⟨a', b, rfl⟩ : ∃ (a' b : Fin 512), x = ix2 a' b := ⟨x 0, x 1, by pointwise⟩
    obtain rfl : a' = a := Fin.ext g0.symm
  case piece0 =>
    refine (congrFun (pay16_eq _ _ _) (ix2 a' b)).trans ?_
    refine congrArg (· * _) (normed_at (by rfl) _ _ a' b c 512 (by rfl) g1 (fun j : Fin 1024 => Y x0 x1 x2 a' (0 + j.val) (by omega)) (fun j => x5 (ix2 0 j)) ?_ ?_)
    · exact fun l h => by pointwise [k0_pay11, k0_pay39, k0_pay2, Y, In.proj, Ffn.rms]
    · exact fun l h => by pointwise
  case piece1 =>
    refine (congrFun (pay12_eq _ _ _) (ix2 a' b)).trans ?_
    refine congrArg (· * _) (normed_at (by rfl) _ _ a' b c 0 (by rfl) (by simpa using g1) (fun j : Fin 1024 => Y x0 x1 x2 a' (0 + j.val) (by omega)) (fun j => x5 (ix2 0 j)) ?_ ?_)
    · exact fun l h => by pointwise [k0_pay11, k0_pay39, k0_pay2, Y, In.proj, Ffn.rms]
    · exact fun l h => by pointwise

theorem out12_at (a : Fin 512) (c : Fin 1024) :
    (show FVec Ideal S512x1024 .bf16 from out0_12 (F := Ideal) x0 x1 x2 x3 x4 x5 x6 x7 x8 x9 x10) (ix2 a c)
      = In.norm (fun l => Y x0 x1 x2 a (1024 + (In.lane (by rfl) c l).val) (by omega)) (fun l => x6 (ix2 0 (In.lane (by rfl) c l))) (In.at64 c) := by
  unfold out0_12
  generalize hy : (ix2 a c : S512x1024.Idx) = y
  canon_tiles x g
  all_goals
    subst hy
    obtain ⟨a', b, rfl⟩ : ∃ (a' b : Fin 512), x = ix2 a' b := ⟨x 0, x 1, by pointwise⟩
    obtain rfl : a' = a := Fin.ext g0.symm
  case piece0 =>
    refine (congrFun (pay19_eq _ _) (ix2 a' b)).trans ?_
    refine normed_at (by rfl) _ _ a' b c 512 (by rfl) g1 (fun j : Fin 1024 => Y x0 x1 x2 a' (1024 + j.val) (by omega)) (fun j => x6 (ix2 0 j)) ?_ ?_
    · intro l h
      pointwise [k0_pay17, k0_pay39, k0_pay2, Y, In.proj, Ffn.rms]
      simp only [← Nat.add_assoc, Nat.reduceAdd]
    · exact fun l h => by pointwise
  case piece1 =>
    refine (congrFun (pay18_eq _ _) (ix2 a' b)).trans ?_
    refine normed_at (by rfl) _ _ a' b c 0 (by rfl) (by simpa using g1) (fun j : Fin 1024 => Y x0 x1 x2 a' (1024 + j.val) (by omega)) (fun j => x6 (ix2 0 j)) ?_ ?_
    · exact fun l h => by pointwise [k0_pay13, k0_pay39, k0_pay2, Y, In.proj, Ffn.rms]
    · exact fun l h => by pointwise

theorem out13_at (a : Fin 512) (c : Fin 1024) :
    (show FVec Ideal S512x1024 .bf16 from out0_13 (F := Ideal) x0 x1 x2 x3 x4 x5 x6 x7 x8 x9 x10) (ix2 a c)
      = Y x0 x1 x2 a (2048 + c.val) (by omega) := by
  unfold out0_13
  generalize hy : (ix2 a c : S512x1024.Idx) = y
  canon_tiles x g
  all_goals
    subst hy
    obtain ⟨a', b, rfl⟩ : ∃ (a' b : Fin 512), x = ix2 a' b := ⟨x 0, x 1, by pointwise⟩
    obtain rfl : a' = a := Fin.ext g0.symm
  case piece0 =>
    obtain ⟨c, hc⟩ := c
    obtain rfl : c = 512 + b.val := g1
    pointwise [k0_pay25, k0_pay20, k0_pay39, k0_pay2, Y, In.proj, Ffn.rms]
    simp only [← Nat.add_assoc, Nat.reduceAdd]
  case piece1 =>
    obtain ⟨c, hc⟩ := c
    obtain rfl : c = b.val := g1
    pointwise [k0_pay21, k0_pay39, k0_pay2, Y, In.proj, Ffn.rms]

theorem out14_at (a : Fin 512) (c : Fin 1024) (e : Fin 32 → EReal) (hf : ∀ l : Fin 128, x4 (ix2 0 l) = e ⟨l.val % 32, by omega⟩) :
    (show FVec Ideal S512x1024 .bf16 from out0_14 (F := Ideal) x0 x1 x2 x3 x4 x5 x6 x7 x8 x9 x10) (ix2 a c)
      = In.turn (In.norm (fun l => Y x0 x1 x2 a (3072 + (In.lane (by rfl) c l).val) (by omega)) (fun l => x7 (ix2 0 (In.lane (by rfl) c l))))
          (fun l => (FloatOps.sitofp (F := Ideal) .f32 (x3 (ix2 a 0)) : EReal) * e l) (In.at64 c) * Ideal.ofBits .f32 0x3E38AA3B#32 := by
  have h4 : ∀ l : Fin 128, (View.ld (Val := Elt Ideal) (e' := .f32) (S := S1x128) x4 r0_14 : FVec Ideal S1x128 .f32) (ix2 0 l) = e ⟨l.val % 32, by omega⟩ := fun l => by
    pointwise
    exact hf l
  have h3 : (View.ld (Val := Elt Ideal) (e' := .i32) (S := S512x1) x3 r0_13 : IVec S512x1 32) (ix2 a 0) = x3 (ix2 a 0) := by pointwise
  unfold out0_14
  generalize hy : (ix2 a c : S512x1024.Idx) = y
  canon_tiles x g
  all_goals
    subst hy
    obtain ⟨a', b, rfl⟩ : ∃ (a' b : Fin 512), x = ix2 a' b := ⟨x 0, x 1, by pointwise⟩
    obtain rfl : a' = a := Fin.ext g0.symm
  case piece0 =>
    refine (pay34_at _ _ _ _ a' b e h4).trans ?_
    rw [h3]
    refine congrArg (· * _) (turned_normed_at (by rfl) _ _ a' b c 512 (by rfl) g1 (fun j : Fin 1024 => Y x0 x1 x2 a' (3072 + j.val) (by omega)) (fun j => x7 (ix2 0 j)) ?_ ?_ _)
    · intro l h
      pointwise [k0_pay48, k0_pay26, k0_pay39, k0_pay2, Y, In.proj, Ffn.rms]
      simp only [← Nat.add_assoc, Nat.reduceAdd]
    · exact fun l h => by pointwise
  case piece1 =>
    refine (pay30_at _ _ _ _ _ a' b e h4).trans ?_
    rw [h3]
    refine congrArg (· * _) (turned_normed_at (by rfl) _ _ a' b c 0 (by rfl) (by simpa using g1) (fun j : Fin 1024 => Y x0 x1 x2 a' (3072 + j.val) (by omega)) (fun j => x7 (ix2 0 j)) ?_ ?_ _)
    · exact fun l h => by pointwise [k0_pay11, k0_pay39, k0_pay2, Y, In.proj, Ffn.rms]
    · exact fun l h => by pointwise

theorem out15_at (a : Fin 512) (c : Fin 256) (e : Fin 32 → EReal) (hf : ∀ l : Fin 128, x4 (ix2 0 l) = e ⟨l.val % 32, by omega⟩) :
    (show FVec Ideal S512x256 .bf16 from out0_15 (F := Ideal) x0 x1 x2 x3 x4 x5 x6 x7 x8 x9 x10) (ix2 a c)
      = In.turn (In.norm (fun l => Y x0 x1 x2 a (4096 + (In.lane (by rfl) c l).val) (by omega)) (fun l => x8 (ix2 0 (In.lane (by rfl) c l))))
          (fun l => (FloatOps.sitofp (F := Ideal) .f32 (x3 (ix2 a 0)) : EReal) * e l) (In.at64 c) := by
  have h4 : ∀ l : Fin 128, (View.ld (Val := Elt Ideal) (e' := .f32) (S := S1x128) x4 r0_14 : FVec Ideal S1x128 .f32) (ix2 0 l) = e ⟨l.val % 32, by omega⟩ := fun l => by
    pointwise
    exact hf l
  have h3 : (View.ld (Val := Elt Ideal) (e' := .i32) (S := S512x1) x3 r0_13 : IVec S512x1 32) (ix2 a 0) = x3 (ix2 a 0) := by pointwise
  unfold out0_15
  generalize hy : (ix2 a c : S512x256.Idx) = y
  canon_tiles x g
  subst hy
  obtain ⟨a', b, rfl⟩ : ∃ (a' : Fin 512) (b : Fin 256), x = ix2 a' b := ⟨x 0, x 1, by pointwise⟩
  obtain rfl : a' = a := Fin.ext g0.symm
  obtain rfl : b = c := Fin.ext g1.symm
  refine (pay36_at _ _ _ _ a' b e h4).trans ?_
  rw [h3]
  refine congrArg (fun y => In.turn y _ _) (congrArg₂ In.norm (funext fun l => ?_) (funext fun l => ?_))
  · pointwise [k0_pay31, k0_pay39, k0_pay2, Y, In.proj, Ffn.rms]
  · pointwise

theorem out16_at (a : Fin 512) (c : Fin 256) :
    (show FVec Ideal S512x256 .bf16 from out0_16 (F := Ideal) x0 x1 x2 x3 x4 x5 x6 x7 x8 x9 x10) (ix2 a c)
      = Y x0 x1 x2 a (4352 + c.val) (by omega) := by
  unfold out0_16
  generalize hy : (ix2 a c : S512x256.Idx) = y
  canon_tiles x g
  subst hy
  obtain ⟨a', b, rfl⟩ : ∃ (a' : Fin 512) (b : Fin 256), x = ix2 a' b := ⟨x 0, x 1, by pointwise⟩
  obtain rfl : a' = a := Fin.ext g0.symm
  obtain rfl : b = c := Fin.ext g1.symm
  pointwise [k0_pay37, k0_pay35, k0_pay39, k0_pay2, Y, In.proj, Ffn.rms]

theorem out17_at (a : Fin 512) (c : Fin 128) :
    (show FVec Ideal S512x128 .f32 from out0_17 (F := Ideal) x0 x1 x2 x3 x4 x5 x6 x7 x8 x9 x10) (ix2 a c)
      = In.gate (Y x0 x1 x2 a (4608 + c.val) (by omega) + x9 (ix2 0 c)) := by
  unfold out0_17
  generalize hy : (ix2 a c : S512x128.Idx) = y
  canon_tiles x g
  subst hy
  obtain ⟨a', b, rfl⟩ : ∃ (a' : Fin 512) (b : Fin 128), x = ix2 a' b := ⟨x 0, x 1, by pointwise⟩
  obtain rfl : a' = a := Fin.ext g0.symm
  obtain rfl : b = c := Fin.ext g1.symm
  refine (pay1_at _ a' b).trans (congrArg In.gate ?_)
  pointwise [k0_pay38, k0_pay39, k0_pay2, Y, In.proj, Ffn.rms]

theorem out18_at (a : Fin 64) (c : Fin 2048) :
    (show FVec Ideal S64x2048 .bf16 from out0_18 (F := Ideal) x0 x1 x2 x3 x4 x5 x6 x7 x8 x9 x10) (ix2 a c) = x10 (ix2 a c) := by
  unfold out0_18
  generalize hy : (ix2 a c : S64x2048.Idx) = y
  canon_tiles x g
  subst hy
  obtain ⟨a', b, rfl⟩ : ∃ (a' : Fin 64) (b : Fin 2048), x = ix2 a' b := ⟨x 0, x 1, by pointwise⟩
  obtain rfl : a' = a := Fin.ext g0.symm
  obtain rfl : b = c := Fin.ext g1.symm
  pointwise [k0_pay3]

end

end Cert.Kernel6Ideal.In

end
-- ==== Proof.In.Final.lean ====
/- The eight result arrays of the input projection, entry by entry. -/
module

public import proofs.«01_k».proof.Proof.In.Value
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel6Ideal.In
open Cert.Kernel6Ideal Cert.Kernel6Ideal.Gen

variable (m : (ℓ : Loc nD τ sig) → Buf (Elt Ideal) ℓ)

theorem idx : ∀ t : Fin cfg0.N, (win0_0.index t = ![t.val, 0] ∧ win0_1.index t = ![0, 0] ∧ win0_2.index t = ![0, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0])
    ∧ win0_11.index t = ![t.val, 0] ∧ win0_12.index t = ![t.val, 0] ∧ win0_13.index t = ![t.val, 0] ∧ win0_14.index t = ![t.val, 0]
    ∧ win0_15.index t = ![t.val, 0] ∧ win0_16.index t = ![t.val, 0] ∧ win0_17.index t = ![t.val, 0] ∧ win0_18.index t = ![t.val, 0] :=
  (by decide +kernel : ∀ t : Fin grid0.N, _)

/-- Row `a` of row block `t`, as a row of the array. -/
def row (t : Fin cfg0.N) (a : Fin 512) : Fin 16384 :=
  ⟨t.val * 512 + a.val, by have := lt_of_lt_of_eq t.isLt N_0; omega⟩

/-- Row `a` of row block `t` of the output weights. -/
def wrow (t : Fin cfg0.N) (a : Fin 64) : Fin 2048 :=
  ⟨t.val * 64 + a.val, by have := lt_of_lt_of_eq t.isLt N_0; omega⟩

/-! ## The arguments, at their literal types -/

abbrev H (c : Dev nD) : FVec Ideal S16384x2048 .f32 := m ((c : Thread nD τ).loc main_arg0)
abbrev G (c : Dev nD) : FVec Ideal S1x2048 .f32 := m ((c : Thread nD τ).loc main_arg1)
abbrev W (c : Dev nD) : FVec Ideal S2048x4736 .bf16 := m ((c : Thread nD τ).loc main_arg2)
abbrev POS (c : Dev nD) : IVec S16384x1 32 := m ((c : Thread nD τ).loc main_arg3)
abbrev FR (c : Dev nD) : FVec Ideal S32 .f32 := m ((c : Thread nD τ).loc main_arg4)
abbrev GFQ (c : Dev nD) : FVec Ideal S64 .f32 := m ((c : Thread nD τ).loc main_arg5)
abbrev GFK (c : Dev nD) : FVec Ideal S64 .f32 := m ((c : Thread nD τ).loc main_arg6)
abbrev GSQ (c : Dev nD) : FVec Ideal S64 .f32 := m ((c : Thread nD τ).loc main_arg7)
abbrev GSK (c : Dev nD) : FVec Ideal S64 .f32 := m ((c : Thread nD τ).loc main_arg8)
abbrev B (c : Dev nD) : FVec Ideal S16 .f32 := m ((c : Thread nD τ).loc main_arg9)
abbrev WO (c : Dev nD) : FVec Ideal S2048x2048 .f32 := m ((c : Thread nD τ).loc main_arg10)

theorem h_at (c : Dev nD) (t : Fin cfg0.N) (a : Fin 512) (l : Fin 2048) :
    (show FVec Ideal S512x2048 .f32 from iblk m c 0 t) (ix2 a l) = H m c (ix2 (row t a) l) := by
  blk_ext [iblk, V_main_arg0, idx t, row]

theorem g_at (c : Dev nD) (t : Fin cfg0.N) (l : Fin 2048) :
    (show FVec Ideal S1x2048 .f32 from iblk m c 1 t) (ix2 0 l) = G m c (ix2 0 l) := by
  blk_ext [iblk, V_main_arg1, idx t]

theorem w_at (c : Dev nD) (t : Fin cfg0.N) (k : Fin 2048) (l : Fin 4736) :
    (show FVec Ideal S2048x4736 .bf16 from iblk m c 2 t) (ix2 k l) = W m c (ix2 k l) := by
  blk_ext [iblk, V_main_arg2, idx t]

theorem pos_at (c : Dev nD) (t : Fin cfg0.N) (a : Fin 512) :
    (show IVec S512x1 32 from iblk m c 3 t) (ix2 a 0) = POS m c (ix2 (row t a) 0) := by
  blk_ext [iblk, V_main_arg3, idx t, row]

theorem wo_at (c : Dev nD) (t : Fin cfg0.N) (a : Fin 64) (l : Fin 2048) :
    (show FVec Ideal S64x2048 .f32 from iblk m c 10 t) (ix2 a l) = WO m c (ix2 (wrow t a) l) := by
  blk_ext [iblk, V_main_arg10, idx t, wrow]

/-! ## The rows the host lines make -/

theorem fr_at (c : Dev nD) (t : Fin cfg0.N) (l : Fin 128) :
    (show FVec Ideal S1x128 .f32 from iblk m c 4 t) (ix2 0 l) = FR m c (ix1 ⟨l.val % 32, by omega⟩) := by
  have h : (V m c main_v6 : FVec Ideal S1x128 .f32) (ix2 0 l) = FR m c (ix1 ⟨l.val % 32, by omega⟩) := by
    unfold V
    after_reads_at
  refine Eq.trans ?_ h
  blk_ext [iblk, idx t]

theorem gfq_at (c : Dev nD) (t : Fin cfg0.N) (l : Fin 1024) :
    (show FVec Ideal S1x1024 .f32 from iblk m c 5 t) (ix2 0 l) = GFQ m c (ix1 ⟨l.val % 64, by omega⟩) := by
  have h : (V m c main_v10 : FVec Ideal S1x1024 .f32) (ix2 0 l) = GFQ m c (ix1 ⟨l.val % 64, by omega⟩) := by
    unfold V
    after_reads_at
  refine Eq.trans ?_ h
  blk_ext [iblk, idx t]

theorem gfk_at (c : Dev nD) (t : Fin cfg0.N) (l : Fin 1024) :
    (show FVec Ideal S1x1024 .f32 from iblk m c 6 t) (ix2 0 l) = GFK m c (ix1 ⟨l.val % 64, by omega⟩) := by
  have h : (V m c main_v14 : FVec Ideal S1x1024 .f32) (ix2 0 l) = GFK m c (ix1 ⟨l.val % 64, by omega⟩) := by
    unfold V
    after_reads_at
  refine Eq.trans ?_ h
  blk_ext [iblk, idx t]

theorem gsq_at (c : Dev nD) (t : Fin cfg0.N) (l : Fin 1024) :
    (show FVec Ideal S1x1024 .f32 from iblk m c 7 t) (ix2 0 l) = GSQ m c (ix1 ⟨l.val % 64, by omega⟩) := by
  have h : (V m c main_v18 : FVec Ideal S1x1024 .f32) (ix2 0 l) = GSQ m c (ix1 ⟨l.val % 64, by omega⟩) := by
    unfold V
    after_reads_at
  refine Eq.trans ?_ h
  blk_ext [iblk, idx t]

theorem gsk_at (c : Dev nD) (t : Fin cfg0.N) (l : Fin 256) :
    (show FVec Ideal S1x256 .f32 from iblk m c 8 t) (ix2 0 l) = GSK m c (ix1 ⟨l.val % 64, by omega⟩) := by
  have h : (V m c main_v22 : FVec Ideal S1x256 .f32) (ix2 0 l) = GSK m c (ix1 ⟨l.val % 64, by omega⟩) := by
    unfold V
    after_reads_at
  refine Eq.trans ?_ h
  blk_ext [iblk, idx t]

theorem b_at (c : Dev nD) (t : Fin cfg0.N) (l : Fin 128) :
    (show FVec Ideal S1x128 .f32 from iblk m c 9 t) (ix2 0 l) = In.bias (fun l => B m c (ix1 l)) l := by
  have h : (V m c main_v2 : FVec Ideal S1x128 .f32) (ix2 0 l) = In.bias (fun l => B m c (ix1 l)) l := by
    unfold V
    after_reads_at
    unfold In.bias
    refine dite_congr rfl (fun h => by after_reads_at) (fun h => ?_)
    after_reads_at
  refine Eq.trans ?_ h
  blk_ext [iblk, idx t]

/-! ## The results -/

/-- Row `r`, column `j` of the projection of the arguments. -/
abbrev Z (c : Dev nD) (r : Fin 16384) (j : ℕ) (hj : j < 4736) : EReal :=
  In.P (fun r k => H m c (ix2 r k)) (fun k => G m c (ix2 0 k)) (fun k j => W m c (ix2 k j)) r j hj

/-- The angle of row `r` in lane `l`. -/
abbrev A (c : Dev nD) (r : Fin 16384) (l : Fin 32) : EReal :=
  (FloatOps.sitofp (F := Ideal) .f32 (POS m c (ix2 r 0)) : EReal) * FR m c (ix1 l)

theorem y_at (c : Dev nD) (t : Fin cfg0.N) (a : Fin 512) (j : ℕ) (hj : j < 4736) :
    Y (iblk m c 0 t) (iblk m c 1 t) (iblk m c 2 t) a j hj = Z m c (row t a) j hj := by
  unfold Y Z In.P In.proj
  refine Finset.sum_congr rfl fun k _ => ?_
  exact congrArg₂ (· * ·) (congrArg₂ (fun x g => Ffn.rms x g k) (funext (h_at m c t a)) (funext (g_at m c t))) (w_at m c t k ⟨j, hj⟩)

/-- A gain repeated in every head, at lane `l` of the head of `b`. -/
theorem gain_lane {n : ℕ} (hn : n % 64 = 0) (x : Fin n → EReal) (g : Fin 64 → EReal) (hx : ∀ l, x l = g ⟨l.val % 64, by omega⟩) (b : Fin n) :
    (fun l => x (In.lane hn b l)) = g := by
  funext l
  exact (hx _).trans (congrArg g (In.at64_lane hn b l))

theorem heads_at {n : ℕ} (hn : n % 64 = 0) (y z : Fin n → EReal) (x : Fin n → EReal) (g : Fin 64 → EReal) (hy : ∀ l, y l = z l)
    (hx : ∀ l, x l = g ⟨l.val % 64, by omega⟩) (b : Fin n) :
    In.norm (fun l => y (In.lane hn b l)) (fun l => x (In.lane hn b l)) (In.at64 b) = In.heads hn z g b := by
  obtain rfl : y = z := funext hy
  rw [gain_lane hn x g hx b]
  rfl

theorem turned_heads_at {n : ℕ} (hn : n % 64 = 0) (y z : Fin n → EReal) (x : Fin n → EReal) (g : Fin 64 → EReal) (hy : ∀ l, y l = z l)
    (hx : ∀ l, x l = g ⟨l.val % 64, by omega⟩) (a a' : Fin 32 → EReal) (ha : ∀ l, a l = a' l) (b : Fin n) :
    In.turn (In.norm (fun l => y (In.lane hn b l)) (fun l => x (In.lane hn b l))) a (In.at64 b) = In.turnedHeads hn z g a' b := by
  obtain rfl : y = z := funext hy
  obtain rfl : a = a' := funext ha
  rw [gain_lane hn x g hx b]
  rfl

abbrev QF (c : Dev nD) (r : Fin 16384) (b : Fin 1024) : EReal :=
  In.heads (by rfl) (fun j : Fin 1024 => Z m c (r) (0 + j.val) (by omega)) (fun l => GFQ m c (ix1 l)) b * Ideal.ofBits .f32 0x3E38AA3B#32

theorem block11 (c : Dev nD) (t : Fin cfg0.N) (a : Fin 512) (b : Fin 1024) :
    (show FVec Ideal S512x1024 .bf16 from (dats m 0 c).after 11 t) (ix2 a b) = QF m c (row t a) b := by
  rw [after0_11]
  refine (out11_at _ _ _ _ _ _ _ _ _ _ _ a b).trans ?_
  exact congrArg (· * Ideal.ofBits .f32 0x3E38AA3B#32) (heads_at (by rfl) _ _ _ (fun l => GFQ m c (ix1 l)) (fun j : Fin 1024 => y_at m c t a (0 + j.val) (by omega)) (gfq_at m c t) b)

theorem final11 (c : Dev nD) : (dats m 0 c).arrAt 11 (cfgs 0).N = fun i : S16384x1024.Idx => QF m c (i 0) (i 1) := by
  refine (dats m 0 c).arrAt_eq_of_covers 11 _ (by decide +kernel) fun t hf y => ?_
  obtain ⟨a, b, rfl⟩ : ∃ (a : Fin 512) (b : Fin 1024), y = ix2 a b := ⟨y 0, y 1, by pointwise⟩
  refine (block11 m c t a b).trans (congrArg₂ (QF m c) (Fin.ext ?_) (Fin.ext ?_))
  · blk_simp [idx t, row]
  · blk_simp [idx t]

abbrev KF (c : Dev nD) (r : Fin 16384) (b : Fin 1024) : EReal :=
  In.heads (by rfl) (fun j : Fin 1024 => Z m c (r) (1024 + j.val) (by omega)) (fun l => GFK m c (ix1 l)) b

theorem block12 (c : Dev nD) (t : Fin cfg0.N) (a : Fin 512) (b : Fin 1024) :
    (show FVec Ideal S512x1024 .bf16 from (dats m 0 c).after 12 t) (ix2 a b) = KF m c (row t a) b := by
  rw [after0_12]
  refine (out12_at _ _ _ _ _ _ _ _ _ _ _ a b).trans ?_
  exact heads_at (by rfl) _ _ _ (fun l => GFK m c (ix1 l)) (fun j : Fin 1024 => y_at m c t a (1024 + j.val) (by omega)) (gfk_at m c t) b

theorem final12 (c : Dev nD) : (dats m 0 c).arrAt 12 (cfgs 0).N = fun i : S16384x1024.Idx => KF m c (i 0) (i 1) := by
  refine (dats m 0 c).arrAt_eq_of_covers 12 _ (by decide +kernel) fun t hf y => ?_
  obtain ⟨a, b, rfl⟩ : ∃ (a : Fin 512) (b : Fin 1024), y = ix2 a b := ⟨y 0, y 1, by pointwise⟩
  refine (block12 m c t a b).trans (congrArg₂ (KF m c) (Fin.ext ?_) (Fin.ext ?_))
  · blk_simp [idx t, row]
  · blk_simp [idx t]

abbrev VF (c : Dev nD) (r : Fin 16384) (b : Fin 1024) : EReal :=
  Z m c r (2048 + b.val) (by omega)

theorem block13 (c : Dev nD) (t : Fin cfg0.N) (a : Fin 512) (b : Fin 1024) :
    (show FVec Ideal S512x1024 .bf16 from (dats m 0 c).after 13 t) (ix2 a b) = VF m c (row t a) b := by
  rw [after0_13]
  refine (out13_at _ _ _ _ _ _ _ _ _ _ _ a b).trans ?_
  exact y_at m c t a (2048 + b.val) (by omega)

theorem final13 (c : Dev nD) : (dats m 0 c).arrAt 13 (cfgs 0).N = fun i : S16384x1024.Idx => VF m c (i 0) (i 1) := by
  refine (dats m 0 c).arrAt_eq_of_covers 13 _ (by decide +kernel) fun t hf y => ?_
  obtain ⟨a, b, rfl⟩ : ∃ (a : Fin 512) (b : Fin 1024), y = ix2 a b := ⟨y 0, y 1, by pointwise⟩
  refine (block13 m c t a b).trans (congrArg₂ (VF m c) (Fin.ext ?_) (Fin.ext ?_))
  · blk_simp [idx t, row]
  · blk_simp [idx t]

abbrev QS (c : Dev nD) (r : Fin 16384) (b : Fin 1024) : EReal :=
  In.turnedHeads (by rfl) (fun j : Fin 1024 => Z m c (r) (3072 + j.val) (by omega)) (fun l => GSQ m c (ix1 l)) (A m c r) b * Ideal.ofBits .f32 0x3E38AA3B#32

theorem block14 (c : Dev nD) (t : Fin cfg0.N) (a : Fin 512) (b : Fin 1024) :
    (show FVec Ideal S512x1024 .bf16 from (dats m 0 c).after 14 t) (ix2 a b) = QS m c (row t a) b := by
  rw [after0_14]
  refine (out14_at _ _ _ _ _ _ _ _ _ _ _ a b (fun l => FR m c (ix1 l)) (fr_at m c t)).trans ?_
  exact congrArg (· * Ideal.ofBits .f32 0x3E38AA3B#32) (turned_heads_at (by rfl) _ _ _ (fun l => GSQ m c (ix1 l)) (fun j : Fin 1024 => y_at m c t a (3072 + j.val) (by omega)) (gsq_at m c t) _ _
    (fun l => congrArg (fun p => (FloatOps.sitofp (F := Ideal) .f32 p : EReal) * FR m c (ix1 l)) (pos_at m c t a)) b)

theorem final14 (c : Dev nD) : (dats m 0 c).arrAt 14 (cfgs 0).N = fun i : S16384x1024.Idx => QS m c (i 0) (i 1) := by
  refine (dats m 0 c).arrAt_eq_of_covers 14 _ (by decide +kernel) fun t hf y => ?_
  obtain ⟨a, b, rfl⟩ : ∃ (a : Fin 512) (b : Fin 1024), y = ix2 a b := ⟨y 0, y 1, by pointwise⟩
  refine (block14 m c t a b).trans (congrArg₂ (QS m c) (Fin.ext ?_) (Fin.ext ?_))
  · blk_simp [idx t, row]
  · blk_simp [idx t]

abbrev KS (c : Dev nD) (r : Fin 16384) (b : Fin 256) : EReal :=
  In.turnedHeads (by rfl) (fun j : Fin 256 => Z m c (r) (4096 + j.val) (by omega)) (fun l => GSK m c (ix1 l)) (A m c r) b

theorem block15 (c : Dev nD) (t : Fin cfg0.N) (a : Fin 512) (b : Fin 256) :
    (show FVec Ideal S512x256 .bf16 from (dats m 0 c).after 15 t) (ix2 a b) = KS m c (row t a) b := by
  rw [after0_15]
  refine (out15_at _ _ _ _ _ _ _ _ _ _ _ a b (fun l => FR m c (ix1 l)) (fr_at m c t)).trans ?_
  exact turned_heads_at (by rfl) _ _ _ (fun l => GSK m c (ix1 l)) (fun j : Fin 256 => y_at m c t a (4096 + j.val) (by omega)) (gsk_at m c t) _ _
    (fun l => congrArg (fun p => (FloatOps.sitofp (F := Ideal) .f32 p : EReal) * FR m c (ix1 l)) (pos_at m c t a)) b

theorem final15 (c : Dev nD) : (dats m 0 c).arrAt 15 (cfgs 0).N = fun i : S16384x256.Idx => KS m c (i 0) (i 1) := by
  refine (dats m 0 c).arrAt_eq_of_covers 15 _ (by decide +kernel) fun t hf y => ?_
  obtain ⟨a, b, rfl⟩ : ∃ (a : Fin 512) (b : Fin 256), y = ix2 a b := ⟨y 0, y 1, by pointwise⟩
  refine (block15 m c t a b).trans (congrArg₂ (KS m c) (Fin.ext ?_) (Fin.ext ?_))
  · blk_simp [idx t, row]
  · blk_simp [idx t]

abbrev VS (c : Dev nD) (r : Fin 16384) (b : Fin 256) : EReal :=
  Z m c r (4352 + b.val) (by omega)

theorem block16 (c : Dev nD) (t : Fin cfg0.N) (a : Fin 512) (b : Fin 256) :
    (show FVec Ideal S512x256 .bf16 from (dats m 0 c).after 16 t) (ix2 a b) = VS m c (row t a) b := by
  rw [after0_16]
  refine (out16_at _ _ _ _ _ _ _ _ _ _ _ a b).trans ?_
  exact y_at m c t a (4352 + b.val) (by omega)

theorem final16 (c : Dev nD) : (dats m 0 c).arrAt 16 (cfgs 0).N = fun i : S16384x256.Idx => VS m c (i 0) (i 1) := by
  refine (dats m 0 c).arrAt_eq_of_covers 16 _ (by decide +kernel) fun t hf y => ?_
  obtain ⟨a, b, rfl⟩ : ∃ (a : Fin 512) (b : Fin 256), y = ix2 a b := ⟨y 0, y 1, by pointwise⟩
  refine (block16 m c t a b).trans (congrArg₂ (VS m c) (Fin.ext ?_) (Fin.ext ?_))
  · blk_simp [idx t, row]
  · blk_simp [idx t]

abbrev LF (c : Dev nD) (r : Fin 16384) (b : Fin 128) : EReal :=
  In.gate (Z m c r (4608 + b.val) (by omega) + In.bias (fun l => B m c (ix1 l)) b)

theorem block17 (c : Dev nD) (t : Fin cfg0.N) (a : Fin 512) (b : Fin 128) :
    (show FVec Ideal S512x128 .f32 from (dats m 0 c).after 17 t) (ix2 a b) = LF m c (row t a) b := by
  rw [after0_17]
  refine (out17_at _ _ _ _ _ _ _ _ _ _ _ a b).trans ?_
  exact congrArg In.gate (congrArg₂ (· + ·) (y_at m c t a (4608 + b.val) (by omega)) (b_at m c t b))

theorem final17 (c : Dev nD) : (dats m 0 c).arrAt 17 (cfgs 0).N = fun i : S16384x128.Idx => LF m c (i 0) (i 1) := by
  refine (dats m 0 c).arrAt_eq_of_covers 17 _ (by decide +kernel) fun t hf y => ?_
  obtain ⟨a, b, rfl⟩ : ∃ (a : Fin 512) (b : Fin 128), y = ix2 a b := ⟨y 0, y 1, by pointwise⟩
  refine (block17 m c t a b).trans (congrArg₂ (LF m c) (Fin.ext ?_) (Fin.ext ?_))
  · blk_simp [idx t, row]
  · blk_simp [idx t]

abbrev WR (c : Dev nD) (r : Fin 2048) (b : Fin 2048) : EReal :=
  WO m c (ix2 r b)

theorem block18 (c : Dev nD) (t : Fin cfg0.N) (a : Fin 64) (b : Fin 2048) :
    (show FVec Ideal S64x2048 .bf16 from (dats m 0 c).after 18 t) (ix2 a b) = WR m c (wrow t a) b := by
  rw [after0_18]
  refine (out18_at _ _ _ _ _ _ _ _ _ _ _ a b).trans ?_
  exact wo_at m c t a b

theorem final18 (c : Dev nD) : (dats m 0 c).arrAt 18 (cfgs 0).N = fun i : S2048x2048.Idx => WR m c (i 0) (i 1) := by
  refine (dats m 0 c).arrAt_eq_of_covers 18 _ (by decide +kernel) fun t hf y => ?_
  obtain ⟨a, b, rfl⟩ : ∃ (a : Fin 64) (b : Fin 2048), y = ix2 a b := ⟨y 0, y 1, by pointwise⟩
  refine (block18 m c t a b).trans (congrArg₂ (WR m c) (Fin.ext ?_) (Fin.ext ?_))
  · blk_simp [idx t, wrow]
  · blk_simp [idx t]

end Cert.Kernel6Ideal.In

end
-- ==== Proof.In.Reference.lean ====
/- The run of the input projection's reference: its eight results, entry by entry. -/
module

public import proofs.«01_k».proof.Proof.Gen.Reference6Ideal.Run
public import proofs.«01_k».proof.Proof.In.Math
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem

namespace Cert.Reference6Ideal.In
open Cert.Reference6Ideal Cert.Reference6Ideal.Gen Cert.Reference6Ideal.Value

variable (m : (ℓ : Loc nD τ sig) → Buf (Elt Ideal) ℓ)

/-! ## The arguments, at their literal types -/

abbrev H (c : Dev nD) : FVec Ideal S16384x2048 .f32 := m ((c : Thread nD τ).loc main_arg0)
abbrev G (c : Dev nD) : FVec Ideal S1x2048 .f32 := m ((c : Thread nD τ).loc main_arg1)
abbrev W (c : Dev nD) : FVec Ideal S2048x4736 .bf16 := m ((c : Thread nD τ).loc main_arg2)
abbrev POS (c : Dev nD) : IVec S16384x1 32 := m ((c : Thread nD τ).loc main_arg3)
abbrev FR (c : Dev nD) : FVec Ideal S32 .f32 := m ((c : Thread nD τ).loc main_arg4)
abbrev GFQ (c : Dev nD) : FVec Ideal S64 .f32 := m ((c : Thread nD τ).loc main_arg5)
abbrev GFK (c : Dev nD) : FVec Ideal S64 .f32 := m ((c : Thread nD τ).loc main_arg6)
abbrev GSQ (c : Dev nD) : FVec Ideal S64 .f32 := m ((c : Thread nD τ).loc main_arg7)
abbrev GSK (c : Dev nD) : FVec Ideal S64 .f32 := m ((c : Thread nD τ).loc main_arg8)
abbrev B (c : Dev nD) : FVec Ideal S16 .f32 := m ((c : Thread nD τ).loc main_arg9)
abbrev WO (c : Dev nD) : FVec Ideal S2048x2048 .f32 := m ((c : Thread nD τ).loc main_arg10)

/-- Row `r`, column `j` of the projection of the arguments. -/
abbrev Y (c : Dev nD) (r : Fin 16384) (j : ℕ) (hj : j < 4736) : EReal :=
  In.P (fun r k => H m c (ix2 r k)) (fun k => G m c (ix2 0 k)) (fun k j => W m c (ix2 k j)) r j hj

/-- The angle of row `r` in lane `l`. -/
abbrev A (c : Dev nD) (r : Fin 16384) (l : Fin 32) : EReal :=
  (FloatOps.sitofp (F := Ideal) .f32 (POS m c (ix2 r 0)) : EReal) * FR m c (ix1 l)

theorem out3 (c : Dev nD) : res_main_v100 m c = (fun i : S16384x1024.Idx =>
    In.turnedHeads (by rfl) (fun j : Fin 1024 => Y m c (i 0) (3072 + j.val) (by omega)) (fun l => GSQ m c (ix1 l)) (A m c (i 0)) (i 1)
      * Ideal.ofBits .f32 0x3E38AA3B#32) := by
  unfold res_main_v100
  funext i
  obtain ⟨a, b, rfl⟩ : ∃ (a : Fin 16384) (b : Fin 1024), i = ix2 a b := ⟨i 0, i 1, by pointwise⟩
  simp only [ix2_0, ix2_1]
  pointwise [In.P, In.proj, Ffn.rms, In.lane, In.at64]
  refine congrArg (· * Ideal.ofBits .f32 0x3E38AA3B#32) ?_
  by_cases h : b.val % 64 < 32
  · rw [dif_pos h]
    have e : 3072 + b.val = 3072 + (b.val / 64 * 64 + b.val % 64) := by omega
    simp only [Nat.add_comm 32, e]
    exact Eq.trans (by rfl) (dif_pos (show (In.at64 b).val < 32 from h)).symm
  · rw [dif_neg h]
    have e : 32 + (b.val % 64 - 32) = b.val % 64 := by omega
    simp only [e]
    exact Eq.trans (by rfl) (dif_neg (show ¬(In.at64 b).val < 32 from h)).symm

theorem out4 (c : Dev nD) : res_main_v133 m c = (fun i : S16384x256.Idx =>
    In.turnedHeads (by rfl) (fun j : Fin 256 => Y m c (i 0) (4096 + j.val) (by omega)) (fun l => GSK m c (ix1 l)) (A m c (i 0)) (i 1)) := by
  unfold res_main_v133
  funext i
  obtain ⟨a, b, rfl⟩ : ∃ (a : Fin 16384) (b : Fin 256), i = ix2 a b := ⟨i 0, i 1, by pointwise⟩
  simp only [ix2_0, ix2_1]
  pointwise [In.P, In.proj, Ffn.rms, In.lane, In.at64]
  by_cases h : b.val % 64 < 32
  · rw [dif_pos h]
    have e : 4096 + b.val = 4096 + (b.val / 64 * 64 + b.val % 64) := by omega
    simp only [Nat.add_comm 32, e]
    exact Eq.trans (by rfl) (dif_pos (show (In.at64 b).val < 32 from h)).symm
  · rw [dif_neg h]
    have e : 32 + (b.val % 64 - 32) = b.val % 64 := by omega
    simp only [e]
    exact Eq.trans (by rfl) (dif_neg (show ¬(In.at64 b).val < 32 from h)).symm

theorem out6 (c : Dev nD) : res_main_v30 m c = (fun i : S16384x128.Idx =>
    In.gate (Y m c (i 0) (4608 + (i 1).val) (by have h : (i 1).val < 128 := (i 1).isLt; omega) + In.bias (fun l => B m c (ix1 l)) (i 1))) := by
  unfold res_main_v30
  funext i
  obtain ⟨a, b, rfl⟩ : ∃ (a : Fin 16384) (b : Fin 128), i = ix2 a b := ⟨i 0, i 1, by pointwise⟩
  simp only [ix2_0, ix2_1]
  pointwise [In.bias, In.P, In.proj, Ffn.rms]
  rw [if_neg (fun h => h rfl)]
  refine congrArg In.gate (congrArg₂ (· + ·) rfl ?_)
  by_cases h : b.val < 16
  · rw [dif_pos h]
    exact dif_pos fun a => by
      obtain rfl : a = (0 : Fin 1) := Subsingleton.elim (α := Fin 1) _ _
      exact h
  · rw [dif_neg h]
    exact (dif_neg fun g => h (g (0 : Fin 1))).trans (sitofp_zero (φ := .f32))

/-- The reference's run: its eight results, and its arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v48) = (fun i : S16384x1024.Idx =>
        In.heads (by rfl) (fun j : Fin 1024 => In.P (fun r k => H m c (ix2 r k)) (fun k => G m c (ix2 0 k)) (fun k j => W m c (ix2 k j)) (i 0) (0 + j.val) (by omega)) (fun l => GFQ m c (ix1 l)) (i 1)
          * Ideal.ofBits .f32 0x3E38AA3B#32)
      ∧ r.2.mem ((c : Thread nD τ).loc main_v64) = (fun i : S16384x1024.Idx =>
        In.heads (by rfl) (fun j : Fin 1024 => In.P (fun r k => H m c (ix2 r k)) (fun k => G m c (ix2 0 k)) (fun k j => W m c (ix2 k j)) (i 0) (1024 + j.val) (by omega)) (fun l => GFK m c (ix1 l)) (i 1))
      ∧ r.2.mem ((c : Thread nD τ).loc main_v65) = (fun i : S16384x1024.Idx =>
        In.P (fun r k => H m c (ix2 r k)) (fun k => G m c (ix2 0 k)) (fun k j => W m c (ix2 k j)) (i 0) (2048 + (i 1).val) (by have h : (i 1).val < 1024 := (i 1).isLt; omega))
      ∧ r.2.mem ((c : Thread nD τ).loc main_v100) = (fun i : S16384x1024.Idx =>
        In.turnedHeads (by rfl) (fun j : Fin 1024 => In.P (fun r k => H m c (ix2 r k)) (fun k => G m c (ix2 0 k)) (fun k j => W m c (ix2 k j)) (i 0) (3072 + j.val) (by omega)) (fun l => GSQ m c (ix1 l)) (fun l => (FloatOps.sitofp (F := Ideal) .f32 (POS m c (ix2 (i 0) 0)) : EReal) * FR m c (ix1 l)) (i 1)
          * Ideal.ofBits .f32 0x3E38AA3B#32)
      ∧ r.2.mem ((c : Thread nD τ).loc main_v133) = (fun i : S16384x256.Idx =>
        In.turnedHeads (by rfl) (fun j : Fin 256 => In.P (fun r k => H m c (ix2 r k)) (fun k => G m c (ix2 0 k)) (fun k j => W m c (ix2 k j)) (i 0) (4096 + j.val) (by omega)) (fun l => GSK m c (ix1 l)) (fun l => (FloatOps.sitofp (F := Ideal) .f32 (POS m c (ix2 (i 0) 0)) : EReal) * FR m c (ix1 l)) (i 1))
      ∧ r.2.mem ((c : Thread nD τ).loc main_v134) = (fun i : S16384x256.Idx =>
        In.P (fun r k => H m c (ix2 r k)) (fun k => G m c (ix2 0 k)) (fun k j => W m c (ix2 k j)) (i 0) (4352 + (i 1).val) (by have h : (i 1).val < 256 := (i 1).isLt; omega))
      ∧ r.2.mem ((c : Thread nD τ).loc main_v30) = (fun i : S16384x128.Idx =>
        In.gate (In.P (fun r k => H m c (ix2 r k)) (fun k => G m c (ix2 0 k)) (fun k j => W m c (ix2 k j)) (i 0) (4608 + (i 1).val) (by have h : (i 1).val < 128 := (i 1).isLt; omega) + In.bias (fun l => B m c (ix1 l)) (i 1)))
      ∧ r.2.mem ((c : Thread nD τ).loc main_v135) = (fun i : S2048x2048.Idx => WO m c (ix2 (i 0) (i 1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) := by
  refine (θ_run defs _ _).mono (fun r h c => ?_) (Value.run m ρ)
  obtain ⟨h0, h1, h2, h3, h4, h5, h6, h7, h⟩ := h c
  refine ⟨h0.trans ?_, h1.trans ?_, h2.trans ?_, h3.trans (out3 m c), h4.trans (out4 m c), h5.trans ?_, h6.trans (out6 m c), h7.trans ?_, h⟩
  · funext i
    obtain ⟨a, b, rfl⟩ : ∃ (a : Fin 16384) (b : Fin 1024), i = ix2 a b := ⟨i 0, i 1, by pointwise⟩
    pointwise [In.heads, In.norm, In.P, In.proj, Ffn.rms, In.lane, In.at64]
    simp only [Nat.div_add_mod', Nat.zero_add]
  · funext i
    obtain ⟨a, b, rfl⟩ : ∃ (a : Fin 16384) (b : Fin 1024), i = ix2 a b := ⟨i 0, i 1, by pointwise⟩
    pointwise [In.heads, In.norm, In.P, In.proj, Ffn.rms, In.lane, In.at64]
    simp only [Nat.div_add_mod', Nat.zero_add]
  · funext i
    obtain ⟨a, b, rfl⟩ : ∃ (a : Fin 16384) (b : Fin 1024), i = ix2 a b := ⟨i 0, i 1, by pointwise⟩
    pointwise [In.P, In.proj, Ffn.rms]
  · funext i
    obtain ⟨a, b, rfl⟩ : ∃ (a : Fin 16384) (b : Fin 256), i = ix2 a b := ⟨i 0, i 1, by pointwise⟩
    pointwise [In.P, In.proj, Ffn.rms]
  · funext i
    obtain ⟨a, b, rfl⟩ : ∃ (a : Fin 2048) (b : Fin 2048), i = ix2 a b := ⟨i 0, i 1, by pointwise⟩
    pointwise

end Cert.Reference6Ideal.In

end
-- ==== Proof.ClaimsIn.lean ====
/- Kernel against reference, for the input projection. -/
module

public import proofs.«01_k».proof.Defs
public import proofs.«01_k».proof.Proof.Gen.Kernel6.Frame
public import proofs.«01_k».proof.Proof.In.Final
public import proofs.«01_k».proof.Proof.In.Reference
public import Idealize.ShloMosaic.Lib.Claim

@[expose] public section

set_option maxRecDepth 16384

noncomputable section

namespace Cert.Proof

open Idealize.ShloMosaic Idealize.ShloMosaic.TcCoe Idealize.SL.Sem

set_option maxHeartbeats 8000000 in
/-- The eight results of the kernel are those of the reference. -/
theorem algebraic6 : Cert.algebraic_Kernel6Ideal_Reference6Ideal := by
  pair_intro
  · run_from Cert.Kernel6Ideal.Gen.run_main m g
    · exact hc.1 16
    · exact hc.1 17
    · exact hc.1 18
  · run_from Cert.Reference6Ideal.In.run m' g'
    · exact (Cert.Kernel6Ideal.In.final11 m c).symm
    · exact (Cert.Kernel6Ideal.In.final12 m c).symm
    · exact (Cert.Kernel6Ideal.In.final13 m c).symm
    · exact (Cert.Kernel6Ideal.In.final14 m c).symm
    · exact (Cert.Kernel6Ideal.In.final15 m c).symm
    · exact (Cert.Kernel6Ideal.In.final16 m c).symm
    · exact (Cert.Kernel6Ideal.In.final17 m c).symm
    · exact (Cert.Kernel6Ideal.In.final18 m c).symm

end Cert.Proof

end
-- ==== Proof.lean ====
/- The certificate: every claim of `Cert.Claim`, from the modules that prove them. -/
module

public import proofs.«01_k».proof.Defs
public import proofs.«01_k».proof.Proof.Frames
public import proofs.«01_k».proof.Proof.Cast.Same
public import proofs.«01_k».proof.Proof.ClaimsFfn
public import proofs.«01_k».proof.Proof.ClaimsFox
public import proofs.«01_k».proof.Proof.ClaimsIn

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite.Gen.facts,
  fun m ρ _ => Cert.Kernel.Gen.frame m ρ, fun m ρ _ => Cert.KernelIdeal.Gen.frame m ρ,
  fun m ρ _ => Cert.KernelIdeal.Gen.frame m ρ, frameR, frameR_finite,
  fun m ρ _ => Cert.Kernel2.Gen.frame m ρ, fun m ρ _ => Cert.Kernel2Ideal.Gen.frame m ρ, frameR2,
  fun m ρ _ => Cert.Kernel3.Gen.frame m ρ, fun m ρ _ => Cert.Kernel3Ideal.Gen.frame m ρ, frameR3,
  fun m ρ _ => Cert.Same4.frame m ρ, fun m ρ _ => Cert.Kernel4Ideal.Hand.frame m ρ, frameR4,
  fun m ρ _ => Cert.Kernel5.Gen.frame m ρ, fun m ρ _ => Cert.Kernel5Ideal.Gen.frame m ρ, frameR5,
  fun m ρ _ => Cert.Kernel6.Gen.frame m ρ, fun m ρ _ => Cert.Kernel6Ideal.Gen.frame m ρ, frameR6,
  preserves, algebraic, trivial, algebraic2, trivial, algebraic3, trivial, algebraic4, trivial, algebraic5,
  trivial, algebraic6⟩

end Cert.Proof

end
